-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_qk [hPre_finite_qk : Cert.Pre_finite_qk.Facts] (m : (ℓ : Loc Cert.GqaIdeal.nD Cert.GqaIdeal.τ Cert.GqaIdeal.sig) → Buf (Elt Ideal) ℓ) : Prop :=
  ∀ c : Dev Cert.GqaIdeal.nD,
    (Cert.Pre_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_qk [hPre_finite_qk : Cert.Pre_finite_qk.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff [hPre_finite_diff : Cert.Pre_finite_diff.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3))) = (fun _ => 1#1)

def Pre_Diff2 (m : (ℓ : Loc Cert.Diff2.nD Cert.Diff2.τ Cert.Diff2.sig) → Buf (Elt Bits) ℓ) : Prop :=
  True

def Pre_Diff2Ideal (m : (ℓ : Loc Cert.Diff2Ideal.nD Cert.Diff2Ideal.τ Cert.Diff2Ideal.sig) → Buf (Elt Ideal) ℓ) : Prop :=
  True

def Pre_Diff2Ideal_finite_diff [hPre_finite_diff : Cert.Pre_finite_diff.Facts] (m : (ℓ : Loc Cert.Diff2Ideal.nD Cert.Diff2Ideal.τ Cert.Diff2Ideal.sig) → Buf (Elt Ideal) ℓ) : Prop :=
  ∀ c : Dev Cert.Diff2Ideal.nD,
    (Cert.Pre_finite_diff.fn (F := Ideal) (m ((c.tc : Thread Cert.Diff2Ideal.nD Cert.Diff2Ideal.τ).loc Cert.Diff2Ideal.main_arg0)) (m ((c.tc : Thread Cert.Diff2Ideal.nD Cert.Diff2Ideal.τ).loc Cert.Diff2Ideal.main_arg1)) (m ((c.tc : Thread Cert.Diff2Ideal.nD Cert.Diff2Ideal.τ).loc Cert.Diff2Ideal.main_arg2)) (m ((c.tc : Thread Cert.Diff2Ideal.nD Cert.Diff2Ideal.τ).loc Cert.Diff2Ideal.main_arg3))) = (fun _ => 1#1)

def Pre_Diff2RefIdeal (m : (ℓ : Loc Cert.Diff2RefIdeal.nD Cert.Diff2RefIdeal.τ Cert.Diff2RefIdeal.sig) → Buf (Elt Ideal) ℓ) : Prop :=
  True

def Pre_Diff2RefIdeal_finite_diff [hPre_finite_diff : Cert.Pre_finite_diff.Facts] (m : (ℓ : Loc Cert.Diff2RefIdeal.nD Cert.Diff2RefIdeal.τ Cert.Diff2RefIdeal.sig) → Buf (Elt Ideal) ℓ) : Prop :=
  ∀ c : Dev Cert.Diff2RefIdeal.nD,
    (Cert.Pre_finite_diff.fn (F := Ideal) (m ((c.tc : Thread Cert.Diff2RefIdeal.nD Cert.Diff2RefIdeal.τ).loc Cert.Diff2RefIdeal.main_arg0)) (m ((c.tc : Thread Cert.Diff2RefIdeal.nD Cert.Diff2RefIdeal.τ).loc Cert.Diff2RefIdeal.main_arg1)) (m ((c.tc : Thread Cert.Diff2RefIdeal.nD Cert.Diff2RefIdeal.τ).loc Cert.Diff2RefIdeal.main_arg2)) (m ((c.tc : Thread Cert.Diff2RefIdeal.nD Cert.Diff2RefIdeal.τ).loc Cert.Diff2RefIdeal.main_arg3))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_qk [hGqaIdeal : Cert.GqaIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_qk m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_qk [hGqaRefIdeal : Cert.GqaRefIdeal.Facts] [hPre_finite_qk : Cert.Pre_finite_qk.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_qk m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_DiffRefIdeal_pre_finite_diff [hDiffRefIdeal : Cert.DiffRefIdeal.Facts] [hPre_finite_diff : Cert.Pre_finite_diff.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_Diff2 [hDiff2 : Cert.Diff2.Facts] : Prop :=
  ∀ (m : (ℓ : Loc Cert.Diff2.nD Cert.Diff2.τ Cert.Diff2.sig) → Buf (Elt Bits) ℓ) (g : Dev Cert.Diff2.nD → PrngReg), Pre_Diff2 m →
    θ_run (Cert.Diff2.defs (F := Bits)) (onTc (τ := Cert.Diff2.τ) (Cert.Diff2.main (F := Bits))) ⟨m, fun _ => 0, g⟩ (fun r => (∀ c : Dev Cert.Diff2.nD,
      r.2.mem ((c.tc : Thread Cert.Diff2.nD Cert.Diff2.τ).loc Cert.Diff2.main_arg0) = m ((c.tc : Thread Cert.Diff2.nD Cert.Diff2.τ).loc Cert.Diff2.main_arg0)
      ∧ r.2.mem ((c.tc : Thread Cert.Diff2.nD Cert.Diff2.τ).loc Cert.Diff2.main_arg1) = m ((c.tc : Thread Cert.Diff2.nD Cert.Diff2.τ).loc Cert.Diff2.main_arg1)
      ∧ r.2.mem ((c.tc : Thread Cert.Diff2.nD Cert.Diff2.τ).loc Cert.Diff2.main_arg2) = m ((c.tc : Thread Cert.Diff2.nD Cert.Diff2.τ).loc Cert.Diff2.main_arg2)
      ∧ r.2.mem ((c.tc : Thread Cert.Diff2.nD Cert.Diff2.τ).loc Cert.Diff2.main_arg3) = m ((c.tc : Thread Cert.Diff2.nD Cert.Diff2.τ).loc Cert.Diff2.main_arg3))
      ∧ r.2.sem = fun _ => 0)

def quiescent_Diff2Ideal [hDiff2Ideal : Cert.Diff2Ideal.Facts] : Prop :=
  ∀ (m : (ℓ : Loc Cert.Diff2Ideal.nD Cert.Diff2Ideal.τ Cert.Diff2Ideal.sig) → Buf (Elt Ideal) ℓ) (g : Dev Cert.Diff2Ideal.nD → PrngReg), Pre_Diff2Ideal m →
    θ_run (Cert.Diff2Ideal.defs (F := Ideal)) (onTc (τ := Cert.Diff2Ideal.τ) (Cert.Diff2Ideal.main (F := Ideal))) ⟨m, fun _ => 0, g⟩ (fun r => (∀ c : Dev Cert.Diff2Ideal.nD,
      r.2.mem ((c.tc : Thread Cert.Diff2Ideal.nD Cert.Diff2Ideal.τ).loc Cert.Diff2Ideal.main_arg0) = m ((c.tc : Thread Cert.Diff2Ideal.nD Cert.Diff2Ideal.τ).loc Cert.Diff2Ideal.main_arg0)
      ∧ r.2.mem ((c.tc : Thread Cert.Diff2Ideal.nD Cert.Diff2Ideal.τ).loc Cert.Diff2Ideal.main_arg1) = m ((c.tc : Thread Cert.Diff2Ideal.nD Cert.Diff2Ideal.τ).loc Cert.Diff2Ideal.main_arg1)
      ∧ r.2.mem ((c.tc : Thread Cert.Diff2Ideal.nD Cert.Diff2Ideal.τ).loc Cert.Diff2Ideal.main_arg2) = m ((c.tc : Thread Cert.Diff2Ideal.nD Cert.Diff2Ideal.τ).loc Cert.Diff2Ideal.main_arg2)
      ∧ r.2.mem ((c.tc : Thread Cert.Diff2Ideal.nD Cert.Diff2Ideal.τ).loc Cert.Diff2Ideal.main_arg3) = m ((c.tc : Thread Cert.Diff2Ideal.nD Cert.Diff2Ideal.τ).loc Cert.Diff2Ideal.main_arg3))
      ∧ r.2.sem = fun _ => 0)

def quiescent_Diff2Ideal_pre_finite_diff [hDiff2Ideal : Cert.Diff2Ideal.Facts] [hPre_finite_diff : Cert.Pre_finite_diff.Facts] : Prop :=
  ∀ (m : (ℓ : Loc Cert.Diff2Ideal.nD Cert.Diff2Ideal.τ Cert.Diff2Ideal.sig) → Buf (Elt Ideal) ℓ) (g : Dev Cert.Diff2Ideal.nD → PrngReg), Pre_Diff2Ideal_finite_diff m →
    θ_run (Cert.Diff2Ideal.defs (F := Ideal)) (onTc (τ := Cert.Diff2Ideal.τ) (Cert.Diff2Ideal.main (F := Ideal))) ⟨m, fun _ => 0, g⟩ (fun r => (∀ c : Dev Cert.Diff2Ideal.nD,
      r.2.mem ((c.tc : Thread Cert.Diff2Ideal.nD Cert.Diff2Ideal.τ).loc Cert.Diff2Ideal.main_arg0) = m ((c.tc : Thread Cert.Diff2Ideal.nD Cert.Diff2Ideal.τ).loc Cert.Diff2Ideal.main_arg0)
      ∧ r.2.mem ((c.tc : Thread Cert.Diff2Ideal.nD Cert.Diff2Ideal.τ).loc Cert.Diff2Ideal.main_arg1) = m ((c.tc : Thread Cert.Diff2Ideal.nD Cert.Diff2Ideal.τ).loc Cert.Diff2Ideal.main_arg1)
      ∧ r.2.mem ((c.tc : Thread Cert.Diff2Ideal.nD Cert.Diff2Ideal.τ).loc Cert.Diff2Ideal.main_arg2) = m ((c.tc : Thread Cert.Diff2Ideal.nD Cert.Diff2Ideal.τ).loc Cert.Diff2Ideal.main_arg2)
      ∧ r.2.mem ((c.tc : Thread Cert.Diff2Ideal.nD Cert.Diff2Ideal.τ).loc Cert.Diff2Ideal.main_arg3) = m ((c.tc : Thread Cert.Diff2Ideal.nD Cert.Diff2Ideal.τ).loc Cert.Diff2Ideal.main_arg3))
      ∧ r.2.sem = fun _ => 0)

def quiescent_Diff2RefIdeal [hDiff2RefIdeal : Cert.Diff2RefIdeal.Facts] : Prop :=
  ∀ (m : (ℓ : Loc Cert.Diff2RefIdeal.nD Cert.Diff2RefIdeal.τ Cert.Diff2RefIdeal.sig) → Buf (Elt Ideal) ℓ) (g : Dev Cert.Diff2RefIdeal.nD → PrngReg), Pre_Diff2RefIdeal m →
    θ_run (Cert.Diff2RefIdeal.defs (F := Ideal)) (onTc (τ := Cert.Diff2RefIdeal.τ) (Cert.Diff2RefIdeal.main (F := Ideal))) ⟨m, fun _ => 0, g⟩ (fun r => (∀ c : Dev Cert.Diff2RefIdeal.nD,
      r.2.mem ((c.tc : Thread Cert.Diff2RefIdeal.nD Cert.Diff2RefIdeal.τ).loc Cert.Diff2RefIdeal.main_arg0) = m ((c.tc : Thread Cert.Diff2RefIdeal.nD Cert.Diff2RefIdeal.τ).loc Cert.Diff2RefIdeal.main_arg0)
      ∧ r.2.mem ((c.tc : Thread Cert.Diff2RefIdeal.nD Cert.Diff2RefIdeal.τ).loc Cert.Diff2RefIdeal.main_arg1) = m ((c.tc : Thread Cert.Diff2RefIdeal.nD Cert.Diff2RefIdeal.τ).loc Cert.Diff2RefIdeal.main_arg1)
      ∧ r.2.mem ((c.tc : Thread Cert.Diff2RefIdeal.nD Cert.Diff2RefIdeal.τ).loc Cert.Diff2RefIdeal.main_arg2) = m ((c.tc : Thread Cert.Diff2RefIdeal.nD Cert.Diff2RefIdeal.τ).loc Cert.Diff2RefIdeal.main_arg2)
      ∧ r.2.mem ((c.tc : Thread Cert.Diff2RefIdeal.nD Cert.Diff2RefIdeal.τ).loc Cert.Diff2RefIdeal.main_arg3) = m ((c.tc : Thread Cert.Diff2RefIdeal.nD Cert.Diff2RefIdeal.τ).loc Cert.Diff2RefIdeal.main_arg3))
      ∧ r.2.sem = fun _ => 0)

def quiescent_Diff2RefIdeal_pre_finite_diff [hDiff2RefIdeal : Cert.Diff2RefIdeal.Facts] [hPre_finite_diff : Cert.Pre_finite_diff.Facts] : Prop :=
  ∀ (m : (ℓ : Loc Cert.Diff2RefIdeal.nD Cert.Diff2RefIdeal.τ Cert.Diff2RefIdeal.sig) → Buf (Elt Ideal) ℓ) (g : Dev Cert.Diff2RefIdeal.nD → PrngReg), Pre_Diff2RefIdeal_finite_diff m →
    θ_run (Cert.Diff2RefIdeal.defs (F := Ideal)) (onTc (τ := Cert.Diff2RefIdeal.τ) (Cert.Diff2RefIdeal.main (F := Ideal))) ⟨m, fun _ => 0, g⟩ (fun r => (∀ c : Dev Cert.Diff2RefIdeal.nD,
      r.2.mem ((c.tc : Thread Cert.Diff2RefIdeal.nD Cert.Diff2RefIdeal.τ).loc Cert.Diff2RefIdeal.main_arg0) = m ((c.tc : Thread Cert.Diff2RefIdeal.nD Cert.Diff2RefIdeal.τ).loc Cert.Diff2RefIdeal.main_arg0)
      ∧ r.2.mem ((c.tc : Thread Cert.Diff2RefIdeal.nD Cert.Diff2RefIdeal.τ).loc Cert.Diff2RefIdeal.main_arg1) = m ((c.tc : Thread Cert.Diff2RefIdeal.nD Cert.Diff2RefIdeal.τ).loc Cert.Diff2RefIdeal.main_arg1)
      ∧ r.2.mem ((c.tc : Thread Cert.Diff2RefIdeal.nD Cert.Diff2RefIdeal.τ).loc Cert.Diff2RefIdeal.main_arg2) = m ((c.tc : Thread Cert.Diff2RefIdeal.nD Cert.Diff2RefIdeal.τ).loc Cert.Diff2RefIdeal.main_arg2)
      ∧ r.2.mem ((c.tc : Thread Cert.Diff2RefIdeal.nD Cert.Diff2RefIdeal.τ).loc Cert.Diff2RefIdeal.main_arg3) = m ((c.tc : Thread Cert.Diff2RefIdeal.nD Cert.Diff2RefIdeal.τ).loc Cert.Diff2RefIdeal.main_arg3))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def preserves_Gqa_GqaIdeal : Prop :=
  IdealRules.named_const.Statement Cert.GqaIdeal.κ "q_scale" .f32 0x3E38AA3B#32 ((8⁻¹ * (Real.log 2)⁻¹ : ℝ) : EReal)

def algebraic_GqaIdeal_GqaRefIdeal_pre_finite_qk [hGqaIdeal : Cert.GqaIdeal.Facts] [hGqaRefIdeal : Cert.GqaRefIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_qk m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v12)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v12) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v24) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v14) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v18_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18_0) = v0 c
          ∧ r.2.mem ((c.tc : Thread Cert.ProjIdeal.nD Cert.ProjIdeal.τ).loc Cert.ProjIdeal.main_v18_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_v22) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v59) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Diff_DiffIdeal : Prop :=
  IdealRules.named_const.Statement Cert.DiffIdeal.κ "q_scale" .f32 0x3E38AA3B#32 ((8⁻¹ * (Real.log 2)⁻¹ : ℝ) : EReal)
  ∧ IdealRules.named_const.Statement Cert.DiffIdeal.κ "log2e" .f32 0x3FB8AA3B#32 (((Real.log 2)⁻¹ : ℝ) : EReal)

def algebraic_DiffIdeal_DiffRefIdeal_pre_finite_diff [hDiffIdeal : Cert.DiffIdeal.Facts] [hDiffRefIdeal : Cert.DiffRefIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)) →
    ∃ (v0 : (c : Dev Cert.DiffIdeal.nD) → Buf (Elt Ideal) ((c.tc : Thread Cert.DiffIdeal.nD Cert.DiffIdeal.τ).loc Cert.DiffIdeal.main_v51)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v51) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v105) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3))

def preserves_Diff2_Diff2Ideal : Prop :=
  IdealRules.named_const.Statement Cert.Diff2Ideal.κ "q_scale" .f32 0x3E38AA3B#32 ((8⁻¹ * (Real.log 2)⁻¹ : ℝ) : EReal)
  ∧ IdealRules.named_const.Statement Cert.Diff2Ideal.κ "log2e" .f32 0x3FB8AA3B#32 (((Real.log 2)⁻¹ : ℝ) : EReal)

def algebraic_Diff2Ideal_Diff2RefIdeal_pre_finite_diff [hDiff2Ideal : Cert.Diff2Ideal.Facts] [hDiff2RefIdeal : Cert.Diff2RefIdeal.Facts] [hPre_finite_diff : Cert.Pre_finite_diff.Facts] : Prop :=
  ∀ (m : (ℓ : Loc Cert.Diff2Ideal.nD Cert.Diff2Ideal.τ Cert.Diff2Ideal.sig) → Buf (Elt Ideal) ℓ) (g : Dev Cert.Diff2Ideal.nD → PrngReg)
    (m' : (ℓ : Loc Cert.Diff2RefIdeal.nD Cert.Diff2RefIdeal.τ Cert.Diff2RefIdeal.sig) → Buf (Elt Ideal) ℓ) (g' : Dev Cert.Diff2RefIdeal.nD → PrngReg), Pre_Diff2Ideal_finite_diff m →
    (∀ c : Dev Cert.Diff2Ideal.nD,
      m' ((c.tc : Thread Cert.Diff2RefIdeal.nD Cert.Diff2RefIdeal.τ).loc Cert.Diff2RefIdeal.main_arg0) = m ((c.tc : Thread Cert.Diff2Ideal.nD Cert.Diff2Ideal.τ).loc Cert.Diff2Ideal.main_arg0)
      ∧ m' ((c.tc : Thread Cert.Diff2RefIdeal.nD Cert.Diff2RefIdeal.τ).loc Cert.Diff2RefIdeal.main_arg1) = m ((c.tc : Thread Cert.Diff2Ideal.nD Cert.Diff2Ideal.τ).loc Cert.Diff2Ideal.main_arg1)
      ∧ m' ((c.tc : Thread Cert.Diff2RefIdeal.nD Cert.Diff2RefIdeal.τ).loc Cert.Diff2RefIdeal.main_arg2) = m ((c.tc : Thread Cert.Diff2Ideal.nD Cert.Diff2Ideal.τ).loc Cert.Diff2Ideal.main_arg2)
      ∧ m' ((c.tc : Thread Cert.Diff2RefIdeal.nD Cert.Diff2RefIdeal.τ).loc Cert.Diff2RefIdeal.main_arg3) = m ((c.tc : Thread Cert.Diff2Ideal.nD Cert.Diff2Ideal.τ).loc Cert.Diff2Ideal.main_arg3)) →
    ∃ (v0 : (c : Dev Cert.Diff2Ideal.nD) → Buf (Elt Ideal) ((c.tc : Thread Cert.Diff2Ideal.nD Cert.Diff2Ideal.τ).loc Cert.Diff2Ideal.main_v51)),
      θ_run (Cert.Diff2Ideal.defs (F := Ideal)) (onTc (τ := Cert.Diff2Ideal.τ) (Cert.Diff2Ideal.main (F := Ideal))) ⟨m, fun _ => 0, g⟩ (fun r => ∀ c : Dev Cert.Diff2Ideal.nD,
          r.2.mem ((c.tc : Thread Cert.Diff2Ideal.nD Cert.Diff2Ideal.τ).loc Cert.Diff2Ideal.main_v51) = v0 c
          ∧ r.2.mem ((c.tc : Thread Cert.Diff2Ideal.nD Cert.Diff2Ideal.τ).loc Cert.Diff2Ideal.main_arg0) = m ((c.tc : Thread Cert.Diff2Ideal.nD Cert.Diff2Ideal.τ).loc Cert.Diff2Ideal.main_arg0)
          ∧ r.2.mem ((c.tc : Thread Cert.Diff2Ideal.nD Cert.Diff2Ideal.τ).loc Cert.Diff2Ideal.main_arg1) = m ((c.tc : Thread Cert.Diff2Ideal.nD Cert.Diff2Ideal.τ).loc Cert.Diff2Ideal.main_arg1)
          ∧ r.2.mem ((c.tc : Thread Cert.Diff2Ideal.nD Cert.Diff2Ideal.τ).loc Cert.Diff2Ideal.main_arg2) = m ((c.tc : Thread Cert.Diff2Ideal.nD Cert.Diff2Ideal.τ).loc Cert.Diff2Ideal.main_arg2)
          ∧ r.2.mem ((c.tc : Thread Cert.Diff2Ideal.nD Cert.Diff2Ideal.τ).loc Cert.Diff2Ideal.main_arg3) = m ((c.tc : Thread Cert.Diff2Ideal.nD Cert.Diff2Ideal.τ).loc Cert.Diff2Ideal.main_arg3))
      ∧ θ_run (Cert.Diff2RefIdeal.defs (F := Ideal)) (onTc (τ := Cert.Diff2RefIdeal.τ) (Cert.Diff2RefIdeal.main (F := Ideal))) ⟨m', fun _ => 0, g'⟩ (fun r => ∀ c : Dev Cert.Diff2RefIdeal.nD,
          r.2.mem ((c.tc : Thread Cert.Diff2RefIdeal.nD Cert.Diff2RefIdeal.τ).loc Cert.Diff2RefIdeal.main_v105) = v0 c
          ∧ r.2.mem ((c.tc : Thread Cert.Diff2RefIdeal.nD Cert.Diff2RefIdeal.τ).loc Cert.Diff2RefIdeal.main_arg0) = m' ((c.tc : Thread Cert.Diff2RefIdeal.nD Cert.Diff2RefIdeal.τ).loc Cert.Diff2RefIdeal.main_arg0)
          ∧ r.2.mem ((c.tc : Thread Cert.Diff2RefIdeal.nD Cert.Diff2RefIdeal.τ).loc Cert.Diff2RefIdeal.main_arg1) = m' ((c.tc : Thread Cert.Diff2RefIdeal.nD Cert.Diff2RefIdeal.τ).loc Cert.Diff2RefIdeal.main_arg1)
          ∧ r.2.mem ((c.tc : Thread Cert.Diff2RefIdeal.nD Cert.Diff2RefIdeal.τ).loc Cert.Diff2RefIdeal.main_arg2) = m' ((c.tc : Thread Cert.Diff2RefIdeal.nD Cert.Diff2RefIdeal.τ).loc Cert.Diff2RefIdeal.main_arg2)
          ∧ r.2.mem ((c.tc : Thread Cert.Diff2RefIdeal.nD Cert.Diff2RefIdeal.τ).loc Cert.Diff2RefIdeal.main_arg3) = m' ((c.tc : Thread Cert.Diff2RefIdeal.nD Cert.Diff2RefIdeal.τ).loc Cert.Diff2RefIdeal.main_arg3))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v3)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v3) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v46) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def Claim : Prop :=
  ∃ (hGqa : Cert.Gqa.Facts) (hGqaIdeal : Cert.GqaIdeal.Facts) (hGqaRefIdeal : Cert.GqaRefIdeal.Facts) (hUp : Cert.Up.Facts) (hUpIdeal : Cert.UpIdeal.Facts) (hUpRefIdeal : Cert.UpRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hDiff : Cert.Diff.Facts) (hDiffIdeal : Cert.DiffIdeal.Facts) (hDiffRefIdeal : Cert.DiffRefIdeal.Facts) (hDiff2 : Cert.Diff2.Facts) (hDiff2Ideal : Cert.Diff2Ideal.Facts) (hDiff2RefIdeal : Cert.Diff2RefIdeal.Facts) (hFfn1 : Cert.Ffn1.Facts) (hFfn1Ideal : Cert.Ffn1Ideal.Facts) (hFfn1RefIdeal : Cert.Ffn1RefIdeal.Facts) (hPre_finite_qk : Cert.Pre_finite_qk.Facts) (hPre_finite_diff : Cert.Pre_finite_diff.Facts),
    quiescent_Gqa (hGqa := hGqa)
    ∧ quiescent_GqaIdeal (hGqaIdeal := hGqaIdeal)
    ∧ quiescent_GqaIdeal_pre_finite_qk (hGqaIdeal := hGqaIdeal) (hPre_finite_qk := hPre_finite_qk)
    ∧ quiescent_GqaRefIdeal (hGqaRefIdeal := hGqaRefIdeal)
    ∧ quiescent_GqaRefIdeal_pre_finite_qk (hGqaRefIdeal := hGqaRefIdeal) (hPre_finite_qk := hPre_finite_qk)
    ∧ quiescent_Up (hUp := hUp)
    ∧ quiescent_UpIdeal (hUpIdeal := hUpIdeal)
    ∧ quiescent_UpRefIdeal (hUpRefIdeal := hUpRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffRefIdeal (hDiffRefIdeal := hDiffRefIdeal)
    ∧ quiescent_DiffRefIdeal_pre_finite_diff (hDiffRefIdeal := hDiffRefIdeal) (hPre_finite_diff := hPre_finite_diff)
    ∧ quiescent_Diff2 (hDiff2 := hDiff2)
    ∧ quiescent_Diff2Ideal (hDiff2Ideal := hDiff2Ideal)
    ∧ quiescent_Diff2Ideal_pre_finite_diff (hDiff2Ideal := hDiff2Ideal) (hPre_finite_diff := hPre_finite_diff)
    ∧ quiescent_Diff2RefIdeal (hDiff2RefIdeal := hDiff2RefIdeal)
    ∧ quiescent_Diff2RefIdeal_pre_finite_diff (hDiff2RefIdeal := hDiff2RefIdeal) (hPre_finite_diff := hPre_finite_diff)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ preserves_Gqa_GqaIdeal
    ∧ algebraic_GqaIdeal_GqaRefIdeal_pre_finite_qk (hGqaIdeal := hGqaIdeal) (hGqaRefIdeal := hGqaRefIdeal) (hPre_finite_qk := hPre_finite_qk)
    ∧ preserves_Up_UpIdeal
    ∧ algebraic_UpIdeal_UpRefIdeal (hUpIdeal := hUpIdeal) (hUpRefIdeal := hUpRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Diff_DiffIdeal
    ∧ algebraic_DiffIdeal_DiffRefIdeal_pre_finite_diff (hDiffIdeal := hDiffIdeal) (hDiffRefIdeal := hDiffRefIdeal) (hPre_finite_diff := hPre_finite_diff)
    ∧ preserves_Diff2_Diff2Ideal
    ∧ algebraic_Diff2Ideal_Diff2RefIdeal_pre_finite_diff (hDiff2Ideal := hDiff2Ideal) (hDiff2RefIdeal := hDiff2RefIdeal) (hPre_finite_diff := hPre_finite_diff)
    ∧ preserves_Ffn1_Ffn1Ideal
    ∧ algebraic_Ffn1Ideal_Ffn1RefIdeal (hFfn1Ideal := hFfn1Ideal) (hFfn1RefIdeal := hFfn1RefIdeal)
-- ==== Pre_finite_diff.lean ====
abbrev S4x4096x8960 : Shape := ⟨3, ![4, 4096, 8960]⟩
abbrev S32x4 : Shape := ⟨2, ![32, 4]⟩
abbrev S4x64 : Shape := ⟨2, ![4, 64]⟩
abbrev S128 : Shape := ⟨1, ![128]⟩
abbrev S4x4096x1536 : Shape := ⟨3, ![4, 4096, 1536]⟩
abbrev S_ : Shape := ⟨0, ![]⟩

class Facts : Prop where
  slices_S4x4096x8960_S4x4096x1536_0_0_7168 : S4x4096x8960.Slices ![0, 0, 7168] S4x4096x1536
  bitsLt_bf16_f32 : FTy.bits .bf16 < FTy.bits .f32
  bcast_S_S4x4096x1536 : S_.BroadcastsInDim S4x4096x1536 (![] : Fin 0 → Fin S4x4096x1536.rank)
  reducesTo_S4x4096x1536_S_d0_1_2 : S4x4096x1536.ReducesTo [0, 1, 2] S_
  h_S_ : 0 < S_.numel
  bcast_S_S32x4 : S_.BroadcastsInDim S32x4 (![] : Fin 0 → Fin S32x4.rank)
  reducesTo_S32x4_S_d0_1 : S32x4.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S4x4096x8960 .bf16) (main_arg1 : FVec F S32x4 .f32) (main_arg2 : FVec F S4x64 .f32) (main_arg3 : FVec F S128 .f32) : IVec S_ 1 :=
  let main_v0 : FVec F S4x4096x1536 .bf16 := (extractStridedSlice S4x4096x1536 ![0, 0, 7168] · slices_S4x4096x8960_S4x4096x1536_0_0_7168) main_arg0
  let main_v1 : FVec F S4x4096x1536 .f32 := (extf .f32 · bitsLt_bf16_f32) main_v0
  let main_v2 : FVec F S4x4096x1536 .f32 := Host.absf main_v1
  let main_cst : FVec F S_ .f32 := constant S_ .f32 0x7F800000#32
  let main_v3 : FVec F S4x4096x1536 .f32 := broadcastInDim S4x4096x1536 ![] bcast_S_S4x4096x1536 main_cst
  let main_v4 : IVec S4x4096x1536 1 := cmpf .olt main_v2 main_v3
  let main_c : IVec S_ 1 := constantI S_ 1 1#1
  let main_v5 : IVec S_ 1 := (fun x v => Host.reduce IntOp.andi x v reducesTo_S4x4096x1536_S_d0_1_2 h_S_) main_v4 main_c
  let main_v6 : FVec F S32x4 .f32 := Host.absf main_arg1
  let main_cst_0 : FVec F S_ .f32 := constant S_ .f32 0x7F800000#32
  let main_v7 : FVec F S32x4 .f32 := broadcastInDim S32x4 ![] bcast_S_S32x4 main_cst_0
  let main_v8 : IVec S32x4 1 := cmpf .olt main_v6 main_v7
  let main_c_1 : IVec S_ 1 := constantI S_ 1 1#1
  let main_v9 : IVec S_ 1 := (fun x v => Host.reduce IntOp.andi x v reducesTo_S32x4_S_d0_1 h_S_) main_v8 main_c_1
  let main_v10 : IVec S_ 1 := andi main_v5 main_v9
  let main_v11 : FVec F S4x64 .f32 := Host.absf main_arg2
  let main_cst_2 : FVec F S_ .f32 := constant S_ .f32 0x7F800000#32
  let main_v12 : FVec F S4x64 .f32 := broadcastInDim S4x64 ![] bcast_S_S4x64 main_cst_2
  let main_v13 : IVec S4x64 1 := cmpf .olt main_v11 main_v12
  let main_c_3 : IVec S_ 1 := constantI S_ 1 1#1
  let main_v14 : IVec S_ 1 := (fun x v => Host.reduce IntOp.andi x v reducesTo_S4x64_S_d0_1 h_S_) main_v13 main_c_3
  let main_v15 : IVec S_ 1 := andi main_v10 main_v14
  main_v15
-- ==== Pre_finite_qk.lean ====
abbrev S4x4096x512 : Shape := ⟨3, ![4, 4096, 512]⟩
abbrev S4x4096x128 : Shape := ⟨3, ![4, 4096, 128]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_

variable [Facts]

def fn {F : FTy → Type} [FloatOps F] (main_arg0 : FVec F S4x4096x512 .bf16) (main_arg1 : FVec F S4x4096x128 .bf16) (main_arg2 : FVec F S4x4096x128 .bf16) : IVec S_ 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_c : IVec S_ 1 := constantI S_ 1 1#1
  let main_v4 : IVec S_ 1 := (fun x v => Host.reduce IntOp.andi x v reducesTo_S4x4096x512_S_d0_1_2 h_S_) main_v3 main_c
  let main_v5 : FVec F S4x4096x128 .f32 := (extf .f32 · bitsLt_bf16_f32) main_arg1
  let main_v6 : FVec F S4x4096x128 .f32 := Host.absf main_v5
  let main_cst_0 : FVec F S_ .f32 := constant S_ .f32 0x7F800000#32
  let main_v7 : FVec F S4x4096x128 .f32 := broadcastInDim S4x4096x128 ![] bcast_S_S4x4096x128 main_cst_0
  let main_v8 : IVec S4x4096x128 1 := cmpf .olt main_v6 main_v7
  let main_c_1 : IVec S_ 1 := constantI S_ 1 1#1
  let main_v9 : IVec S_ 1 := (fun x v => Host.reduce IntOp.andi x v reducesTo_S4x4096x128_S_d0_1_2 h_S_) main_v8 main_c_1
  let main_v10 : IVec S_ 1 := andi main_v4 main_v9
  main_v10
-- ==== Gqa.lean ====
abbrev S4x4096x512 : Shape := ⟨3, ![4, 4096, 512]⟩
abbrev S4x4096x128 : Shape := ⟨3, ![4, 4096, 128]⟩
abbrev S4x128x4096 : Shape := ⟨3, ![4, 128, 4096]⟩
abbrev S4x4096x64 : Shape := ⟨3, ![4, 4096, 64]⟩
abbrev S_ : Shape := ⟨0, ![]⟩
abbrev S4x4096x256 : Shape := ⟨3, ![4, 4096, 256]⟩
abbrev S1x128x256 : Shape := ⟨3, ![1, 128, 256]⟩
abbrev S1x64x4096 : Shape := ⟨3, ![1, 64, 4096]⟩
abbrev S1x4096x128 : Shape := ⟨3, ![1, 4096, 128]⟩
abbrev S512x128 : Shape := ⟨2, ![512, 128]⟩
abbrev S128x256 : Shape := ⟨2, ![128, 256]⟩
abbrev S128x64 : Shape := ⟨2, ![128, 64]⟩
abbrev S512x64 : Shape := ⟨2, ![512, 64]⟩
abbrev S1x64x1024 : Shape := ⟨3, ![1, 64, 1024]⟩
abbrev S64x1024 : Shape := ⟨2, ![64, 1024]⟩
abbrev S1x1024x128 : Shape := ⟨3, ![1, 1024, 128]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x512, .bf16⟩
  | .hbm, ⟨1, _⟩ => ⟨S4x4096x128, .bf16⟩
  | .hbm, ⟨2, _⟩ => ⟨S4x4096x128, .bf16⟩
  | .hbm, ⟨3, _⟩ => ⟨S4x128x4096, .bf16⟩
  | .hbm, ⟨4, _⟩ => ⟨S4x4096x64, .i32⟩
  | .hbm, ⟨5, _⟩ => ⟨S_, .i32⟩
  | .hbm, ⟨6, _⟩ => ⟨S4x4096x64, .i32⟩
  | .hbm, ⟨7, _⟩ => ⟨S4x4096x64, .i1⟩
  | .hbm, ⟨8, _⟩ => ⟨S_, .f32⟩
  | .hbm, ⟨9, _⟩ => ⟨S_, .f32⟩
  | .hbm, ⟨10, _⟩ => ⟨S4x4096x64, .f32⟩
  | .hbm, ⟨11, _⟩ => ⟨S4x4096x64, .f32⟩
  | .hbm, ⟨12, _⟩ => ⟨S4x4096x64, .f32⟩
  | .hbm, ⟨13, _⟩ => ⟨S4x4096x64, .f32⟩
  | .hbm, ⟨14, _⟩ => ⟨S4x4096x64, .bf16⟩
  | .hbm, ⟨15, _⟩ => ⟨S4x4096x64, .f32⟩
  | .hbm, ⟨16, _⟩ => ⟨S4x4096x64, .bf16⟩
  | .hbm, ⟨17, _⟩ => ⟨S4x4096x64, .f32⟩
  | .hbm, ⟨18, _⟩ => ⟨S4x4096x256, .f32⟩
  | .hbm, ⟨19, _⟩ => ⟨S4x4096x256, .bf16⟩
  | .hbm, ⟨20, _⟩ => ⟨S4x4096x512, .bf16⟩
  | .local _ .vmem, ⟨0, _⟩ => ⟨S1x128x256, .bf16⟩
  | .local _ .vmem, ⟨1, _⟩ => ⟨S1x128x256, .bf16⟩
  | .local _ .vmem, ⟨2, _⟩ => ⟨S1x64x4096, .bf16⟩
  | .local _ .vmem, ⟨3, _⟩ => ⟨S1x64x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128x256, .bf16⟩
  | .local _ .vmem, ⟨7, _⟩ => ⟨S1x128x256, .bf16⟩
  | .local _ .vmem, ⟨8, _⟩ => ⟨S512x128, .f32⟩
  | .local _ .vmem, ⟨9, _⟩ => ⟨S512x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 32], ![false, false, false]⟩

@[reducible] def k0_t1_loop : Scf.Loop 32 :=
  let c0_i32 : BitVec 32 := 0#32
  let c4_i32 : BitVec 32 := 4#32
  let v19 : BitVec 32 := Scalar.addi c0_i32 c4_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v34 : BitVec 32 := Scalar.muli arg9 c1024_i32
  v34
def k0_off1 (k0_t1 : Fin k0_t1_loop.trips) : Fin 3 → Nat :=
  let c0_14 : Index := 0#32
  let c0_15 : Index := 0#32
  let c0_i32 : BitVec 32 := 0#32
  let c1_i32 : BitVec 32 := 1#32
  let arg9 : BitVec 32 := Scf.iv c0_i32 c1_i32 k0_t1
  let c1024_i32 : BitVec 32 := 1024#32
  let v34 : BitVec 32 := Scalar.muli arg9 c1024_i32
  let v35 : BitVec 32 := v34
  let v36 : Index := Scalar.indexCast v35
  ![0, 0, v36.toNat]
def k0_off2 (k0_t1 : Fin k0_t1_loop.trips) : Fin 3 → Nat :=
  let c0_16 : Index := 0#32
  let c0_i32 : BitVec 32 := 0#32
  let c1_i32 : BitVec 32 := 1#32
  let arg9 : BitVec 32 := Scf.iv c0_i32 c1_i32 k0_t1
  let c1024_i32 : BitVec 32 := 1024#32
  let v34 : BitVec 32 := Scalar.muli arg9 c1024_i32
  let v35 : BitVec 32 := v34
  let v39 : Index := Scalar.indexCast v35
  let c0_17 : Index := 0#32
  ![0, v39.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaIdeal.lean ====
variable {F : FTy → Type} [FloatOps F] [Named F]
def κ : String → Option EReal := fun
  | "q_scale" => some ((8⁻¹ * (Real.log 2)⁻¹ : ℝ) : EReal)
  | _ => none
-- ==== GqaRefIdeal.lean ====
abbrev S4x4096x512 : Shape := ⟨3, ![4, 4096, 512]⟩
abbrev S4x4096x128 : Shape := ⟨3, ![4, 4096, 128]⟩
abbrev S4x4096x2x4x64 : Shape := ⟨5, ![4, 4096, 2, 4, 64]⟩
abbrev S4x4096x2x64 : Shape := ⟨4, ![4, 4096, 2, 64]⟩
abbrev S4x2x4096x4096x4 : Shape := ⟨5, ![4, 2, 4096, 4096, 4]⟩
abbrev S4x2x4x4096x4096 : Shape := ⟨5, ![4, 2, 4, 4096, 4096]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x128, .bf16⟩
  | .hbm, ⟨2, _⟩ => ⟨S4x4096x128, .bf16⟩
  | .hbm, ⟨3, _⟩ => ⟨S4x4096x512, .f32⟩
  | .hbm, ⟨4, _⟩ => ⟨S4x4096x2x4x64, .f32⟩
  | .hbm, ⟨5, _⟩ => ⟨S4x4096x128, .f32⟩
  | .hbm, ⟨6, _⟩ => ⟨S4x4096x2x64, .f32⟩
  | .hbm, ⟨7, _⟩ => ⟨S4x4096x128, .f32⟩
  | .hbm, ⟨8, _⟩ => ⟨S4x4096x2x64, .f32⟩
  | .hbm, ⟨9, _⟩ => ⟨S4x2x4096x4096x4, .f32⟩
  | .hbm, ⟨10, _⟩ => ⟨S4x2x4x4096x4096, .f32⟩
  | .hbm, ⟨11, _⟩ => ⟨S_, .f32⟩
  | .hbm, ⟨12, _⟩ => ⟨S4x2x4x4096x4096, .f32⟩
  | .hbm, ⟨13, _⟩ => ⟨S4x2x4x4096x4096, .f32⟩
  | .hbm, ⟨14, _⟩ => ⟨S_, .f32⟩
  | .hbm, ⟨15, _⟩ => ⟨S4x2x4x4096, .f32⟩
  | .hbm, ⟨16, _⟩ => ⟨S_, .f32⟩
  | .hbm, ⟨17, _⟩ => ⟨S4x2x4x4096, .f32⟩
  | .hbm, ⟨18, _⟩ => ⟨S4x2x4x4096, .f32⟩
  | .hbm, ⟨19, _⟩ => ⟨S4x2x4x4096x1, .f32⟩
  | .hbm, ⟨20, _⟩ => ⟨S4x2x4x4096x4096, .f32⟩
  | .hbm, ⟨21, _⟩ => ⟨S4x2x4x4096x4096, .f32⟩
  | .hbm, ⟨22, _⟩ => ⟨S4x2x4x4096x4096, .f32⟩
  | .hbm, ⟨23, _⟩ => ⟨S_, .f32⟩
  | .hbm, ⟨24, _⟩ => ⟨S4x2x4x4096, .f32⟩
  | .hbm, ⟨25, _⟩ => ⟨S4x2x4x4096x1, .f32⟩
  | .hbm, ⟨26, _⟩ => ⟨S4x2x4x4096x4096, .f32⟩
  | .hbm, ⟨27, _⟩ => ⟨S4x2x4x4096x4096, .f32⟩
  | .hbm, ⟨28, _⟩ => ⟨S4x2x64x4x4096, .f32⟩
  | .hbm, ⟨29, _⟩ => ⟨S4x4096x2x4x64, .f32⟩
  | .hbm, ⟨30, _⟩ => ⟨S4x4096x512, .f32⟩
  | .hbm, ⟨31, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Up.lean ====
abbrev S16384x1024 : Shape := ⟨2, ![16384, 1024]⟩
abbrev S1024 : Shape := ⟨1, ![1024]⟩
abbrev S1024x5632 : Shape := ⟨2, ![1024, 5632]⟩
abbrev S1x1024 : Shape := ⟨2, ![1, 1024]⟩
abbrev S16384x5632 : Shape := ⟨2, ![16384, 5632]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1x1024, .f32⟩
  | .hbm, ⟨5, _⟩ => ⟨S16384x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x1024 : Shape := ⟨2, ![16384, 1024]⟩
abbrev S1024 : Shape := ⟨1, ![1024]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5632, .f32⟩
  | .hbm, ⟨20, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x8976 : Shape := ⟨2, ![1024, 8976]⟩
abbrev S1024x512 : Shape := ⟨2, ![1024, 512]⟩
abbrev S1024x128 : Shape := ⟨2, ![1024, 128]⟩
abbrev S1024x16 : Shape := ⟨2, ![1024, 16]⟩
abbrev S1024x4096 : Shape := ⟨2, ![1024, 4096]⟩
abbrev S1024x8960 : Shape := ⟨2, ![1024, 8960]⟩
abbrev S_ : Shape := ⟨0, ![]⟩
abbrev S1x1024 : Shape := ⟨2, ![1, 1024]⟩
abbrev S16384x8960 : Shape := ⟨2, ![16384, 8960]⟩
abbrev S16384x128 : Shape := ⟨2, ![16384, 128]⟩
abbrev S1024x1024 : Shape := ⟨2, ![1024, 1024]⟩
abbrev S1024x1280 : Shape := ⟨2, ![1024, 1280]⟩
abbrev S1024x1 : Shape := ⟨2, ![1024, 1]⟩

abbrev nBuf : Space → Nat
  | .hbm => 25
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8976, .f32⟩
  | .hbm, ⟨3, _⟩ => ⟨S1024x512, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x16, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x4096, .f32⟩
  | .hbm, ⟨16, _⟩ => ⟨S1024x8960, .f32⟩
  | .hbm, ⟨17, _⟩ => ⟨S1024x8960, .bf16⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S1x1024, .f32⟩
  | .hbm, ⟨23, _⟩ => ⟨S16384x8960, .bf16⟩
  | .hbm, ⟨24, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x128, .bf16⟩
  | .local _ .vmem, ⟨6, _⟩ => ⟨S1024x1280, .bf16⟩
  | .local _ .vmem, ⟨7, _⟩ => ⟨S1024x1280, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S16384x1024 : Shape := ⟨2, ![16384, 1024]⟩
abbrev S1024 : Shape := ⟨1, ![1024]⟩
abbrev S1024x8976 : Shape := ⟨2, ![1024, 8976]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8976 : Shape := ⟨2, ![16384, 8976]⟩
abbrev S16384x4096 : Shape := ⟨2, ![16384, 4096]⟩
abbrev S16384x2048 : Shape := ⟨2, ![16384, 2048]⟩
abbrev S16384x1536 : Shape := ⟨2, ![16384, 1536]⟩
abbrev S16384x256 : Shape := ⟨2, ![16384, 256]⟩
abbrev S16384x8960 : Shape := ⟨2, ![16384, 8960]⟩
abbrev S16384x16 : Shape := ⟨2, ![16384, 16]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8976, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8976, .f32⟩
  | .hbm, ⟨20, _⟩ => ⟨S16384x4096, .f32⟩
  | .hbm, ⟨21, _⟩ => ⟨S16384x1024, .f32⟩
  | .hbm, ⟨22, _⟩ => ⟨S16384x2048, .f32⟩
  | .hbm, ⟨23, _⟩ => ⟨S16384x1536, .f32⟩
  | .hbm, ⟨24, _⟩ => ⟨S16384x256, .f32⟩
  | .hbm, ⟨25, _⟩ => ⟨S16384x8960, .f32⟩
  | .hbm, ⟨26, _⟩ => ⟨S16384x8960, .bf16⟩
  | .hbm, ⟨27, _⟩ => ⟨S16384x16, .f32⟩
  | .hbm, ⟨28, _⟩ => ⟨S_, .i32⟩
  | .hbm, ⟨29, _⟩ => ⟨S_, .f32⟩
  | .hbm, ⟨30, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Merge.lean ====
abbrev S16384x512 : Shape := ⟨2, ![16384, 512]⟩
abbrev S16384x8960 : Shape := ⟨2, ![16384, 8960]⟩
abbrev S4x512x1024 : Shape := ⟨3, ![4, 512, 1024]⟩
abbrev S1024x1024 : Shape := ⟨2, ![1024, 1024]⟩
abbrev S16384x1024 : Shape := ⟨2, ![16384, 1024]⟩
abbrev S512x512 : Shape := ⟨2, ![512, 512]⟩
abbrev S512x4096 : Shape := ⟨2, ![512, 4096]⟩
abbrev S512x1024 : Shape := ⟨2, ![512, 1024]⟩
abbrev S1x512x1024 : Shape := ⟨3, ![1, 512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8960, .bf16⟩
  | .hbm, ⟨5, _⟩ => ⟨S4x512x1024, .f32⟩
  | .hbm, ⟨6, _⟩ => ⟨S1024x1024, .f32⟩
  | .hbm, ⟨7, _⟩ => ⟨S16384x1024, .f32⟩
  | .hbm, ⟨8, _⟩ => ⟨S4x512x1024, .bf16⟩
  | .hbm, ⟨9, _⟩ => ⟨S1024x1024, .bf16⟩
  | .hbm, ⟨10, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x4096, .bf16⟩
  | .local _ .vmem, ⟨9, _⟩ => ⟨S512x4096, .bf16⟩
  | .local _ .vmem, ⟨10, _⟩ => ⟨S4x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x512 : Shape := ⟨2, ![16384, 512]⟩
abbrev S16384x8960 : Shape := ⟨2, ![16384, 8960]⟩
abbrev S4x512x1024 : Shape := ⟨3, ![4, 512, 1024]⟩
abbrev S1024x1024 : Shape := ⟨2, ![1024, 1024]⟩
abbrev S16384x1024 : Shape := ⟨2, ![16384, 1024]⟩
abbrev S16384x1x512 : Shape := ⟨3, ![16384, 1, 512]⟩
abbrev S16384x4x512 : Shape := ⟨3, ![16384, 4, 512]⟩
abbrev S4x1024x16384 : Shape := ⟨3, ![4, 1024, 16384]⟩
abbrev S16384x4x1024 : Shape := ⟨3, ![16384, 4, 1024]⟩
abbrev S16384x4096 : Shape := ⟨2, ![16384, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x8960, .bf16⟩
  | .hbm, ⟨5, _⟩ => ⟨S4x512x1024, .f32⟩
  | .hbm, ⟨6, _⟩ => ⟨S1024x1024, .f32⟩
  | .hbm, ⟨7, _⟩ => ⟨S16384x1024, .f32⟩
  | .hbm, ⟨8, _⟩ => ⟨S16384x1x512, .bf16⟩
  | .hbm, ⟨9, _⟩ => ⟨S16384x1x512, .bf16⟩
  | .hbm, ⟨10, _⟩ => ⟨S16384x1x512, .bf16⟩
  | .hbm, ⟨11, _⟩ => ⟨S16384x1x512, .bf16⟩
  | .hbm, ⟨12, _⟩ => ⟨S16384x4x512, .bf16⟩
  | .hbm, ⟨13, _⟩ => ⟨S16384x4x512, .f32⟩
  | .hbm, ⟨14, _⟩ => ⟨S4x1024x16384, .f32⟩
  | .hbm, ⟨15, _⟩ => ⟨S16384x4x1024, .f32⟩
  | .hbm, ⟨16, _⟩ => ⟨S16384x4096, .bf16⟩
  | .hbm, ⟨17, _⟩ => ⟨S16384x4096, .f32⟩
  | .hbm, ⟨18, _⟩ => ⟨S16384x4x1024, .f32⟩
  | .hbm, ⟨19, _⟩ => ⟨S16384x4x1024, .f32⟩
  | .hbm, ⟨20, _⟩ => ⟨S16384x4x1024, .f32⟩
  | .hbm, ⟨21, _⟩ => ⟨S_, .f32⟩
  | .hbm, ⟨22, _⟩ => ⟨S16384x4x1024, .f32⟩
  | .hbm, ⟨23, _⟩ => ⟨S16384x4x1024, .f32⟩
  | .hbm, ⟨24, _⟩ => ⟨S_, .f32⟩
  | .hbm, ⟨25, _⟩ => ⟨S16384x4x1024, .f32⟩
  | .hbm, ⟨26, _⟩ => ⟨S16384x4x1024, .f32⟩
  | .hbm, ⟨27, _⟩ => ⟨S16384x4x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Ffn.lean ====
abbrev S16384x5632 : Shape := ⟨2, ![16384, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S1024 : Shape := ⟨1, ![1024]⟩
abbrev S1x2816 : Shape := ⟨2, ![1, 2816]⟩
abbrev S1x1024 : Shape := ⟨2, ![1, 1024]⟩
abbrev S256x2816 : Shape := ⟨2, ![256, 2816]⟩
abbrev S16x2816 : Shape := ⟨2, ![16, 2816]⟩
abbrev S256x1024 : Shape := ⟨2, ![256, 1024]⟩
abbrev S256x1 : Shape := ⟨2, ![256, 1]⟩
abbrev S256 : Shape := ⟨1, ![256]⟩

abbrev nBuf : Space → Nat
  | .hbm => 10
  | .vmem => 16
  | .smem => 0
  | _ => 0

abbrev bufTy : (tb : Table) → Fin (tcTables nBuf tb) → BufTy
  | .hbm, ⟨0, _⟩ => ⟨S16384x5632, .bf16⟩
  | .hbm, ⟨1, _⟩ => ⟨S3x2816, .f32⟩
  | .hbm, ⟨2, _⟩ => ⟨S2816, .f32⟩
  | .hbm, ⟨3, _⟩ => ⟨S2816x1024, .f32⟩
  | .hbm, ⟨4, _⟩ => ⟨S16384x1024, .f32⟩
  | .hbm, ⟨5, _⟩ => ⟨S1024, .f32⟩
  | .hbm, ⟨6, _⟩ => ⟨S2816x1024, .bf16⟩
  | .hbm, ⟨7, _⟩ => ⟨S1x2816, .f32⟩
  | .hbm, ⟨8, _⟩ => ⟨S1x1024, .f32⟩
  | .hbm, ⟨9, _⟩ => ⟨S16384x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S16x2816, .bf16⟩
  | .local _ .vmem, ⟨5, _⟩ => ⟨S16x2816, .bf16⟩
  | .local _ .vmem, ⟨6, _⟩ => ⟨S16x2816, .bf16⟩
  | .local _ .vmem, ⟨7, _⟩ => ⟨S16x2816, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16384x5632 : Shape := ⟨2, ![16384, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S1024 : Shape := ⟨1, ![1024]⟩
abbrev S4x4096x5632 : Shape := ⟨3, ![4, 4096, 5632]⟩
abbrev S4x4096x2816 : Shape := ⟨3, ![4, 4096, 2816]⟩
abbrev S_ : Shape := ⟨0, ![]⟩
abbrev S4x4098x2816 : Shape := ⟨3, ![4, 4098, 2816]⟩
abbrev S1x2816 : Shape := ⟨2, ![1, 2816]⟩
abbrev S1x1x2816 : Shape := ⟨3, ![1, 1, 2816]⟩
abbrev S4x4096x1024 : Shape := ⟨3, ![4, 4096, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S3x2816, .f32⟩
  | .hbm, ⟨2, _⟩ => ⟨S2816, .f32⟩
  | .hbm, ⟨3, _⟩ => ⟨S2816x1024, .f32⟩
  | .hbm, ⟨4, _⟩ => ⟨S16384x1024, .f32⟩
  | .hbm, ⟨5, _⟩ => ⟨S1024, .f32⟩
  | .hbm, ⟨6, _⟩ => ⟨S16384x5632, .f32⟩
  | .hbm, ⟨7, _⟩ => ⟨S4x4096x5632, .f32⟩
  | .hbm, ⟨8, _⟩ => ⟨S4x4096x2816, .f32⟩
  | .hbm, ⟨9, _⟩ => ⟨S4x4096x2816, .f32⟩
  | .hbm, ⟨10, _⟩ => ⟨S_, .i32⟩
  | .hbm, ⟨11, _⟩ => ⟨S_, .f32⟩
  | .hbm, ⟨12, _⟩ => ⟨S4x4098x2816, .f32⟩
  | .hbm, ⟨13, _⟩ => ⟨S4x4096x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S4x4096x2816, .f32⟩
  | .hbm, ⟨18, _⟩ => ⟨S4x4096x2816, .f32⟩
  | .hbm, ⟨19, _⟩ => ⟨S_, .f32⟩
  | .hbm, ⟨20, _⟩ => ⟨S4x4096x2816, .f32⟩
  | .hbm, ⟨21, _⟩ => ⟨S4x4096x2816, .f32⟩
  | .hbm, ⟨22, _⟩ => ⟨S4x4096x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S1x1x2816, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S_, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S_, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Diff.lean ====
abbrev S4x4096x8960 : Shape := ⟨3, ![4, 4096, 8960]⟩
abbrev S32x4 : Shape := ⟨2, ![32, 4]⟩
abbrev S4x64 : Shape := ⟨2, ![4, 64]⟩
abbrev S128 : Shape := ⟨1, ![128]⟩
abbrev S5 : Shape := ⟨1, ![5]⟩
abbrev S_ : Shape := ⟨0, ![]⟩
abbrev S5x1x1 : Shape := ⟨3, ![5, 1, 1]⟩
abbrev S512 : Shape := ⟨1, ![512]⟩
abbrev S1x1x512 : Shape := ⟨3, ![1, 1, 512]⟩
abbrev S5x1x512 : Shape := ⟨3, ![5, 1, 512]⟩
abbrev S1x512x1 : Shape := ⟨3, ![1, 512, 1]⟩
abbrev S5x512x512 : Shape := ⟨3, ![5, 512, 512]⟩
abbrev S5x512x512x1 : Shape := ⟨4, ![5, 512, 512, 1]⟩
abbrev S5x512x512x4 : Shape := ⟨4, ![5, 512, 512, 4]⟩
abbrev S4x5x512x512 : Shape := ⟨4, ![4, 5, 512, 512]⟩
abbrev S4x4096x512 : Shape := ⟨3, ![4, 4096, 512]⟩
abbrev S4x512x4096 : Shape := ⟨3, ![4, 512, 4096]⟩
abbrev S1x128 : Shape := ⟨2, ![1, 128]⟩
abbrev S1x512x128 : Shape := ⟨3, ![1, 512, 128]⟩
abbrev S1x128x4096 : Shape := ⟨3, ![1, 128, 4096]⟩
abbrev S1x4096x128 : Shape := ⟨3, ![1, 4096, 128]⟩
abbrev S1x5x512x512 : Shape := ⟨4, ![1, 5, 512, 512]⟩
abbrev S2x512x128 : Shape := ⟨3, ![2, 512, 128]⟩
abbrev S2x512x256 : Shape := ⟨3, ![2, 512, 256]⟩
abbrev S512x128 : Shape := ⟨2, ![512, 128]⟩
abbrev S512x64 : Shape := ⟨2, ![512, 64]⟩
abbrev S1x1x512x512 : Shape := ⟨4, ![1, 1, 512, 512]⟩
abbrev S512x512 : Shape := ⟨2, ![512, 512]⟩
abbrev S1x64x512 : Shape := ⟨3, ![1, 64, 512]⟩
abbrev S64x512 : Shape := ⟨2, ![64, 512]⟩
abbrev S512x1 : Shape := ⟨2, ![512, 1]⟩
abbrev S1x64 : Shape := ⟨2, ![1, 64]⟩
abbrev S1 : Shape := ⟨1, ![1]⟩
abbrev S1x1 : Shape := ⟨2, ![1, 1]⟩

abbrev nBuf : Space → Nat
  | .hbm => 72
  | .vmem => 14
  | .smem => 0
  | _ => 0

abbrev bufTy : (tb : Table) → Fin (tcTables nBuf tb) → BufTy
  | .hbm, ⟨0, _⟩ => ⟨S4x4096x8960, .bf16⟩
  | .hbm, ⟨1, _⟩ => ⟨S32x4, .f32⟩
  | .hbm, ⟨2, _⟩ => ⟨S4x64, .f32⟩
  | .hbm, ⟨3, _⟩ => ⟨S128, .f32⟩
  | .hbm, ⟨4, _⟩ => ⟨S5, .i32⟩
  | .hbm, ⟨5, _⟩ => ⟨S_, .i32⟩
  | .hbm, ⟨6, _⟩ => ⟨S5, .i32⟩
  | .hbm, ⟨7, _⟩ => ⟨S5, .i32⟩
  | .hbm, ⟨8, _⟩ => ⟨S5x1x1, .i32⟩
  | .hbm, ⟨9, _⟩ => ⟨S_, .i32⟩
  | .hbm, ⟨10, _⟩ => ⟨S5x1x1, .i32⟩
  | .hbm, ⟨11, _⟩ => ⟨S5x1x1, .i32⟩
  | .hbm, ⟨12, _⟩ => ⟨S512, .i32⟩
  | .hbm, ⟨13, _⟩ => ⟨S1x1x512, .i32⟩
  | .hbm, ⟨14, _⟩ => ⟨S5x1x512, .i32⟩
  | .hbm, ⟨15, _⟩ => ⟨S5x1x512, .i32⟩
  | .hbm, ⟨16, _⟩ => ⟨S5x1x512, .i32⟩
  | .hbm, ⟨17, _⟩ => ⟨S512, .i32⟩
  | .hbm, ⟨18, _⟩ => ⟨S1x512x1, .i32⟩
  | .hbm, ⟨19, _⟩ => ⟨S5x512x512, .i32⟩
  | .hbm, ⟨20, _⟩ => ⟨S5x512x512, .i32⟩
  | .hbm, ⟨21, _⟩ => ⟨S5x512x512, .i32⟩
  | .hbm, ⟨22, _⟩ => ⟨S_, .i32⟩
  | .hbm, ⟨23, _⟩ => ⟨S5x512x512, .i32⟩
  | .hbm, ⟨24, _⟩ => ⟨S5x512x512, .i1⟩
  | .hbm, ⟨25, _⟩ => ⟨S_, .i32⟩
  | .hbm, ⟨26, _⟩ => ⟨S_, .i32⟩
  | .hbm, ⟨27, _⟩ => ⟨S5x512x512, .i32⟩
  | .hbm, ⟨28, _⟩ => ⟨S5x512x512, .i32⟩
  | .hbm, ⟨29, _⟩ => ⟨S5x512x512, .i32⟩
  | .hbm, ⟨30, _⟩ => ⟨S5x512x512, .i32⟩
  | .hbm, ⟨31, _⟩ => ⟨S_, .i32⟩
  | .hbm, ⟨32, _⟩ => ⟨S5x512x512, .i32⟩
  | .hbm, ⟨33, _⟩ => ⟨S5x512x512, .i32⟩
  | .hbm, ⟨34, _⟩ => ⟨S5x512x512, .f32⟩
  | .hbm, ⟨35, _⟩ => ⟨S_, .f32⟩
  | .hbm, ⟨36, _⟩ => ⟨S5x512x512, .f32⟩
  | .hbm, ⟨37, _⟩ => ⟨S5x512x512, .f32⟩
  | .hbm, ⟨38, _⟩ => ⟨S5x512x512, .f32⟩
  | .hbm, ⟨39, _⟩ => ⟨S_, .f32⟩
  | .hbm, ⟨40, _⟩ => ⟨S5x512x512, .f32⟩
  | .hbm, ⟨41, _⟩ => ⟨S5x512x512, .f32⟩
  | .hbm, ⟨42, _⟩ => ⟨S_, .f32⟩
  | .hbm, ⟨43, _⟩ => ⟨S5x512x512, .f32⟩
  | .hbm, ⟨44, _⟩ => ⟨S5x512x512, .f32⟩
  | .hbm, ⟨45, _⟩ => ⟨S5x512x512, .i32⟩
  | .hbm, ⟨46, _⟩ => ⟨S_, .i32⟩
  | .hbm, ⟨47, _⟩ => ⟨S5x512x512, .i32⟩
  | .hbm, ⟨48, _⟩ => ⟨S5x512x512, .i32⟩
  | .hbm, ⟨49, _⟩ => ⟨S_, .i32⟩
  | .hbm, ⟨50, _⟩ => ⟨S5x512x512, .i32⟩
  | .hbm, ⟨51, _⟩ => ⟨S5x512x512, .i32⟩
  | .hbm, ⟨52, _⟩ => ⟨S_, .i32⟩
  | .hbm, ⟨53, _⟩ => ⟨S5x512x512, .i32⟩
  | .hbm, ⟨54, _⟩ => ⟨S5x512x512, .i1⟩
  | .hbm, ⟨55, _⟩ => ⟨S5x512x512, .i32⟩
  | .hbm, ⟨56, _⟩ => ⟨S5x512x512, .i32⟩
  | .hbm, ⟨57, _⟩ => ⟨S5x512x512, .i32⟩
  | .hbm, ⟨58, _⟩ => ⟨S_, .i32⟩
  | .hbm, ⟨59, _⟩ => ⟨S5x512x512, .i32⟩
  | .hbm, ⟨60, _⟩ => ⟨S5x512x512, .i1⟩
  | .hbm, ⟨61, _⟩ => ⟨S_, .i32⟩
  | .hbm, ⟨62, _⟩ => ⟨S5x512x512, .i32⟩
  | .hbm, ⟨63, _⟩ => ⟨S5x512x512, .i32⟩
  | .hbm, ⟨64, _⟩ => ⟨S5x512x512, .i32⟩
  | .hbm, ⟨65, _⟩ => ⟨S5x512x512x1, .i32⟩
  | .hbm, ⟨66, _⟩ => ⟨S5x512x512x4, .f32⟩
  | .hbm, ⟨67, _⟩ => ⟨S4x5x512x512, .f32⟩
  | .hbm, ⟨68, _⟩ => ⟨S4x4096x512, .bf16⟩
  | .hbm, ⟨69, _⟩ => ⟨S4x512x4096, .bf16⟩
  | .hbm, ⟨70, _⟩ => ⟨S1x128, .f32⟩
  | .hbm, ⟨71, _⟩ => ⟨S4x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x5x512x512, .f32⟩
  | .local _ .vmem, ⟨7, _⟩ => ⟨S1x5x512x512, .f32⟩
  | .local _ .vmem, ⟨8, _⟩ => ⟨S4x64, .f32⟩
  | .local _ .vmem, ⟨9, _⟩ => ⟨S1x128, .f32⟩
  | .local _ .vmem, ⟨10, _⟩ => ⟨S1x512x128, .bf16⟩
  | .local _ .vmem, ⟨11, _⟩ => ⟨S1x512x128, .bf16⟩
  | .local _ .vmem, ⟨12, _⟩ => ⟨S2x512x128, .f32⟩
  | .local _ .vmem, ⟨13, _⟩ => ⟨S2x512x256, .f32⟩
  | _, _ => ⟨S4x4096x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 8], ![false, false, false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v66 : BitVec 32 := Scalar.muli arg12 c512_i32
  v66
def k0_off1 (i : grid0.Coords) (k0_t1 : Fin k0_t1_loop.trips) : Fin 4 → Nat :=
  let c0_36 : Index := 0#32
  let c2_i32 : BitVec 32 := 2#32
  let c_m2_i32 : BitVec 32 := 4294967294#32
  let c0_i32 : BitVec 32 := 0#32
  let c1_i32 : BitVec 32 := 1#32
  let arg12 : BitVec 32 := Scf.iv c0_i32 c1_i32 k0_t1
  let arg2 : BitVec 32 := BitVec.ofNat 32 (i 2).val
  let v68 : BitVec 32 := Scalar.subi arg12 arg2
  let v69 : BitVec 32 := Scalar.maxsi c_m2_i32 v68
  let v70 : BitVec 32 := Scalar.minsi c2_i32 v69
  let c2_i32_35 : BitVec 32 := 2#32
  let v71 : BitVec 32 := Scalar.addi v70 c2_i32_35
  let v72 : Index := Scalar.indexCast v71
  let c0_37 : Index := 0#32
  let c0_38 : Index := 0#32
  ![0, v72.toNat, 0, 0]
def k0_off2 (k0_t1 : Fin k0_t1_loop.trips) : Fin 3 → Nat :=
  let c0_40 : Index := 0#32
  let c0_i32 : BitVec 32 := 0#32
  let c1_i32 : BitVec 32 := 1#32
  let arg12 : BitVec 32 := Scf.iv c0_i32 c1_i32 k0_t1
  let c512_i32 : BitVec 32 := 512#32
  let v66 : BitVec 32 := Scalar.muli arg12 c512_i32
  let v67 : BitVec 32 := v66
  let v77 : Index := Scalar.indexCast v67
  let c0_41 : Index := 0#32
  ![0, v77.toNat, 0]
def k0_off3 (k0_t1 : Fin k0_t1_loop.trips) : Fin 3 → Nat :=
  let c0_42 : Index := 0#32
  let c0_43 : Index := 0#32
  let c0_i32 : BitVec 32 := 0#32
  let c1_i32 : BitVec 32 := 1#32
  let arg12 : BitVec 32 := Scf.iv c0_i32 c1_i32 k0_t1
  let c512_i32 : BitVec 32 := 512#32
  let v66 : BitVec 32 := Scalar.muli arg12 c512_i32
  let v67 : BitVec 32 := v66
  let v80 : Index := Scalar.indexCast v67
  ![0, 0, v80.toNat]
def k0_off4 (k0_t1 : Fin k0_t1_loop.trips) : Fin 3 → Nat :=
  let c0_66 : Index := 0#32
  let c64 : Index := 64#32
  let c0_i32 : BitVec 32 := 0#32
  let c1_i32 : BitVec 32 := 1#32
  let arg12 : BitVec 32 := Scf.iv c0_i32 c1_i32 k0_t1
  let c512_i32 : BitVec 32 := 512#32
  let v66 : BitVec 32 := Scalar.muli arg12 c512_i32
  let v67 : BitVec 32 := v66
  let v118 : Index := Scalar.indexCast v67
  ![0, 64, v118.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x5x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffIdeal.lean ====
variable {F : FTy → Type} [FloatOps F] [Named F]
def κ : String → Option EReal := fun
  | "log2e" => some (((Real.log 2)⁻¹ : ℝ) : EReal)
  | "q_scale" => some ((8⁻¹ * (Real.log 2)⁻¹ : ℝ) : EReal)
  | _ => none
-- ==== DiffRefIdeal.lean ====
abbrev S4x4096x8960 : Shape := ⟨3, ![4, 4096, 8960]⟩
abbrev S32x4 : Shape := ⟨2, ![32, 4]⟩
abbrev S4x64 : Shape := ⟨2, ![4, 64]⟩
abbrev S128 : Shape := ⟨1, ![128]⟩
abbrev S4x4096x512 : Shape := ⟨3, ![4, 4096, 512]⟩
abbrev S4x4096x4x2x64 : Shape := ⟨5, ![4, 4096, 4, 2, 64]⟩
abbrev S4x4096x4x128 : Shape := ⟨4, ![4, 4096, 4, 128]⟩
abbrev S1x64 : Shape := ⟨2, ![1, 64]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S4x4x2x4096x4096 : Shape := ⟨5, ![4, 4, 2, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 135
  | .vmem => 0
  | .smem => 0
  | _ => 0

abbrev hbmTy0_0 (i : Nat) : BufTy := match i % 128 with
  | 0 => ⟨S4x4096x8960, .bf16⟩
  | 1 => ⟨S32x4, .f32⟩
  | 2 => ⟨S4x64, .f32⟩
  | 3 => ⟨S128, .f32⟩
  | 4 => ⟨S4x4096x512, .bf16⟩
  | 5 => ⟨S4x4096x512, .f32⟩
  | 6 => ⟨S4x4096x4x2x64, .f32⟩
  | 7 => ⟨S4x4096x512, .bf16⟩
  | 8 => ⟨S4x4096x512, .f32⟩
  | 9 => ⟨S4x4096x4x2x64, .f32⟩
  | 10 => ⟨S4x4096x512, .bf16⟩
  | 11 => ⟨S4x4096x512, .f32⟩
  | 12 => ⟨S4x4096x4x128, .f32⟩
  | 13 => ⟨S1x64, .f32⟩
  | 14 => ⟨S64, .f32⟩
  | 15 => ⟨S1x64, .f32⟩
  | 16 => ⟨S64, .f32⟩
  | 17 => ⟨S64, .f32⟩
  | 18 => ⟨S_, .f32⟩
  | 19 => ⟨S_, .f32⟩
  | 20 => ⟨S_, .f32⟩
  | 21 => ⟨S1x64, .f32⟩
  | 22 => ⟨S64, .f32⟩
  | 23 => ⟨S1x64, .f32⟩
  | 24 => ⟨S64, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4096, .i32⟩
  | 33 => ⟨S1x4096, .i32⟩
  | 34 => ⟨S4096x1, .i32⟩
  | 35 => ⟨S4096x4096, .i32⟩
  | 36 => ⟨S4096x4096, .i32⟩
  | 37 => ⟨S4096x4096, .i32⟩
  | 38 => ⟨S_, .i32⟩
  | 39 => ⟨S4096x4096, .i32⟩
  | 40 => ⟨S4096x4096, .i1⟩
  | 41 => ⟨S_, .i32⟩
  | 42 => ⟨S_, .i32⟩
  | 43 => ⟨S4096x4096, .i32⟩
  | 44 => ⟨S4096x4096, .i32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S4096x4096, .f32⟩
  | 51 => ⟨S_, .f32⟩
  | 52 => ⟨S4096x4096, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S_, .f32⟩
  | 59 => ⟨S4096x4096, .f32⟩
  | 60 => ⟨S4096x4096, .f32⟩
  | 61 => ⟨S4096x4096, .i32⟩
  | 62 => ⟨S_, .i32⟩
  | 63 => ⟨S4096x4096, .i32⟩
  | 64 => ⟨S4096x4096, .i32⟩
  | 65 => ⟨S_, .i32⟩
  | 66 => ⟨S4096x4096, .i32⟩
  | 67 => ⟨S4096x4096, .i32⟩
  | 68 => ⟨S_, .i32⟩
  | 69 => ⟨S4096x4096, .i32⟩
  | 70 => ⟨S4096x4096, .i1⟩
  | 71 => ⟨S4096x4096, .i32⟩
  | 72 => ⟨S4096x4096, .i32⟩
  | 73 => ⟨S4096x4096, .i32⟩
  | 74 => ⟨S_, .i32⟩
  | 75 => ⟨S4096x4096, .i32⟩
  | 76 => ⟨S4096x4096, .i1⟩
  | 77 => ⟨S_, .i32⟩
  | 78 => ⟨S4096x4096, .i32⟩
  | 79 => ⟨S4096x4096, .i32⟩
  | 80 => ⟨S4096x4096, .i32⟩
  | 81 => ⟨S4096x4096x1, .i32⟩
  | 82 => ⟨S4096x4096x4, .f32⟩
  | 83 => ⟨S4x4096x4096, .f32⟩
  | 84 => ⟨S4x4x2x4096x4096, .f32⟩
  | 85 => ⟨S_, .f32⟩
  | 86 => ⟨S4x4x2x4096x4096, .f32⟩
  | 87 => ⟨S4x4x2x4096x4096, .f32⟩
  | 88 => ⟨S1x4x1x4096x4096, .f32⟩
  | 89 => ⟨S4x4x2x4096x4096, .f32⟩
  | 90 => ⟨S4x4x2x4096x4096, .f32⟩
  | 91 => ⟨S_, .f32⟩
  | 92 => ⟨S4x4x2x4096, .f32⟩
  | 93 => ⟨S_, .f32⟩
  | 94 => ⟨S4x4x2x4096, .f32⟩
  | 95 => ⟨S4x4x2x4096, .f32⟩
  | 96 => ⟨S4x4x2x4096x1, .f32⟩
  | 97 => ⟨S4x4x2x4096x4096, .f32⟩
  | 98 => ⟨S4x4x2x4096x4096, .f32⟩
  | 99 => ⟨S4x4x2x4096x4096, .f32⟩
  | 100 => ⟨S_, .f32⟩
  | 101 => ⟨S4x4x2x4096, .f32⟩
  | 102 => ⟨S4x4x2x4096x1, .f32⟩
  | 103 => ⟨S4x4x2x4096x4096, .f32⟩
  | 104 => ⟨S4x4x2x4096x4096, .f32⟩
  | 105 => ⟨S4x4x1x4096x4096, .f32⟩
  | 106 => ⟨S4x4x4096x4096, .f32⟩
  | 107 => ⟨S4x4x1x4096x4096, .f32⟩
  | 108 => ⟨S4x4x4096x4096, .f32⟩
  | 109 => ⟨S4x4x4096x4096, .f32⟩
  | 110 => ⟨S4x4x4096x4096, .f32⟩
  | 111 => ⟨S4x4x4096x4096, .f32⟩
  | 112 => ⟨S4x4x128x4096, .f32⟩
  | 113 => ⟨S4x4096x4x128, .f32⟩
  | 114 => ⟨S4x4096x4x128, .f32⟩
  | 115 => ⟨S_, .f32⟩
  | 116 => ⟨S4x4096x4, .f32⟩
  | 117 => ⟨S4x4096x4x1, .f32⟩
  | 118 => ⟨S_, .f32⟩
  | 119 => ⟨S4x4096x4x1, .f32⟩
  | 120 => ⟨S4x4096x4x1, .f32⟩
  | 121 => ⟨S_, .f32⟩
  | 122 => ⟨S4x4096x4x1, .f32⟩
  | 123 => ⟨S4x4096x4x1, .f32⟩
  | 124 => ⟨S4x4096x4x1, .f32⟩
  | 125 => ⟨S4x4096x4x128, .f32⟩
  | 126 => ⟨S4x4096x4x128, .f32⟩
  | 127 => ⟨S1x1x1x128, .f32⟩
  | _ => ⟨S4x4096x8960, .bf16⟩

abbrev hbmTy0_1 (i : Nat) : BufTy := match i % 128 with
  | 0 => ⟨S4x4096x4x128, .f32⟩
  | 1 => ⟨S4x4096x4x128, .f32⟩
  | 2 => ⟨S_, .f32⟩
  | 3 => ⟨S4x4096x4x128, .f32⟩
  | 4 => ⟨S4x4096x4x128, .f32⟩
  | 5 => ⟨S4x4096x512, .f32⟩
  | 6 => ⟨S4x4096x512, .bf16⟩
  | _ => ⟨S4x4096x8960, .bf16⟩

abbrev hbmTy (i : Nat) : BufTy := match i / 128 with
  | 0 => hbmTy0_0 i
  | 1 => hbmTy0_1 i
  | _ => ⟨S4x4096x8960, .bf16⟩

abbrev bufTy : (tb : Table) → Fin (tcTables nBuf tb) → BufTy
  | .hbm, ⟨i, _⟩ => hbmTy i
  | _, _ => ⟨S4x4096x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_c_3 : Ref sig .tc := ⟨.hbm, 42, rfl⟩
abbrev main_call0_v0 : Ref sig .tc := ⟨.hbm, 43, rfl⟩
abbrev main_call0_v1 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_17 : Ref sig .tc := ⟨.hbm, 115, rfl⟩
abbrev main_v90 : Ref sig .tc := ⟨.hbm, 116, rfl⟩
abbrev main_v91 : Ref sig .tc := ⟨.hbm, 117, rfl⟩
abbrev main_cst_18 : Ref sig .tc := ⟨.hbm, 118, rfl⟩
abbrev main_v92 : Ref sig .tc := ⟨.hbm, 119, rfl⟩
abbrev main_v93 : Ref sig .tc := ⟨.hbm, 120, rfl⟩
abbrev main_cst_19 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_20 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩

abbrev nD : Nat := 1
abbrev τ : Topo := Topo.v7x

variable {F : FTy → Type} [FloatOps F]
-- ==== Diff2.lean ====
abbrev S4x4096x8960 : Shape := ⟨3, ![4, 4096, 8960]⟩
abbrev S32x4 : Shape := ⟨2, ![32, 4]⟩
abbrev S4x64 : Shape := ⟨2, ![4, 64]⟩
abbrev S128 : Shape := ⟨1, ![128]⟩
abbrev S5 : Shape := ⟨1, ![5]⟩
abbrev S_ : Shape := ⟨0, ![]⟩
abbrev S5x1x1 : Shape := ⟨3, ![5, 1, 1]⟩
abbrev S512 : Shape := ⟨1, ![512]⟩
abbrev S1x1x512 : Shape := ⟨3, ![1, 1, 512]⟩
abbrev S5x1x512 : Shape := ⟨3, ![5, 1, 512]⟩
abbrev S1x512x1 : Shape := ⟨3, ![1, 512, 1]⟩
abbrev S5x512x512 : Shape := ⟨3, ![5, 512, 512]⟩
abbrev S5x512x512x1 : Shape := ⟨4, ![5, 512, 512, 1]⟩
abbrev S5x512x512x4 : Shape := ⟨4, ![5, 512, 512, 4]⟩
abbrev S4x5x512x512 : Shape := ⟨4, ![4, 5, 512, 512]⟩
abbrev S4x4096x512 : Shape := ⟨3, ![4, 4096, 512]⟩
abbrev S4x512x4096 : Shape := ⟨3, ![4, 512, 4096]⟩
abbrev S1x128 : Shape := ⟨2, ![1, 128]⟩
abbrev S1x512x128 : Shape := ⟨3, ![1, 512, 128]⟩
abbrev S1x128x4096 : Shape := ⟨3, ![1, 128, 4096]⟩
abbrev S1x4096x128 : Shape := ⟨3, ![1, 4096, 128]⟩
abbrev S1x5x512x512 : Shape := ⟨4, ![1, 5, 512, 512]⟩
abbrev S2x512x128 : Shape := ⟨3, ![2, 512, 128]⟩
abbrev S2x512x256 : Shape := ⟨3, ![2, 512, 256]⟩
abbrev S512x128 : Shape := ⟨2, ![512, 128]⟩
abbrev S512x64 : Shape := ⟨2, ![512, 64]⟩
abbrev S1x1x512x512 : Shape := ⟨4, ![1, 1, 512, 512]⟩
abbrev S512x512 : Shape := ⟨2, ![512, 512]⟩
abbrev S1x64x512 : Shape := ⟨3, ![1, 64, 512]⟩
abbrev S64x512 : Shape := ⟨2, ![64, 512]⟩
abbrev S512x1 : Shape := ⟨2, ![512, 1]⟩
abbrev S1x64 : Shape := ⟨2, ![1, 64]⟩
abbrev S1 : Shape := ⟨1, ![1]⟩
abbrev S1x1 : Shape := ⟨2, ![1, 1]⟩

abbrev nBuf : Space → Nat
  | .hbm => 72
  | .vmem => 14
  | .smem => 0
  | _ => 0

abbrev bufTy : (tb : Table) → Fin (tcTables nBuf tb) → BufTy
  | .hbm, ⟨0, _⟩ => ⟨S4x4096x8960, .bf16⟩
  | .hbm, ⟨1, _⟩ => ⟨S32x4, .f32⟩
  | .hbm, ⟨2, _⟩ => ⟨S4x64, .f32⟩
  | .hbm, ⟨3, _⟩ => ⟨S128, .f32⟩
  | .hbm, ⟨4, _⟩ => ⟨S5, .i32⟩
  | .hbm, ⟨5, _⟩ => ⟨S_, .i32⟩
  | .hbm, ⟨6, _⟩ => ⟨S5, .i32⟩
  | .hbm, ⟨7, _⟩ => ⟨S5, .i32⟩
  | .hbm, ⟨8, _⟩ => ⟨S5x1x1, .i32⟩
  | .hbm, ⟨9, _⟩ => ⟨S_, .i32⟩
  | .hbm, ⟨10, _⟩ => ⟨S5x1x1, .i32⟩
  | .hbm, ⟨11, _⟩ => ⟨S5x1x1, .i32⟩
  | .hbm, ⟨12, _⟩ => ⟨S512, .i32⟩
  | .hbm, ⟨13, _⟩ => ⟨S1x1x512, .i32⟩
  | .hbm, ⟨14, _⟩ => ⟨S5x1x512, .i32⟩
  | .hbm, ⟨15, _⟩ => ⟨S5x1x512, .i32⟩
  | .hbm, ⟨16, _⟩ => ⟨S5x1x512, .i32⟩
  | .hbm, ⟨17, _⟩ => ⟨S512, .i32⟩
  | .hbm, ⟨18, _⟩ => ⟨S1x512x1, .i32⟩
  | .hbm, ⟨19, _⟩ => ⟨S5x512x512, .i32⟩
  | .hbm, ⟨20, _⟩ => ⟨S5x512x512, .i32⟩
  | .hbm, ⟨21, _⟩ => ⟨S5x512x512, .i32⟩
  | .hbm, ⟨22, _⟩ => ⟨S_, .i32⟩
  | .hbm, ⟨23, _⟩ => ⟨S5x512x512, .i32⟩
  | .hbm, ⟨24, _⟩ => ⟨S5x512x512, .i1⟩
  | .hbm, ⟨25, _⟩ => ⟨S_, .i32⟩
  | .hbm, ⟨26, _⟩ => ⟨S_, .i32⟩
  | .hbm, ⟨27, _⟩ => ⟨S5x512x512, .i32⟩
  | .hbm, ⟨28, _⟩ => ⟨S5x512x512, .i32⟩
  | .hbm, ⟨29, _⟩ => ⟨S5x512x512, .i32⟩
  | .hbm, ⟨30, _⟩ => ⟨S5x512x512, .i32⟩
  | .hbm, ⟨31, _⟩ => ⟨S_, .i32⟩
  | .hbm, ⟨32, _⟩ => ⟨S5x512x512, .i32⟩
  | .hbm, ⟨33, _⟩ => ⟨S5x512x512, .i32⟩
  | .hbm, ⟨34, _⟩ => ⟨S5x512x512, .f32⟩
  | .hbm, ⟨35, _⟩ => ⟨S_, .f32⟩
  | .hbm, ⟨36, _⟩ => ⟨S5x512x512, .f32⟩
  | .hbm, ⟨37, _⟩ => ⟨S5x512x512, .f32⟩
  | .hbm, ⟨38, _⟩ => ⟨S5x512x512, .f32⟩
  | .hbm, ⟨39, _⟩ => ⟨S_, .f32⟩
  | .hbm, ⟨40, _⟩ => ⟨S5x512x512, .f32⟩
  | .hbm, ⟨41, _⟩ => ⟨S5x512x512, .f32⟩
  | .hbm, ⟨42, _⟩ => ⟨S_, .f32⟩
  | .hbm, ⟨43, _⟩ => ⟨S5x512x512, .f32⟩
  | .hbm, ⟨44, _⟩ => ⟨S5x512x512, .f32⟩
  | .hbm, ⟨45, _⟩ => ⟨S5x512x512, .i32⟩
  | .hbm, ⟨46, _⟩ => ⟨S_, .i32⟩
  | .hbm, ⟨47, _⟩ => ⟨S5x512x512, .i32⟩
  | .hbm, ⟨48, _⟩ => ⟨S5x512x512, .i32⟩
  | .hbm, ⟨49, _⟩ => ⟨S_, .i32⟩
  | .hbm, ⟨50, _⟩ => ⟨S5x512x512, .i32⟩
  | .hbm, ⟨51, _⟩ => ⟨S5x512x512, .i32⟩
  | .hbm, ⟨52, _⟩ => ⟨S_, .i32⟩
  | .hbm, ⟨53, _⟩ => ⟨S5x512x512, .i32⟩
  | .hbm, ⟨54, _⟩ => ⟨S5x512x512, .i1⟩
  | .hbm, ⟨55, _⟩ => ⟨S5x512x512, .i32⟩
  | .hbm, ⟨56, _⟩ => ⟨S5x512x512, .i32⟩
  | .hbm, ⟨57, _⟩ => ⟨S5x512x512, .i32⟩
  | .hbm, ⟨58, _⟩ => ⟨S_, .i32⟩
  | .hbm, ⟨59, _⟩ => ⟨S5x512x512, .i32⟩
  | .hbm, ⟨60, _⟩ => ⟨S5x512x512, .i1⟩
  | .hbm, ⟨61, _⟩ => ⟨S_, .i32⟩
  | .hbm, ⟨62, _⟩ => ⟨S5x512x512, .i32⟩
  | .hbm, ⟨63, _⟩ => ⟨S5x512x512, .i32⟩
  | .hbm, ⟨64, _⟩ => ⟨S5x512x512, .i32⟩
  | .hbm, ⟨65, _⟩ => ⟨S5x512x512x1, .i32⟩
  | .hbm, ⟨66, _⟩ => ⟨S5x512x512x4, .f32⟩
  | .hbm, ⟨67, _⟩ => ⟨S4x5x512x512, .f32⟩
  | .hbm, ⟨68, _⟩ => ⟨S4x4096x512, .bf16⟩
  | .hbm, ⟨69, _⟩ => ⟨S4x512x4096, .bf16⟩
  | .hbm, ⟨70, _⟩ => ⟨S1x128, .f32⟩
  | .hbm, ⟨71, _⟩ => ⟨S4x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x5x512x512, .f32⟩
  | .local _ .vmem, ⟨7, _⟩ => ⟨S1x5x512x512, .f32⟩
  | .local _ .vmem, ⟨8, _⟩ => ⟨S4x64, .f32⟩
  | .local _ .vmem, ⟨9, _⟩ => ⟨S1x128, .f32⟩
  | .local _ .vmem, ⟨10, _⟩ => ⟨S1x512x128, .bf16⟩
  | .local _ .vmem, ⟨11, _⟩ => ⟨S1x512x128, .bf16⟩
  | .local _ .vmem, ⟨12, _⟩ => ⟨S2x512x128, .f32⟩
  | .local _ .vmem, ⟨13, _⟩ => ⟨S2x512x256, .f32⟩
  | _, _ => ⟨S4x4096x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 8], ![false, false, false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v66 : BitVec 32 := Scalar.muli arg12 c512_i32
  v66
def k0_off1 (i : grid0.Coords) (k0_t1 : Fin k0_t1_loop.trips) : Fin 4 → Nat :=
  let c0_36 : Index := 0#32
  let c2_i32 : BitVec 32 := 2#32
  let c_m2_i32 : BitVec 32 := 4294967294#32
  let c0_i32 : BitVec 32 := 0#32
  let c1_i32 : BitVec 32 := 1#32
  let arg12 : BitVec 32 := Scf.iv c0_i32 c1_i32 k0_t1
  let arg2 : BitVec 32 := BitVec.ofNat 32 (i 2).val
  let v68 : BitVec 32 := Scalar.subi arg12 arg2
  let v69 : BitVec 32 := Scalar.maxsi c_m2_i32 v68
  let v70 : BitVec 32 := Scalar.minsi c2_i32 v69
  let c2_i32_35 : BitVec 32 := 2#32
  let v71 : BitVec 32 := Scalar.addi v70 c2_i32_35
  let v72 : Index := Scalar.indexCast v71
  let c0_37 : Index := 0#32
  let c0_38 : Index := 0#32
  ![0, v72.toNat, 0, 0]
def k0_off2 (k0_t1 : Fin k0_t1_loop.trips) : Fin 3 → Nat :=
  let c0_40 : Index := 0#32
  let c0_i32 : BitVec 32 := 0#32
  let c1_i32 : BitVec 32 := 1#32
  let arg12 : BitVec 32 := Scf.iv c0_i32 c1_i32 k0_t1
  let c512_i32 : BitVec 32 := 512#32
  let v66 : BitVec 32 := Scalar.muli arg12 c512_i32
  let v67 : BitVec 32 := v66
  let v77 : Index := Scalar.indexCast v67
  let c0_41 : Index := 0#32
  ![0, v77.toNat, 0]
def k0_off3 (k0_t1 : Fin k0_t1_loop.trips) : Fin 3 → Nat :=
  let c0_42 : Index := 0#32
  let c0_43 : Index := 0#32
  let c0_i32 : BitVec 32 := 0#32
  let c1_i32 : BitVec 32 := 1#32
  let arg12 : BitVec 32 := Scf.iv c0_i32 c1_i32 k0_t1
  let c512_i32 : BitVec 32 := 512#32
  let v66 : BitVec 32 := Scalar.muli arg12 c512_i32
  let v67 : BitVec 32 := v66
  let v80 : Index := Scalar.indexCast v67
  ![0, 0, v80.toNat]
def k0_off4 (k0_t1 : Fin k0_t1_loop.trips) : Fin 3 → Nat :=
  let c0_66 : Index := 0#32
  let c64 : Index := 64#32
  let c0_i32 : BitVec 32 := 0#32
  let c1_i32 : BitVec 32 := 1#32
  let arg12 : BitVec 32 := Scf.iv c0_i32 c1_i32 k0_t1
  let c512_i32 : BitVec 32 := 512#32
  let v66 : BitVec 32 := Scalar.muli arg12 c512_i32
  let v67 : BitVec 32 := v66
  let v118 : Index := Scalar.indexCast v67
  ![0, 64, v118.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x5x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Diff2Ideal.lean ====
variable {F : FTy → Type} [FloatOps F] [Named F]
def κ : String → Option EReal := fun
  | "log2e" => some (((Real.log 2)⁻¹ : ℝ) : EReal)
  | "q_scale" => some ((8⁻¹ * (Real.log 2)⁻¹ : ℝ) : EReal)
  | _ => none
-- ==== Diff2RefIdeal.lean ====
abbrev S4x4096x8960 : Shape := ⟨3, ![4, 4096, 8960]⟩
abbrev S32x4 : Shape := ⟨2, ![32, 4]⟩
abbrev S4x64 : Shape := ⟨2, ![4, 64]⟩
abbrev S128 : Shape := ⟨1, ![128]⟩
abbrev S4x4096x512 : Shape := ⟨3, ![4, 4096, 512]⟩
abbrev S4x4096x4x2x64 : Shape := ⟨5, ![4, 4096, 4, 2, 64]⟩
abbrev S4x4096x4x128 : Shape := ⟨4, ![4, 4096, 4, 128]⟩
abbrev S1x64 : Shape := ⟨2, ![1, 64]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S4x4x2x4096x4096 : Shape := ⟨5, ![4, 4, 2, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 135
  | .vmem => 0
  | .smem => 0
  | _ => 0

abbrev hbmTy0_0 (i : Nat) : BufTy := match i % 128 with
  | 0 => ⟨S4x4096x8960, .bf16⟩
  | 1 => ⟨S32x4, .f32⟩
  | 2 => ⟨S4x64, .f32⟩
  | 3 => ⟨S128, .f32⟩
  | 4 => ⟨S4x4096x512, .bf16⟩
  | 5 => ⟨S4x4096x512, .f32⟩
  | 6 => ⟨S4x4096x4x2x64, .f32⟩
  | 7 => ⟨S4x4096x512, .bf16⟩
  | 8 => ⟨S4x4096x512, .f32⟩
  | 9 => ⟨S4x4096x4x2x64, .f32⟩
  | 10 => ⟨S4x4096x512, .bf16⟩
  | 11 => ⟨S4x4096x512, .f32⟩
  | 12 => ⟨S4x4096x4x128, .f32⟩
  | 13 => ⟨S1x64, .f32⟩
  | 14 => ⟨S64, .f32⟩
  | 15 => ⟨S1x64, .f32⟩
  | 16 => ⟨S64, .f32⟩
  | 17 => ⟨S64, .f32⟩
  | 18 => ⟨S_, .f32⟩
  | 19 => ⟨S_, .f32⟩
  | 20 => ⟨S_, .f32⟩
  | 21 => ⟨S1x64, .f32⟩
  | 22 => ⟨S64, .f32⟩
  | 23 => ⟨S1x64, .f32⟩
  | 24 => ⟨S64, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4096, .i32⟩
  | 33 => ⟨S1x4096, .i32⟩
  | 34 => ⟨S4096x1, .i32⟩
  | 35 => ⟨S4096x4096, .i32⟩
  | 36 => ⟨S4096x4096, .i32⟩
  | 37 => ⟨S4096x4096, .i32⟩
  | 38 => ⟨S_, .i32⟩
  | 39 => ⟨S4096x4096, .i32⟩
  | 40 => ⟨S4096x4096, .i1⟩
  | 41 => ⟨S_, .i32⟩
  | 42 => ⟨S_, .i32⟩
  | 43 => ⟨S4096x4096, .i32⟩
  | 44 => ⟨S4096x4096, .i32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S4096x4096, .f32⟩
  | 51 => ⟨S_, .f32⟩
  | 52 => ⟨S4096x4096, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S_, .f32⟩
  | 59 => ⟨S4096x4096, .f32⟩
  | 60 => ⟨S4096x4096, .f32⟩
  | 61 => ⟨S4096x4096, .i32⟩
  | 62 => ⟨S_, .i32⟩
  | 63 => ⟨S4096x4096, .i32⟩
  | 64 => ⟨S4096x4096, .i32⟩
  | 65 => ⟨S_, .i32⟩
  | 66 => ⟨S4096x4096, .i32⟩
  | 67 => ⟨S4096x4096, .i32⟩
  | 68 => ⟨S_, .i32⟩
  | 69 => ⟨S4096x4096, .i32⟩
  | 70 => ⟨S4096x4096, .i1⟩
  | 71 => ⟨S4096x4096, .i32⟩
  | 72 => ⟨S4096x4096, .i32⟩
  | 73 => ⟨S4096x4096, .i32⟩
  | 74 => ⟨S_, .i32⟩
  | 75 => ⟨S4096x4096, .i32⟩
  | 76 => ⟨S4096x4096, .i1⟩
  | 77 => ⟨S_, .i32⟩
  | 78 => ⟨S4096x4096, .i32⟩
  | 79 => ⟨S4096x4096, .i32⟩
  | 80 => ⟨S4096x4096, .i32⟩
  | 81 => ⟨S4096x4096x1, .i32⟩
  | 82 => ⟨S4096x4096x4, .f32⟩
  | 83 => ⟨S4x4096x4096, .f32⟩
  | 84 => ⟨S4x4x2x4096x4096, .f32⟩
  | 85 => ⟨S_, .f32⟩
  | 86 => ⟨S4x4x2x4096x4096, .f32⟩
  | 87 => ⟨S4x4x2x4096x4096, .f32⟩
  | 88 => ⟨S1x4x1x4096x4096, .f32⟩
  | 89 => ⟨S4x4x2x4096x4096, .f32⟩
  | 90 => ⟨S4x4x2x4096x4096, .f32⟩
  | 91 => ⟨S_, .f32⟩
  | 92 => ⟨S4x4x2x4096, .f32⟩
  | 93 => ⟨S_, .f32⟩
  | 94 => ⟨S4x4x2x4096, .f32⟩
  | 95 => ⟨S4x4x2x4096, .f32⟩
  | 96 => ⟨S4x4x2x4096x1, .f32⟩
  | 97 => ⟨S4x4x2x4096x4096, .f32⟩
  | 98 => ⟨S4x4x2x4096x4096, .f32⟩
  | 99 => ⟨S4x4x2x4096x4096, .f32⟩
  | 100 => ⟨S_, .f32⟩
  | 101 => ⟨S4x4x2x4096, .f32⟩
  | 102 => ⟨S4x4x2x4096x1, .f32⟩
  | 103 => ⟨S4x4x2x4096x4096, .f32⟩
  | 104 => ⟨S4x4x2x4096x4096, .f32⟩
  | 105 => ⟨S4x4x1x4096x4096, .f32⟩
  | 106 => ⟨S4x4x4096x4096, .f32⟩
  | 107 => ⟨S4x4x1x4096x4096, .f32⟩
  | 108 => ⟨S4x4x4096x4096, .f32⟩
  | 109 => ⟨S4x4x4096x4096, .f32⟩
  | 110 => ⟨S4x4x4096x4096, .f32⟩
  | 111 => ⟨S4x4x4096x4096, .f32⟩
  | 112 => ⟨S4x4x128x4096, .f32⟩
  | 113 => ⟨S4x4096x4x128, .f32⟩
  | 114 => ⟨S4x4096x4x128, .f32⟩
  | 115 => ⟨S_, .f32⟩
  | 116 => ⟨S4x4096x4, .f32⟩
  | 117 => ⟨S4x4096x4x1, .f32⟩
  | 118 => ⟨S_, .f32⟩
  | 119 => ⟨S4x4096x4x1, .f32⟩
  | 120 => ⟨S4x4096x4x1, .f32⟩
  | 121 => ⟨S_, .f32⟩
  | 122 => ⟨S4x4096x4x1, .f32⟩
  | 123 => ⟨S4x4096x4x1, .f32⟩
  | 124 => ⟨S4x4096x4x1, .f32⟩
  | 125 => ⟨S4x4096x4x128, .f32⟩
  | 126 => ⟨S4x4096x4x128, .f32⟩
  | 127 => ⟨S1x1x1x128, .f32⟩
  | _ => ⟨S4x4096x8960, .bf16⟩

abbrev hbmTy0_1 (i : Nat) : BufTy := match i % 128 with
  | 0 => ⟨S4x4096x4x128, .f32⟩
  | 1 => ⟨S4x4096x4x128, .f32⟩
  | 2 => ⟨S_, .f32⟩
  | 3 => ⟨S4x4096x4x128, .f32⟩
  | 4 => ⟨S4x4096x4x128, .f32⟩
  | 5 => ⟨S4x4096x512, .f32⟩
  | 6 => ⟨S4x4096x512, .bf16⟩
  | _ => ⟨S4x4096x8960, .bf16⟩

abbrev hbmTy (i : Nat) : BufTy := match i / 128 with
  | 0 => hbmTy0_0 i
  | 1 => hbmTy0_1 i
  | _ => ⟨S4x4096x8960, .bf16⟩

abbrev bufTy : (tb : Table) → Fin (tcTables nBuf tb) → BufTy
  | .hbm, ⟨i, _⟩ => hbmTy i
  | _, _ => ⟨S4x4096x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_c_3 : Ref sig .tc := ⟨.hbm, 42, rfl⟩
abbrev main_call0_v0 : Ref sig .tc := ⟨.hbm, 43, rfl⟩
abbrev main_call0_v1 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_17 : Ref sig .tc := ⟨.hbm, 115, rfl⟩
abbrev main_v90 : Ref sig .tc := ⟨.hbm, 116, rfl⟩
abbrev main_v91 : Ref sig .tc := ⟨.hbm, 117, rfl⟩
abbrev main_cst_18 : Ref sig .tc := ⟨.hbm, 118, rfl⟩
abbrev main_v92 : Ref sig .tc := ⟨.hbm, 119, rfl⟩
abbrev main_v93 : Ref sig .tc := ⟨.hbm, 120, rfl⟩
abbrev main_cst_19 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_20 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩

abbrev nD : Nat := 1
abbrev τ : Topo := Topo.v7x

variable {F : FTy → Type} [FloatOps F]
-- ==== Ffn1.lean ====
abbrev S16384x5632 : Shape := ⟨2, ![16384, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S1024 : Shape := ⟨1, ![1024]⟩
abbrev S1x2816 : Shape := ⟨2, ![1, 2816]⟩
abbrev S1x1024 : Shape := ⟨2, ![1, 1024]⟩
abbrev S256x2816 : Shape := ⟨2, ![256, 2816]⟩
abbrev S16x2816 : Shape := ⟨2, ![16, 2816]⟩
abbrev S256x1024 : Shape := ⟨2, ![256, 1024]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x5632, .bf16⟩
  | .hbm, ⟨1, _⟩ => ⟨S3x2816, .f32⟩
  | .hbm, ⟨2, _⟩ => ⟨S2816, .f32⟩
  | .hbm, ⟨3, _⟩ => ⟨S2816x1024, .f32⟩
  | .hbm, ⟨4, _⟩ => ⟨S16384x1024, .f32⟩
  | .hbm, ⟨5, _⟩ => ⟨S1024, .f32⟩
  | .hbm, ⟨6, _⟩ => ⟨S2816x1024, .bf16⟩
  | .hbm, ⟨7, _⟩ => ⟨S1x2816, .f32⟩
  | .hbm, ⟨8, _⟩ => ⟨S1x1024, .f32⟩
  | .hbm, ⟨9, _⟩ => ⟨S16384x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S16x2816, .bf16⟩
  | .local _ .vmem, ⟨5, _⟩ => ⟨S16x2816, .bf16⟩
  | .local _ .vmem, ⟨6, _⟩ => ⟨S16x2816, .bf16⟩
  | .local _ .vmem, ⟨7, _⟩ => ⟨S16x2816, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Ffn1RefIdeal.lean ====
abbrev S16384x5632 : Shape := ⟨2, ![16384, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S1024 : Shape := ⟨1, ![1024]⟩
abbrev S4x4096x5632 : Shape := ⟨3, ![4, 4096, 5632]⟩
abbrev S4x4096x2816 : Shape := ⟨3, ![4, 4096, 2816]⟩
abbrev S_ : Shape := ⟨0, ![]⟩
abbrev S4x4098x2816 : Shape := ⟨3, ![4, 4098, 2816]⟩
abbrev S1x2816 : Shape := ⟨2, ![1, 2816]⟩
abbrev S1x1x2816 : Shape := ⟨3, ![1, 1, 2816]⟩
abbrev S4x4096x1024 : Shape := ⟨3, ![4, 4096, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S3x2816, .f32⟩
  | .hbm, ⟨2, _⟩ => ⟨S2816, .f32⟩
  | .hbm, ⟨3, _⟩ => ⟨S2816x1024, .f32⟩
  | .hbm, ⟨4, _⟩ => ⟨S16384x1024, .f32⟩
  | .hbm, ⟨5, _⟩ => ⟨S1024, .f32⟩
  | .hbm, ⟨6, _⟩ => ⟨S16384x5632, .f32⟩
  | .hbm, ⟨7, _⟩ => ⟨S4x4096x5632, .f32⟩
  | .hbm, ⟨8, _⟩ => ⟨S4x4096x2816, .f32⟩
  | .hbm, ⟨9, _⟩ => ⟨S4x4096x2816, .f32⟩
  | .hbm, ⟨10, _⟩ => ⟨S_, .i32⟩
  | .hbm, ⟨11, _⟩ => ⟨S_, .f32⟩
  | .hbm, ⟨12, _⟩ => ⟨S4x4098x2816, .f32⟩
  | .hbm, ⟨13, _⟩ => ⟨S4x4096x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S4x4096x2816, .f32⟩
  | .hbm, ⟨18, _⟩ => ⟨S4x4096x2816, .f32⟩
  | .hbm, ⟨19, _⟩ => ⟨S_, .f32⟩
  | .hbm, ⟨20, _⟩ => ⟨S4x4096x2816, .f32⟩
  | .hbm, ⟨21, _⟩ => ⟨S4x4096x2816, .f32⟩
  | .hbm, ⟨22, _⟩ => ⟨S4x4096x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S1x1x2816, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S_, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S_, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x1024, .f32⟩
  | .hbm, ⟨58, _⟩ => ⟨S16384x1024, .f32⟩
  | .hbm, ⟨59, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.Gqa.Loop.lean ====
/- What the loop over the key blocks leaves in the two carried arrays of the attention kernel, and the block it writes. -/
module

public import proofs.«01_k».proof.Proof.Gen.GqaIdeal.Value
public import Idealize.ShloMosaic.Lib.Pipeline.ValueKit
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.GqaIdeal.Value

open Cert.GqaIdeal Cert.GqaIdeal.Gen

variable (m : (ℓ : Loc nD τ sig) → Buf (Elt Ideal) ℓ)

/-- The block of 1024 keys that trip `k` reads. -/
abbrev KB (x1 : Vec Ideal S1x64x4096 .bf16) (k : Fin k0_t1_loop.trips) : Vec Ideal S1x64x1024 .bf16 :=
  View.ld x1 (Rect.unit (s := S1x64x4096) (k0_off1 k) S1x64x1024.size (k0_off1_inb k))

/-- The block of 1024 values, with the ones beside them, that trip `k` reads. -/
abbrev VB (x2 : Vec Ideal S1x4096x128 .bf16) (k : Fin k0_t1_loop.trips) : Vec Ideal S1x1024x128 .bf16 :=
  View.ld x2 (Rect.unit (s := S1x4096x128) (k0_off2 k) S1x1024x128.size (k0_off2_inb k))

/-- The running maximum and the running weighted sums after `n` trips. -/
def st (v0 : Vec Ideal S1x128x256 .bf16) (x1 : Vec Ideal S1x64x4096 .bf16) (x2 : Vec Ideal S1x4096x128 .bf16) :
    ℕ → Vec Ideal S512x128 .f32 × Vec Ideal S512x128 .f32
  | 0 => (k0_pay1 (F := Ideal), k0_pay2 (F := Ideal))
  | n + 1 => if h : n < k0_t1_loop.trips then
      (k0_pay6 v0 (KB x1 ⟨n, h⟩) (st v0 x1 x2 n).1, k0_pay5 v0 (KB x1 ⟨n, h⟩) (VB x2 ⟨n, h⟩) (st v0 x1 x2 n).1 (st v0 x1 x2 n).2)
    else st v0 x1 x2 n

section
variable (c : Dev nD) (i : grid0.Coords) (arg3 : Memref sig .tc .vmem S1x128x256 .bf16) (harg3 : arg3.IsWhole) (arg4 : Memref sig .tc .vmem S1x64x4096 .bf16) (harg4 : arg4.IsWhole) (arg5 : Memref sig .tc .vmem S1x4096x128 .bf16) (harg5 : arg5.IsWhole) (arg6 : Memref sig .tc .vmem S1x128x256 .bf16) (harg6 : arg6.IsWhole) (arg7 : Memref sig .tc .vmem S512x128 .f32) (harg7 : arg7.IsWhole) (arg8 : Memref sig .tc .vmem S512x128 .f32) (harg8 : arg8.IsWhole) (v0 : Vec Ideal S1x128x256 .bf16)
    (X4 : BufTy.Contents (Elt Ideal) arg4.view.ty) (X5 : BufTy.Contents (Elt Ideal) arg5.view.ty)

theorem hz : (![0, 0] : Fin 2 → Nat) = fun _ => 0 := funext fun a => by fin_cases a <;> rfl

/-- One trip stores the new maximum and the new sums, each over the whole of its array. -/
theorem trip (k : Fin k0_t1_loop.trips) (f7 : BufTy.Contents (Elt Ideal) arg7.view.ty) (f8 : BufTy.Contents (Elt Ideal) arg8.view.ty) :
    tripL_k0_t1 (F := Ideal) Variants.none c none i arg3 harg3 arg4 harg4 arg5 harg5 arg6 harg6 arg7 harg7 arg8 harg8 v0 X4 X5 k f7 f8
    = ([⟨Rect.unit ![0, 0] S512x128.size inb_S512x128_S512x128_0_0,
        k0_pay6 v0 (KB (arg4.view.read (Elt Ideal) X4) k) (arg7.view.read (Elt Ideal) f7)⟩],
       [⟨Rect.unit ![0, 0] S512x128.size inb_S512x128_S512x128_0_0,
        k0_pay5 v0 (KB (arg4.view.read (Elt Ideal) X4) k) (VB (arg5.view.read (Elt Ideal) X5) k) (arg7.view.read (Elt Ideal) f7) (arg8.view.read (Elt Ideal) f8)⟩]) := by
  unfold tripL_k0_t1 trip_k0_t1
  dsimp only
  simp only [View.readAt_eq_ld]
  rw [show (View.ld (arg7.view.read (Elt Ideal) f7) (Rect.unit ![0, 0] ![512, 128] inb_S512x128_S512x128_0_0)) = arg7.view.read (Elt Ideal) f7 from View.ld_unit_zero (S := S512x128) hz _ _,
    show (View.ld (arg8.view.read (Elt Ideal) f8) (Rect.unit ![0, 0] ![512, 128] inb_S512x128_S512x128_0_0)) = arg8.view.read (Elt Ideal) f8 from View.ld_unit_zero (S := S512x128) hz _ _]

/-- After `n` trips the two arrays hold the state `st n`. -/
theorem carried (G7 : BufTy.Contents (Elt Ideal) arg7.view.ty) (G8 : BufTy.Contents (Elt Ideal) arg8.view.ty)
    (h7 : arg7.view.read (Elt Ideal) G7 = k0_pay1 (F := Ideal)) (h8 : arg8.view.read (Elt Ideal) G8 = k0_pay2 (F := Ideal)) : ∀ n, n ≤ k0_t1_loop.trips →
    arg7.view.read (Elt Ideal) (arg7.view.writes (Elt Ideal) G7 (pb_k0_t1 (F := Ideal) Variants.none c none i arg3 harg3 arg4 harg4 arg5 harg5 arg6 harg6 arg7 harg7 arg8 harg8 v0 X4 X5 G7 G8 n).1)
      = (st v0 (arg4.view.read (Elt Ideal) X4) (arg5.view.read (Elt Ideal) X5) n).1
    ∧ arg8.view.read (Elt Ideal) (arg8.view.writes (Elt Ideal) G8 (pb_k0_t1 (F := Ideal) Variants.none c none i arg3 harg3 arg4 harg4 arg5 harg5 arg6 harg6 arg7 harg7 arg8 harg8 v0 X4 X5 G7 G8 n).2)
      = (st v0 (arg4.view.read (Elt Ideal) X4) (arg5.view.read (Elt Ideal) X5) n).2
  | 0, _ => ⟨h7, h8⟩
  | n + 1, hn => by
    have ih := carried G7 G8 h7 h8 n (Nat.le_of_succ_le hn)
    have e := pb_k0_t1_succ (F := Ideal) Variants.none c none i arg3 harg3 arg4 harg4 arg5 harg5 arg6 harg6 arg7 harg7 arg8 harg8 v0 X4 X5 G7 G8 ⟨n, hn⟩
    rw [trip] at e
    dsimp only at e
    rw [ih.1, ih.2] at e
    have s1 : st v0 (arg4.view.read (Elt Ideal) X4) (arg5.view.read (Elt Ideal) X5) (n + 1) = _ := dif_pos hn
    rw [e, s1]
    exact ⟨View.read_writes_full _ _ _ _ _, View.read_writes_full _ _ _ _ _⟩

end

/-- The block the body writes at point `t`: the last step applied to the sums after the four trips. -/
theorem block (c : Dev nD) (t : Fin cfg0.N) :
    outsAt0 m c t = k0_pay7 (st (iblk m c 0 t) (iblk m c 1 t) (iblk m c 2 t) 4).2 := by
  unfold outsAt0
  unfold out0_A_3
  rw [View.read_writes_eq_canon _ _ _ (cover0_A_3 _ _ _ _ _ _ _ _ _ _ _ _ _ _ _ _ _)]
  unfold kernelRun0_A
  dsimp only
  sl_unfold_words
  rw [View.canon_unit_zero (S := S1x128x256) (funext fun a => by fin_cases a <;> rfl)]
  refine congrArg k0_pay7 ?_
  unfold View.readCov
  rw [View.readAt_eq_ld, View.ld_unit_zero (S := S512x128) hz, View.writes_append, View.readAt_eq_ld, View.ld_unit_zero (S := S1x128x256) (funext fun a => by fin_cases a <;> rfl)]
  have e := (carried c (grid0.coords t) (ms0_0 t) (hs0_0 t) (ms0_1 t) (hs0_1 t) (ms0_2 t) (hs0_2 t) (ms0_3 t) (hs0_3 t) scM0_0 (Memref.isWhole_whole _) scM0_1 (Memref.isWhole_whole _)
    ((ms0_0 t).view.read (Elt Ideal) ((hs0_0 t).unread (iblk m c 0 t))) ((hs0_1 t).unread (iblk m c 1 t)) ((hs0_2 t).unread (iblk m c 2 t)) (scM0_0.view.writes (Elt Ideal) scM0_0.view.junk [⟨Rect.unit ![0, 0] S512x128.size inb_S512x128_S512x128_0_0, k0_pay1 (F := Ideal)⟩]) (scM0_1.view.writes (Elt Ideal) scM0_1.view.junk [⟨Rect.unit ![0, 0] S512x128.size inb_S512x128_S512x128_0_0, k0_pay2 (F := Ideal)⟩])
    (View.read_writes_full (Val := Elt Ideal) (s := S512x128) scM0_0.view scM0_0.view.junk (off := ![0, 0]) inb_S512x128_S512x128_0_0 (k0_pay1 (F := Ideal)) [])
    (View.read_writes_full (Val := Elt Ideal) (s := S512x128) scM0_1.view scM0_1.view.junk (off := ![0, 0]) inb_S512x128_S512x128_0_0 (k0_pay2 (F := Ideal)) []) 4 (by decide +kernel)).2
  rw [(hs0_0 t).read_unread, (hs0_1 t).read_unread, (hs0_2 t).read_unread] at e
  rw [(hs0_0 t).read_unread]
  exact e

end Cert.GqaIdeal.Value

end
-- ==== Proof.Gqa.Point.lean ====
module

public import proofs.«01_k».proof.Proof.Gqa.Loop
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.GqaIdeal.Value

open Cert.GqaIdeal Cert.GqaIdeal.Gen

/-- The score of query `q` of head `h` with key `j` of the block: the dot product, the query scaled. -/
theorem scores (v0 : Vec Ideal S1x128x256 .bf16) (kb : Vec Ideal S1x64x1024 .bf16) (h : Fin 4) (q : Fin 128) (j : Fin 1024) :
    k0_pay3 v0 kb (ix2 ⟨128 * h.val + q.val, by omega⟩ j)
    = ∑ d : Fin 64, (v0 (ix3 0 q ⟨64 * h.val + d.val, by omega⟩) : EReal) * ((8⁻¹ * (Real.log 2)⁻¹ : ℝ) : EReal) * kb (ix3 0 d j) := by
  pointwise [k0_pay3]
  refine Finset.sum_congr rfl fun x _ => ?_
  refine congrArg (· * _) ?_
  have e (a b : ℕ) (ha hb) (ha' : a = q.val) (hb' : b = 64 * h.val + x.val) : (v0 (ix3 0 ⟨a, ha⟩ ⟨b, hb⟩) : EReal) * Named.named (φ := .f32) (F := Ideal) κ "q_scale" 0x3E38AA3B#32
      = v0 (ix3 0 q ⟨64 * h.val + x.val, by omega⟩) * ((8⁻¹ * (Real.log 2)⁻¹ : ℝ) : EReal) := by
    subst ha' hb'
    exact congrArg (v0 _ * ·) (IdealRules.named_const.ideal_named_scalar _ _ _ _ rfl)
  have := h.isLt
  split_ifs <;> exact e _ _ _ _ (by omega) (by omega)

/-- The new maximum: the old one against the greatest score of the block. -/
theorem mx (v0 : Vec Ideal S1x128x256 .bf16) (kb : Vec Ideal S1x64x1024 .bf16) (mp : Vec Ideal S512x128 .f32) (r : Fin 512) (l : Fin 128) :
    k0_pay6 v0 kb mp (ix2 r l) = max (mp (ix2 r l)) (Finset.univ.fold max (⊥ : EReal) fun j : Fin 1024 => k0_pay3 v0 kb (ix2 r j)) := by
  pointwise [k0_pay6, k0_pay4]
  rw [show Ideal.ofBits FTy.f32 0xFF800000#32 = (⊥ : EReal) from by simp [Ideal.ofBits, Ideal.ieee]]

/-- The new sum: the old one, rescaled, and the block's weighted values. -/
theorem ac (v0 : Vec Ideal S1x128x256 .bf16) (kb : Vec Ideal S1x64x1024 .bf16) (vb : Vec Ideal S1x1024x128 .bf16) (mp ap : Vec Ideal S512x128 .f32) (r : Fin 512) (l : Fin 128) :
    k0_pay5 v0 kb vb mp ap (ix2 r l) = ap (ix2 r l) * Ideal.exp2 (mp (ix2 r l) - k0_pay4 v0 kb mp (ix2 r l))
     + ∑ j : Fin 1024, Ideal.exp2 (k0_pay3 v0 kb (ix2 r j) - k0_pay4 v0 kb mp (ix2 r ⟨j.val % 128, by omega⟩)) * vb (ix3 0 j l) := by
  pointwise [k0_pay5]
  refine congrArg (_ + ·) (Finset.sum_congr rfl fun x _ => ?_)
  refine congrArg (fun i => Ideal.exp2 (k0_pay3 v0 kb (ix2 r x) - i) * vb (ix3 0 x l)) ?_
  have e (a : ℕ) (ha) (ha' : a = x.val % 128) : k0_pay4 v0 kb mp (ix2 r ⟨a, ha⟩) = k0_pay4 v0 kb mp (ix2 r ⟨x.val % 128, by omega⟩) := by
    subst ha'; rfl
  have := x.isLt
  split_ifs <;> exact e _ _ (by omega)

/-- The output: the sum of column `d` over that of column 64, head after head. -/
theorem out (ap : Vec Ideal S512x128 .f32) (q : Fin 128) (h : Fin 4) (d : Fin 64) :
    k0_pay7 ap (ix3 0 q ⟨64 * h.val + d.val, by omega⟩) = Ideal.div (ap (ix2 ⟨128 * h.val + q.val, by omega⟩ ⟨d.val, by omega⟩)) (ap (ix2 ⟨128 * h.val + q.val, by omega⟩ ⟨64, by omega⟩)) := by
  pointwise [k0_pay7]
  have e (a b : ℕ) (ha hb) (ha' : a = 128 * h.val + q.val) (hb' : b = d.val) : Ideal.div (ap (ix2 ⟨a, ha⟩ ⟨b, hb⟩)) (ap (ix2 ⟨a, ha⟩ 64))
      = Ideal.div (ap (ix2 ⟨128 * h.val + q.val, by omega⟩ ⟨d.val, by omega⟩)) (ap (ix2 ⟨128 * h.val + q.val, by omega⟩ ⟨64, by omega⟩)) := by
    subst ha' hb'; rfl
  have := h.isLt
  split_ifs <;> exact e _ _ _ _ (by omega) (by omega)

end Cert.GqaIdeal.Value

end
-- ==== Proof.Softmax.lean ====
/- Softmax over the extended reals: the online form, block by block with a running maximum, against the plain form. -/
module

public import Idealize.ShloMosaic.PureOps.Ideal
public import Mathlib.Analysis.SpecialFunctions.Pow.Real

@[expose] public section

noncomputable section

open Idealize.ShloMosaic
open scoped BigOperators

namespace Cert.Softmax

/-- The product of a sum with a nonnegative real is the sum of the products. -/
theorem sum_mul_real {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih,
      EReal.right_distrib_of_nonneg_of_ne_top (EReal.coe_nonneg.mpr hc) (EReal.coe_ne_top c)]

/-- The maximum of two reals is theirs. -/
theorem coe_max (a b : ℝ) : ((max a b : ℝ) : EReal) = max (a : EReal) (b : EReal) :=
  EReal.coe_strictMono.monotone.map_max

/-- A finite sum of reals is theirs. -/
theorem coe_sum {ι : Type} (S : Finset ι) (f : ι → ℝ) : ((∑ i ∈ S, f i : ℝ) : EReal) = ∑ i ∈ S, (f i : EReal) :=
  map_sum (⟨⟨Real.toEReal, rfl⟩, EReal.coe_add⟩ : ℝ →+ EReal) f S

/-- The greatest of a nonempty finite family of reals, taken from −∞ on, is a real. -/
theorem fold_real {ι : Type} (S : Finset ι) (hS : S.Nonempty) (f : ι → EReal) (hf : ∀ i ∈ S, ∃ r : ℝ, f i = r) :
    ∃ r : ℝ, S.fold max (⊥ : EReal) f = r := by
  classical
  have key : ∀ S : Finset ι, (∀ i ∈ S, ∃ r : ℝ, f i = r) → (S = ∅ ∨ ∃ r : ℝ, S.fold max (⊥ : EReal) f = r) := by
    intro S
    induction S using Finset.induction_on with
    | empty => exact fun _ => Or.inl rfl
    | insert a S ha ih =>
      intro h
      right
      obtain ⟨x, hx⟩ := h a (Finset.mem_insert_self a S)
      rw [Finset.fold_insert ha, hx]
      rcases ih fun i hi => h i (Finset.mem_insert_of_mem hi) with h0 | ⟨r, hr⟩
      · subst h0; exact ⟨x, by simp⟩
      · rw [hr]; exact ⟨max x r, (coe_max x r).symm⟩
  rcases key S hf with h | h
  · exact absurd h hS.ne_empty
  · exact h

/-- `exp2` of a difference of reals. -/
theorem exp2_sub (a b : ℝ) : Ideal.exp2 ((a : EReal) - (b : EReal)) = ((2 : ℝ) ^ (a - b) : ℝ) := by
  rw [← EReal.coe_sub, Ideal.exp2_coe]; rfl

/-- `exp` of a difference of reals. -/
theorem exp_sub (a b : ℝ) : Ideal.exp ((a : EReal) - (b : EReal)) = (Real.exp (a - b) : ℝ) := by
  rw [← EReal.coe_sub, Ideal.exp_coe]

/-- Weighted sums against the maximum `M` become, scaled by `exp2 (M - M')`, those against `M'`. -/
theorem rescale {ι : Type} (S : Finset ι) (s : ι → ℝ) (v : ι → EReal) (M M' : ℝ) :
    (∑ i ∈ S, Ideal.exp2 ((s i : EReal) - M) * v i) * Ideal.exp2 ((M : EReal) - M') = ∑ i ∈ S, Ideal.exp2 ((s i : EReal) - M') * v i := by
  rw [exp2_sub M M', sum_mul_real _ _ _ (Real.rpow_nonneg (by norm_num) _)]
  refine Finset.sum_congr rfl fun i _ => ?_
  rw [exp2_sub, exp2_sub, mul_right_comm, ← EReal.coe_mul, ← Real.rpow_add (by norm_num)]
  congr 3
  ring

/-- After `n` of the `N` blocks: nothing has been seen and the maximum is −∞, or the maximum is a real; and the sum is
    that of the first `n` blocks, weighted against the maximum. -/
def Inv {N B : ℕ} (s : Fin N → Fin B → ℝ) (v : Fin N → Fin B → EReal) (n : ℕ) (mx acc : EReal) : Prop :=
  ((n = 0 ∧ mx = ⊥) ∨ ∃ M : ℝ, mx = M)
    ∧ acc = ∑ i : Fin N, if i.val < n then ∑ j : Fin B, Ideal.exp2 ((s i j : EReal) - mx) * v i j else 0

theorem Inv.zero {N B : ℕ} (s : Fin N → Fin B → ℝ) (v : Fin N → Fin B → EReal) : Inv s v 0 ⊥ 0 :=
  ⟨Or.inl ⟨rfl, rfl⟩, by simp⟩

/-- One block more keeps the invariant. -/
theorem Inv.step {N B : ℕ} [NeZero B] {s : Fin N → Fin B → ℝ} {v : Fin N → Fin B → EReal} {n : ℕ} (hn : n < N) {mx acc mx' acc' : EReal}
    (h : Inv s v n mx acc) (hm : mx' = max mx (Finset.univ.fold max (⊥ : EReal) fun j => (s ⟨n, hn⟩ j : EReal)))
    (ha : acc' = acc * Ideal.exp2 (mx - mx') + ∑ j : Fin B, Ideal.exp2 ((s ⟨n, hn⟩ j : EReal) - mx') * v ⟨n, hn⟩ j) :
    Inv s v (n + 1) mx' acc' := by
  obtain ⟨r, hr⟩ := fold_real (Finset.univ : Finset (Fin B)) ⟨0, Finset.mem_univ _⟩ (fun j => (s ⟨n, hn⟩ j : EReal)) fun j _ => ⟨_, rfl⟩
  have split : ∀ g : Fin N → EReal, (∑ i : Fin N, if i.val < n + 1 then g i else 0)
      = (∑ i : Fin N, if i.val < n then g i else 0) + g ⟨n, hn⟩ := by
    intro g
    rw [show g ⟨n, hn⟩ = ∑ i : Fin N, if i = ⟨n, hn⟩ then g i else 0 by simp, ← Finset.sum_add_distrib]
    refine Finset.sum_congr rfl fun i _ => ?_
    by_cases h1 : i.val < n
    · have h2 : ¬ i = ⟨n, hn⟩ := fun e => by rw [e] at h1; exact lt_irrefl _ h1
      simp [h1, h2, Nat.lt_succ_of_lt h1]
    · by_cases h2 : i = ⟨n, hn⟩
      · subst h2; simp
      · have h3 : ¬ i.val < n + 1 := fun h => h2 (Fin.ext (by simp at h1 ⊢; omega))
        simp [h1, h2, h3]
  rw [hr] at hm
  obtain ⟨h1, h2⟩ := h
  have hreal : ∃ M' : ℝ, mx' = M' := by
    rcases h1 with ⟨_, e⟩ | ⟨M, e⟩
    · exact ⟨r, by rw [hm, e]; simp⟩
    · exact ⟨max M r, by rw [hm, e]; exact (coe_max M r).symm⟩
  refine ⟨Or.inr hreal, ?_⟩
  obtain ⟨M', e'⟩ := hreal
  rw [split, ha]
  refine congrArg₂ (· + ·) ?_ rfl
  rcases h1 with ⟨e0, e⟩ | ⟨M, e⟩
  · subst e0; rw [h2]; simp
  · rw [h2, e, e', exp2_sub M M', sum_mul_real _ _ _ (Real.rpow_nonneg (by norm_num) _)]
    refine Finset.sum_congr rfl fun i _ => ?_
    by_cases hi : i.val < n
    · rw [if_pos hi, if_pos hi, ← exp2_sub M M', rescale]
    · rw [if_neg hi, if_neg hi, zero_mul]

/-- After all blocks: the maximum is a real and the sum runs over every entry. -/
theorem Inv.last {N B : ℕ} [NeZero N] {s : Fin N → Fin B → ℝ} {v : Fin N → Fin B → EReal} {mx acc : EReal}
    (h : Inv s v N mx acc) : ∃ M : ℝ, mx = M ∧ acc = ∑ p : Fin N × Fin B, Ideal.exp2 ((s p.1 p.2 : EReal) - M) * v p.1 p.2 := by
  obtain ⟨h1, h2⟩ := h
  rcases h1 with ⟨e, _⟩ | ⟨M, e⟩
  · exact absurd e (NeZero.ne N)
  · refine ⟨M, e, ?_⟩
    rw [h2, e, Fintype.sum_prod_type]
    exact Finset.sum_congr rfl fun i _ => by rw [if_pos i.isLt]

/-- The quotient of the sums in base two is the average weighted by the softmax in base `e`, whichever reals `M` and `T`
    are subtracted from the scores. -/
theorem ratio {ι κ : Type} [Fintype ι] [Nonempty ι] [Fintype κ] (e : ι ≃ κ) (s : ι → ℝ) (t : κ → ℝ) (hst : ∀ i, s i * Real.log 2 = t (e i)) (M T : ℝ)
    (u : ι → EReal) (v : κ → EReal) (huv : ∀ i, u i = v (e i)) :
    Ideal.div (∑ i, Ideal.exp2 ((s i : EReal) - M) * u i) (∑ i, Ideal.exp2 ((s i : EReal) - M) * 1)
      = ∑ k, v k * Ideal.div (Ideal.exp ((t k : EReal) - T)) (0 + ∑ k', Ideal.exp ((t k' : EReal) - T)) := by
  have hZ : (∑ k', Ideal.exp ((t k' : EReal) - T)) = ((∑ k', Real.exp (t k' - T) : ℝ) : EReal) := by
    rw [coe_sum]; exact Finset.sum_congr rfl fun k _ => exp_sub _ _
  obtain ⟨i0⟩ := ‹Nonempty ι›
  have hpos : 0 < ∑ k', Real.exp (t k' - T) :=
    Finset.sum_pos (fun k _ => Real.exp_pos _) ⟨e i0, Finset.mem_univ _⟩
  set Z := ∑ k', Real.exp (t k' - T) with hZdef
  have hc : ∀ i, (2 : ℝ) ^ (s i - M) = Real.exp (t (e i) - T) * Real.exp (T - M * Real.log 2) := by
    intro i
    rw [Real.rpow_def_of_pos (by norm_num), ← Real.exp_add, ← hst i]
    congr 1; ring
  set c := Real.exp (T - M * Real.log 2) with hcdef
  have hc0 : 0 < c := Real.exp_pos _
  have hden : (∑ i, Ideal.exp2 ((s i : EReal) - M) * 1) = ((Z * c : ℝ) : EReal) := by
    rw [hZdef, Finset.sum_mul, coe_sum, ← Equiv.sum_comp e]
    exact Finset.sum_congr rfl fun i _ => by rw [exp2_sub, hc, mul_one]
  have hnum : (∑ i, Ideal.exp2 ((s i : EReal) - M) * u i) = (∑ k, v k * (Real.exp (t k - T) : EReal)) * (c : EReal) := by
    rw [sum_mul_real _ _ _ hc0.le, ← Equiv.sum_comp e]
    exact Finset.sum_congr rfl fun i _ => by rw [exp2_sub, hc, huv, EReal.coe_mul]; ac_rfl
  rw [hden, hnum, zero_add, hZ, Ideal.div_coe (mul_pos hpos hc0).ne', mul_assoc, ← EReal.coe_mul,
    show c * (1 / (Z * c)) = 1 / Z by field_simp, sum_mul_real _ _ _ (by positivity)]
  refine Finset.sum_congr rfl fun k _ => ?_
  rw [exp_sub, Ideal.div_coe hpos.ne', mul_assoc]

end Cert.Softmax

end
-- ==== Proof.Gqa.Steps.lean ====
module

public import proofs.«01_k».proof.Proof.Gqa.Point
public import proofs.«01_k».proof.Proof.Softmax

@[expose] public section

set_option maxRecDepth 16384

noncomputable section

open Idealize.ShloMosaic Idealize.ShloMosaic.TcCoe Idealize.SL.Sem
open Idealize.ShloMosaic.Pipeline (Dat)
open scoped BigOperators

namespace Cert.GqaIdeal.Value

open Cert.GqaIdeal Cert.GqaIdeal.Gen

/-- The new maximum as the sums use it. -/
theorem mx4 (v0 : Vec Ideal S1x128x256 .bf16) (kb : Vec Ideal S1x64x1024 .bf16) (mp : Vec Ideal S512x128 .f32) (r : Fin 512) (l : Fin 128) :
    k0_pay4 v0 kb mp (ix2 r l) = max (mp (ix2 r l)) (Finset.univ.fold max (⊥ : EReal) fun j : Fin 1024 => k0_pay3 v0 kb (ix2 r j)) := by
  pointwise [k0_pay4]
  rw [show Ideal.ofBits FTy.f32 0xFF800000#32 = (⊥ : EReal) from by simp [Ideal.ofBits, Ideal.ieee]]

theorem pay1_at (i : S512x128.Idx) : k0_pay1 (F := Ideal) i = (⊥ : EReal) := by
  show Ideal.ofBits FTy.f32 0xFF800000#32 = (⊥ : EReal)
  simp [Ideal.ofBits, Ideal.ieee]

theorem pay2_at (i : S512x128.Idx) : k0_pay2 (F := Ideal) i = (0 : EReal) := by
  show Ideal.ofBits FTy.f32 0x00000000#32 = (0 : EReal)
  simp

theorem trips_eq : k0_t1_loop.trips = 4 := by decide +kernel

/-- Trip `k` of the four. -/
abbrev tr (k : Fin 4) : Fin k0_t1_loop.trips := ⟨k.val, by rw [trips_eq]; exact k.isLt⟩

/-- Where the scores of row `r` are the reals `s`, the state after `n` trips is the softmax of the blocks seen so far:
    every lane holds the same maximum, and lane `l` the sum of column `l` of the values. -/
theorem inv (v0 : Vec Ideal S1x128x256 .bf16) (x1 : Vec Ideal S1x64x4096 .bf16) (x2 : Vec Ideal S1x4096x128 .bf16) (r : Fin 512)
    (s : Fin 4 → Fin 1024 → ℝ) (hs : ∀ k j, k0_pay3 v0 (KB x1 (tr k)) (ix2 r j) = (s k j : EReal)) : ∀ n, n ≤ 4 →
    ∃ mx : EReal, (∀ l, (st v0 x1 x2 n).1 (ix2 r l) = mx)
      ∧ ∀ l, Softmax.Inv s (fun k j => VB x2 (tr k) (ix3 0 j l)) n mx ((st v0 x1 x2 n).2 (ix2 r l))
  | 0, _ => ⟨⊥, fun l => pay1_at (ix2 r l), fun l => by
      rw [show (st v0 x1 x2 0).2 (ix2 r l) = (0 : EReal) from pay2_at (ix2 r l)]; exact Softmax.Inv.zero _ _⟩
  | n + 1, hn => by
    obtain ⟨mp, h1, h2⟩ := inv v0 x1 x2 r s hs n (Nat.le_of_succ_le hn)
    have hn' : n < 4 := hn
    have s1 : st v0 x1 x2 (n + 1) = _ := dif_pos (show n < k0_t1_loop.trips by rw [trips_eq]; exact hn')
    have e6 : ∀ l, k0_pay6 v0 (KB x1 (tr ⟨n, hn'⟩)) (st v0 x1 x2 n).1 (ix2 r l) = max mp (Finset.univ.fold max (⊥ : EReal) fun j : Fin 1024 => (s ⟨n, hn'⟩ j : EReal)) := fun l => by
      rw [mx, h1]; exact congrArg (fun f => max mp (Finset.univ.fold max (⊥ : EReal) f)) (funext fun j => hs ⟨n, hn'⟩ j)
    have e4 : ∀ l, k0_pay4 v0 (KB x1 (tr ⟨n, hn'⟩)) (st v0 x1 x2 n).1 (ix2 r l) = max mp (Finset.univ.fold max (⊥ : EReal) fun j : Fin 1024 => (s ⟨n, hn'⟩ j : EReal)) := fun l => by
      rw [mx4, h1]; exact congrArg (fun f => max mp (Finset.univ.fold max (⊥ : EReal) f)) (funext fun j => hs ⟨n, hn'⟩ j)
    refine ⟨max mp (Finset.univ.fold max (⊥ : EReal) fun j : Fin 1024 => (s ⟨n, hn'⟩ j : EReal)), fun l => ?_, fun l => ?_⟩
    · rw [s1]; exact e6 l
    · refine Softmax.Inv.step hn' (h2 l) rfl ?_
      rw [s1]
      show k0_pay5 v0 (KB x1 (tr ⟨n, hn'⟩)) (VB x2 (tr ⟨n, hn'⟩)) (st v0 x1 x2 n).1 (st v0 x1 x2 n).2 (ix2 r l) = _
      rw [ac, h1, e4]
      refine congrArg (_ + ·) (Finset.sum_congr rfl fun j _ => ?_)
      rw [hs ⟨n, hn'⟩ j, e4]

/-- The keys of a trip's block. -/
theorem kb_at (x1 : Vec Ideal S1x64x4096 .bf16) (k : Fin 4) (d : Fin 64) (j : Fin 1024) :
    KB x1 (tr k) (ix3 0 d j) = x1 (ix3 0 d ⟨1024 * k.val + j.val, by omega⟩) := by
  unfold KB View.ld
  refine congrArg x1 (funext fun a => Fin.ext ?_)
  have e := k0_off1_eq (tr k)
  fin_cases a
  · exact (congrArg (· + _) (congrFun e 0)).trans (by simp)
  · exact (congrArg (· + _) (congrFun e 1)).trans (by simp)
  · exact (congrArg (· + _) (congrFun e 2)).trans (by simp)

/-- The values of a trip's block. -/
theorem vb_at (x2 : Vec Ideal S1x4096x128 .bf16) (k : Fin 4) (j : Fin 1024) (l : Fin 128) :
    VB x2 (tr k) (ix3 0 j l) = x2 (ix3 0 ⟨1024 * k.val + j.val, by omega⟩ l) := by
  unfold VB View.ld
  refine congrArg x2 (funext fun a => Fin.ext ?_)
  have e := k0_off2_eq (tr k)
  fin_cases a
  · exact (congrArg (· + _) (congrFun e 0)).trans (by simp)
  · exact (congrArg (· + _) (congrFun e 1)).trans (by simp)
  · exact (congrArg (· + _) (congrFun e 2)).trans (by simp)

end Cert.GqaIdeal.Value

end
-- ==== Proof.Gqa.Reads.lean ====
module

public import proofs.«01_k».proof.Proof.Gqa.Loop
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.GqaIdeal.Value

open Cert.GqaIdeal Cert.GqaIdeal.Gen

variable (m : (ℓ : Loc nD τ sig) → Buf (Elt Ideal) ℓ)

/-- The blocks at grid point `t`: batch `t / 64`, key head `t / 32 % 2`, block `t % 32` of 128 queries. -/
theorem idx_val : ∀ t : Fin cfg0.N, win0_0.index t = ![t.val / 64, t.val % 32, t.val / 32 % 2]
    ∧ win0_1.index t = ![t.val / 64, t.val / 32 % 2, 0]
    ∧ win0_2.index t = ![t.val / 64, 0, t.val / 32 % 2]
    ∧ win0_3.index t = ![t.val / 64, t.val % 32, t.val / 32 % 2] :=
  (by decide +kernel : ∀ t : Fin grid0.N, _)

theorem lt256 (t : Fin cfg0.N) : t.val < 256 := by
  have h := t.isLt
  have h' : cfg0.N = 256 := N_0
  omega

/-- The keys as the call takes them: transposed. -/
theorem V_keys (c : Dev nD) : (V m c main_v0 : FVec Ideal S4x128x4096 .bf16) = transpose S4x128x4096 [0, 2, 1] (m ((c : Thread nD τ).loc main_arg1)) transposes_S4x4096x128_S4x128x4096_0_2_1 := by
  show StableHlo.after (List.flatten [hostOps0, hostOps0_1, hostOps0_2]) (fun b => m (c, b)) _ = _
  simp only [List.flatten_cons, List.flatten_nil, List.append_nil, List.cons_append, List.nil_append]
  after_results
  all_goals rfl

/-- The columns beside the values: a one, then zeros. -/
def ONES : FVec Ideal S4x4096x64 .f32 :=
  select (cmpi .eq (iotaInDim S4x4096x64 32 2) (broadcastInDim S4x4096x64 ![] bcast_S_S4x4096x64 (constantI S_ 32 0#32))) (broadcastInDim S4x4096x64 ![] bcast_S_S4x4096x64 (constant S_ .f32 0x3F800000#32)) (broadcastInDim S4x4096x64 ![] bcast_S_S4x4096x64 (constant S_ .f32 0x00000000#32))

/-- The values as the call takes them: those of each head, and the ones beside them. -/
theorem V_vals (c : Dev nD) : (V m c main_v11 : FVec Ideal S4x4096x256 .bf16) = truncf .bf16 (concatenate S4x4096x256 2
    [⟨S4x4096x64, (extf .f32 (extractStridedSlice S4x4096x64 ![0, 0, 0] (m ((c : Thread nD τ).loc main_arg2)) slices_S4x4096x128_S4x4096x64_0_0_0) bitsLt_bf16_f32 : FVec Ideal S4x4096x64 .f32)⟩,
     ⟨S4x4096x64, ONES⟩,
     ⟨S4x4096x64, (extf .f32 (extractStridedSlice S4x4096x64 ![0, 0, 64] (m ((c : Thread nD τ).loc main_arg2)) slices_S4x4096x128_S4x4096x64_0_0_64) bitsLt_bf16_f32 : FVec Ideal S4x4096x64 .f32)⟩,
     ⟨S4x4096x64, ONES⟩] concatenates_S4x4096x64_S4x4096x64_S4x4096x64_S4x4096x64_S4x4096x256_d2) bitsLt_bf16_f32 := by
  show StableHlo.after (List.flatten [hostOps0, hostOps0_1, hostOps0_2]) (fun b => m (c, b)) _ = _
  simp only [List.flatten_cons, List.flatten_nil, List.append_nil, List.cons_append, List.nil_append]
  after_results
  all_goals rfl

theorem q_at (c : Dev nD) (t : Fin cfg0.N) (q : Fin 128) (e : Fin 256) :
    (iblk m c 0 t : FVec Ideal S1x128x256 .bf16) (ix3 0 q e) = m ((c : Thread nD τ).loc main_arg0)
      (ix3 ⟨t.val / 64, by have := lt256 t; omega⟩ ⟨128 * (t.val % 32) + q.val, by omega⟩ ⟨256 * (t.val / 32 % 2) + e.val, by omega⟩) := by
  blk_point [iblk, V, idx_val t]

theorem k_at (c : Dev nD) (t : Fin cfg0.N) (d : Fin 64) (n : Fin 4096) :
    (iblk m c 1 t : FVec Ideal S1x64x4096 .bf16) (ix3 0 d n) = m ((c : Thread nD τ).loc main_arg1)
      (ix3 ⟨t.val / 64, by have := lt256 t; omega⟩ n ⟨64 * (t.val / 32 % 2) + d.val, by omega⟩) := by
  have e : (iblk m c 1 t : FVec Ideal S1x64x4096 .bf16) (ix3 0 d n) = (V m c main_v0 : FVec Ideal S4x128x4096 .bf16)
      (ix3 ⟨t.val / 64, by have := lt256 t; omega⟩ ⟨64 * (t.val / 32 % 2) + d.val, by omega⟩ n) := by
    blk_ext [iblk, idx_val t]
  rw [e, V_keys]
  pointwise []

/-- The values' block at an entry of the prepared array. -/
theorem vals_at (c : Dev nD) (t : Fin cfg0.N) (n : Fin 4096) (l : Fin 128) :
    (iblk m c 2 t : FVec Ideal S1x4096x128 .bf16) (ix3 0 n l) = (V m c main_v11 : FVec Ideal S4x4096x256 .bf16)
      (ix3 ⟨t.val / 64, by have := lt256 t; omega⟩ n ⟨128 * (t.val / 32 % 2) + l.val, by omega⟩) := by
  blk_ext [iblk, idx_val t]

theorem v_at (c : Dev nD) (t : Fin cfg0.N) (n : Fin 4096) (d : Fin 64) :
    (iblk m c 2 t : FVec Ideal S1x4096x128 .bf16) (ix3 0 n ⟨d.val, by omega⟩) = m ((c : Thread nD τ).loc main_arg2)
      (ix3 ⟨t.val / 64, by have := lt256 t; omega⟩ n ⟨64 * (t.val / 32 % 2) + d.val, by omega⟩) := by
  rw [vals_at, V_vals]
  pointwise []
  have e (a : ℕ) (ha) (ha' : a = 64 * (t.val / 32 % 2) + d.val) : (m ((c : Thread nD τ).loc main_arg2) : FVec Ideal S4x4096x128 .bf16) (ix3 ⟨t.val / 64, by have := lt256 t; omega⟩ n ⟨a, ha⟩)
      = (m ((c : Thread nD τ).loc main_arg2) : FVec Ideal S4x4096x128 .bf16) (ix3 ⟨t.val / 64, by have := lt256 t; omega⟩ n ⟨64 * (t.val / 32 % 2) + d.val, by omega⟩) := by
    subst ha'; rfl
  split_ifs <;> first | exact e _ _ (by omega) | omega

theorem one_at (c : Dev nD) (t : Fin cfg0.N) (n : Fin 4096)  :
    (iblk m c 2 t : FVec Ideal S1x4096x128 .bf16) (ix3 0 n ⟨64, by omega⟩) = (1 : EReal) := by
  rw [vals_at, V_vals]
  pointwise [ONES]
  have e (a : ℕ) (ha : a = 0) : Scalar.select (IntOp.cmpi CmpIPredicate.eq (BitVec.ofNat 32 a) 0#32) (1 : EReal) 0 = 1 := by
    subst ha; rfl
  split_ifs <;> first | exact e _ (by omega) | omega

end Cert.GqaIdeal.Value

end
-- ==== Proof.Gqa.Ref.lean ====
module

public import proofs.«01_k».proof.Proof.Gen.GqaRefIdeal
public import proofs.«01_k».proof.Proof.Softmax
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open scoped BigOperators

namespace Cert.GqaRefIdeal.Point

open Cert.GqaRefIdeal Cert.GqaRefIdeal.Gen

/-- The scores of every query with every key, head by head. -/
def SC (q : FVec Ideal S4x4096x512 .bf16) (k : FVec Ideal S4x4096x128 .bf16) : FVec Ideal S4x2x4x4096x4096 .f32 :=
  mulf (transpose S4x2x4x4096x4096 [0, 1, 4, 3, 2] (Host.dotGeneral dot_S4x4096x2x64_S4x4096x2x4x64_S4x2x4096x4096x4_3_4_1_13_02_02 none (shapeCast _ (extf .f32 k bitsLt_bf16_f32) shapeCasts_S4x4096x128_S4x4096x2x64) (shapeCast _ (extf .f32 q bitsLt_bf16_f32) shapeCasts_S4x4096x512_S4x4096x2x4x64)) transposes_S4x2x4096x4096x4_S4x2x4x4096x4096_0_1_4_3_2) (broadcastInDim S4x2x4x4096x4096 ![] bcast_S_S4x2x4x4096x4096 (constant S_ .f32 0x3E000000#32))

/-- The greatest score of every query. -/
def MX (sc : FVec Ideal S4x2x4x4096x4096 .f32) : FVec Ideal S4x2x4x4096 .f32 :=
  maximumf (broadcastInDim S4x2x4x4096 ![] bcast_S_S4x2x4x4096 (constant S_ .f32 0xFF800000#32)) (Host.reduce FloatOps.maximumf sc (constant S_ .f32 0xFF800000#32) reducesTo_S4x2x4x4096x4096_S4x2x4x4096_d4 h_S_)

/-- The exponentials of the scores less the greatest. -/
def EX (sc : FVec Ideal S4x2x4x4096x4096 .f32) : FVec Ideal S4x2x4x4096x4096 .f32 :=
  Host.exp (subf sc (broadcastInDim S4x2x4x4096x4096 ![0, 1, 2, 3, 4] bcast_S4x2x4x4096x1_S4x2x4x4096x4096_0_1_2_3_4 (broadcastInDim S4x2x4x4096x1 ![0, 1, 2, 3] bcast_S4x2x4x4096_S4x2x4x4096x1_0_1_2_3 (MX sc))))

/-- The weights: the exponentials over their sum. -/
def PR (ex : FVec Ideal S4x2x4x4096x4096 .f32) : FVec Ideal S4x2x4x4096x4096 .f32 :=
  Host.divf ex (broadcastInDim S4x2x4x4096x4096 ![0, 1, 2, 3, 4] bcast_S4x2x4x4096x1_S4x2x4x4096x4096_0_1_2_3_4 (broadcastInDim S4x2x4x4096x1 ![0, 1, 2, 3] bcast_S4x2x4x4096_S4x2x4x4096x1_0_1_2_3 (Host.reduceAdd ex (constant S_ .f32 0x00000000#32) reducesTo_S4x2x4x4096x4096_S4x2x4x4096_d4 h_S_)))

/-- The reference's result: the values weighted by the softmax of the scores. -/
def REF (q : FVec Ideal S4x4096x512 .bf16) (k : FVec Ideal S4x4096x128 .bf16) (v : FVec Ideal S4x4096x128 .bf16) : FVec Ideal S4x4096x512 .bf16 :=
  truncf .bf16 (shapeCast _ (transpose S4x4096x2x4x64 [0, 4, 1, 3, 2] (Host.dotGeneral dot_S4x4096x2x64_S4x2x4x4096x4096_S4x2x64x4x4096_1_4_3_23_02_01 none (shapeCast _ (extf .f32 v bitsLt_bf16_f32) shapeCasts_S4x4096x128_S4x4096x2x64) (PR (EX (SC q k)))) transposes_S4x2x64x4x4096_S4x4096x2x4x64_0_4_1_3_2) shapeCasts_S4x4096x2x4x64_S4x4096x512) bitsLt_bf16_f32

/-- A score: the dot product over the 64 coordinates of the head, times 1/8. -/
theorem sc_at (q : FVec Ideal S4x4096x512 .bf16) (k : FVec Ideal S4x4096x128 .bf16) (b : Fin 4) (kv : Fin 2) (g : Fin 4) (l s : Fin 4096) :
    SC q k (ix5 b kv g l s) = (∑ d : Fin 64, (k (ix3 b s ⟨kv.val * 64 + d.val, by omega⟩) : EReal) * q (ix3 b l ⟨kv.val * 256 + g.val * 64 + d.val, by omega⟩)) * ((8⁻¹ : ℝ) : EReal) := by
  pointwise [SC]
  rw [show Ideal.ofBits FTy.f32 0x3E000000#32 = ((8⁻¹ : ℝ) : EReal) from by simp [Ideal.ofBits, Ideal.ieee]; rw [← EReal.coe_mul]; norm_num]

/-- Where queries and keys are reals, so is every score. -/
theorem sc_real (q : FVec Ideal S4x4096x512 .bf16) (k : FVec Ideal S4x4096x128 .bf16) (hq : ∀ i, ∃ r : ℝ, q i = (r : EReal)) (hk : ∀ i, ∃ r : ℝ, k i = (r : EReal))
    (i : S4x2x4x4096x4096.Idx) : ∃ r : ℝ, SC q k i = (r : EReal) := by
  choose qr hqr using hq
  choose kr hkr using hk
  obtain ⟨b, kv, g, l, s, rfl⟩ : ∃ (b : Fin 4) (kv : Fin 2) (g : Fin 4) (l s : Fin 4096), i = ix5 b kv g l s :=
    ⟨i 0, i 1, i 2, i 3, i 4, funext fun a => by fin_cases a <;> rfl⟩
  refine ⟨(∑ d : Fin 64, kr (ix3 b s ⟨kv.val * 64 + d.val, by omega⟩) * qr (ix3 b l ⟨kv.val * 256 + g.val * 64 + d.val, by omega⟩)) * 8⁻¹, ?_⟩
  rw [sc_at, EReal.coe_mul, Softmax.coe_sum]
  refine congrArg (· * _) (Finset.sum_congr rfl fun d _ => ?_)
  rw [EReal.coe_mul, ← hqr, ← hkr]

/-- The word of −∞. -/
theorem neg_inf : Ideal.ofBits FTy.f32 0xFF800000#32 = (⊥ : EReal) := by simp [Ideal.ofBits, Ideal.ieee]

/-- A maximum along one axis, from −∞ on, of an array of reals is a real. -/
theorem reduce_real {s t u : Shape} {a : Fin s.rank} (x : FVec Ideal s .f32) (init : FVec Ideal u .f32) (h' : s.ReducesTo [a] t) (h : s.Reduces [a] t)
    (hu : 0 < u.numel) (hi : init (Shape.Idx.first hu) = (⊥ : EReal)) (hp : 0 < s.size a) (hx : ∀ i, ∃ r : ℝ, x i = (r : EReal)) (j : t.Idx) :
    ∃ r : ℝ, Host.reduce (FloatOps.maximumf (F := Ideal) (φ := .f32)) x init h' hu j = (r : EReal) := by
  rw [Host.reduce_eq_fold_single _ x init h' h hu j, hi]
  exact Softmax.fold_real (Finset.univ : Finset (Fin (s.size a))) ⟨⟨0, hp⟩, Finset.mem_univ _⟩ (x ∘ h.lift j) fun i _ => hx _

/-- Where an array is a real, so is its maximum with −∞. -/
theorem max_real {t : Shape} (x y : FVec Ideal t .f32) (j : t.Idx) (hx : x j = (⊥ : EReal)) (hy : ∃ r : ℝ, y j = (r : EReal)) :
    ∃ r : ℝ, maximumf x y j = (r : EReal) := by
  obtain ⟨r, hr⟩ := hy
  exact ⟨r, (congrArg₂ max hx hr).trans (max_eq_right bot_le)⟩

theorem reduces4 : S4x2x4x4096x4096.Reduces [4] S4x2x4x4096 := by decide

/-- Where every score is a real, so is the greatest. -/
theorem mx_real (sc : FVec Ideal S4x2x4x4096x4096 .f32) (h : ∀ i, ∃ r : ℝ, sc i = (r : EReal)) (j : S4x2x4x4096.Idx) :
    ∃ r : ℝ, MX sc j = (r : EReal) :=
  max_real _ _ j neg_inf (reduce_real sc _ _ reduces4 h_S_ neg_inf (by decide) h j)

theorem ex_at (sc : FVec Ideal S4x2x4x4096x4096 .f32) (b : Fin 4) (kv : Fin 2) (g : Fin 4) (l s : Fin 4096) :
    EX sc (ix5 b kv g l s) = Ideal.exp (sc (ix5 b kv g l s) - MX sc (ix4 b kv g l)) := by
  pointwise [EX]

theorem pr_at (ex : FVec Ideal S4x2x4x4096x4096 .f32) (b : Fin 4) (kv : Fin 2) (g : Fin 4) (l s : Fin 4096) :
    PR ex (ix5 b kv g l s) = Ideal.div (ex (ix5 b kv g l s)) (0 + ∑ s' : Fin 4096, ex (ix5 b kv g l s')) := by
  pointwise [PR]

/-- The reference at an index: the values of the head's keys, each with its weight. -/
theorem ref_at (q : FVec Ideal S4x4096x512 .bf16) (k v : FVec Ideal S4x4096x128 .bf16) (b : Fin 4) (kv : Fin 2) (g : Fin 4) (l : Fin 4096) (d : Fin 64) :
    REF q k v (ix3 b l ⟨kv.val * 256 + g.val * 64 + d.val, by omega⟩) = ∑ s : Fin 4096, (v (ix3 b s ⟨kv.val * 64 + d.val, by omega⟩) : EReal)
      * Ideal.div (Ideal.exp (SC q k (ix5 b kv g l s) - MX (SC q k) (ix4 b kv g l))) (0 + ∑ s' : Fin 4096, Ideal.exp (SC q k (ix5 b kv g l s') - MX (SC q k) (ix4 b kv g l))) := by
  have e : REF q k v (ix3 b l ⟨kv.val * 256 + g.val * 64 + d.val, by omega⟩) = ∑ s : Fin 4096, (v (ix3 b s ⟨kv.val * 64 + d.val, by omega⟩) : EReal) * PR (EX (SC q k)) (ix5 b kv g l s) := by
    pointwise [REF]
  rw [e]
  refine Finset.sum_congr rfl fun s _ => congrArg (_ * ·) ?_
  rw [pr_at, ex_at]
  exact congrArg (fun z => Ideal.div _ (0 + z)) (Finset.sum_congr rfl fun s' _ => ex_at _ _ _ _ _ _)

end Cert.GqaRefIdeal.Point

end
-- ==== Proof.Gqa.Value.lean ====
module

public import proofs.«01_k».proof.Proof.Gqa.Steps
public import proofs.«01_k».proof.Proof.Gqa.Reads
public import proofs.«01_k».proof.Proof.Gqa.Ref
public import proofs.«01_k».proof.Proof.Gen.Pre_finite_qk
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.GqaIdeal.Value

open Cert.GqaIdeal Cert.GqaIdeal.Gen

variable (m : (ℓ : Loc nD τ sig) → Buf (Elt Ideal) ℓ)

/-- An extended real whose absolute value is less than +∞ is a real. -/
theorem real_of_lt (x : EReal) (h : Ideal.cmp .olt (max x (-x)) (Ideal.ofBits FTy.f32 0x7F800000#32) = 1#1) : ∃ r : ℝ, x = (r : EReal) := by
  rw [show Ideal.ofBits FTy.f32 0x7F800000#32 = (⊤ : EReal) from by simp [Ideal.ofBits, Ideal.ieee]] at h
  induction x using EReal.rec with
  | bot => simp [Ideal.cmp] at h
  | top => simp [Ideal.cmp] at h
  | coe r => exact ⟨r, rfl⟩

/-- Under the precondition every query and every key is a real. -/
theorem reals (q : FVec Ideal S4x4096x512 .bf16) (k v : FVec Ideal S4x4096x128 .bf16)
    (h : Cert.Pre_finite_qk.fn (F := Ideal) q k v = fun _ => 1#1) :
    (∀ i, ∃ r : ℝ, q i = (r : EReal)) ∧ ∀ i, ∃ r : ℝ, k i = (r : EReal) := by
  have e := congrFun h (fun a => a.elim0)
  obtain ⟨e1, e2⟩ := IntOp.andi_eq_one.1 e
  haveI : Subsingleton Cert.Pre_finite_qk.S_.Idx := ⟨fun a b => funext fun x => x.elim0⟩
  exact ⟨fun i => real_of_lt _ (Host.reduce_andi_all _ _ _ _ _ e1 i), fun i => real_of_lt _ (Host.reduce_andi_all _ _ _ _ _ e2 i)⟩

open Cert.GqaRefIdeal.Point (REF SC MX)

set_option maxHeartbeats 800000 in
/-- One entry of the block that the body writes at point `t` is the reference's. -/
theorem block_at (c : Dev nD) (t : Fin cfg0.N)
    (hq : ∀ i, ∃ r : ℝ, (m ((c : Thread nD τ).loc main_arg0) : FVec Ideal S4x4096x512 .bf16) i = (r : EReal))
    (hk : ∀ i, ∃ r : ℝ, (m ((c : Thread nD τ).loc main_arg1) : FVec Ideal S4x4096x128 .bf16) i = (r : EReal))
    (q : Fin 128) (h : Fin 4) (d : Fin 64) :
    (outsAt0 m c t : FVec Ideal S1x128x256 .bf16) (ix3 0 q ⟨64 * h.val + d.val, by omega⟩)
    = REF (m ((c : Thread nD τ).loc main_arg0)) (m ((c : Thread nD τ).loc main_arg1)) (m ((c : Thread nD τ).loc main_arg2))
      (ix3 ⟨t.val / 64, by have := lt256 t; omega⟩ ⟨128 * (t.val % 32) + q.val, by omega⟩ ⟨(t.val / 32 % 2) * 256 + h.val * 64 + d.val, by omega⟩) := by
  have ht := lt256 t
  choose qr hqr using id hq
  choose kr hkr using id hk
  let b : Fin 4 := ⟨t.val / 64, by omega⟩
  let kv : Fin 2 := ⟨t.val / 32 % 2, by omega⟩
  let l : Fin 4096 := ⟨128 * (t.val % 32) + q.val, by omega⟩
  -- the two families of real scores, in base two and in base e
  let tt : Fin 4096 → ℝ := fun n => (∑ x : Fin 64, kr (ix3 b n ⟨kv.val * 64 + x.val, by omega⟩) * qr (ix3 b l ⟨kv.val * 256 + h.val * 64 + x.val, by omega⟩)) * 8⁻¹
  let e : Fin 4 × Fin 1024 ≃ Fin 4096 := finProdFinEquiv
  let ss : Fin 4 → Fin 1024 → ℝ := fun k j => tt (e (k, j)) * (Real.log 2)⁻¹
  have he : ∀ k j, e (k, j) = ⟨1024 * k.val + j.val, by omega⟩ := fun k j => Fin.ext (Nat.add_comm j.val (1024 * k.val))
  have hs : ∀ k j, k0_pay3 (iblk m c 0 t) (KB (iblk m c 1 t) (tr k)) (ix2 ⟨128 * h.val + q.val, by omega⟩ j) = (ss k j : EReal) := by
    intro k j
    rw [scores]
    show _ = ((tt (e (k, j)) * (Real.log 2)⁻¹ : ℝ) : EReal)
    rw [show tt (e (k, j)) * (Real.log 2)⁻¹ = ∑ x : Fin 64, qr (ix3 b l ⟨256 * kv.val + (64 * h.val + x.val), by omega⟩) * (8⁻¹ * (Real.log 2)⁻¹) * kr (ix3 b (e (k, j)) ⟨64 * kv.val + x.val, by omega⟩) from ?_, Softmax.coe_sum]
    · refine Finset.sum_congr rfl fun x _ => ?_
      simp only [EReal.coe_mul]
      refine congrArg₂ (· * ·) (congrArg (· * _) ?_) ?_
      · rw [q_at, hqr]
      · rw [kb_at, k_at, hkr, he]
    · show (∑ x : Fin 64, _) * 8⁻¹ * _ = _
      rw [Finset.sum_mul, Finset.sum_mul]
      refine Finset.sum_congr rfl fun x _ => ?_
      have a1 : (⟨kv.val * 64 + x.val, by omega⟩ : Fin 128) = ⟨64 * kv.val + x.val, by omega⟩ := Fin.ext (by simp only; omega)
      have a2 : (⟨kv.val * 256 + h.val * 64 + x.val, by omega⟩ : Fin 512) = ⟨256 * kv.val + (64 * h.val + x.val), by omega⟩ := Fin.ext (by simp only; omega)
      rw [a1, a2]
      ring
  have hsc : ∀ n, SC (m ((c : Thread nD τ).loc main_arg0)) (m ((c : Thread nD τ).loc main_arg1)) (ix5 b kv h l n) = (tt n : EReal) := by
    intro n
    rw [Cert.GqaRefIdeal.Point.sc_at, EReal.coe_mul, Softmax.coe_sum]
    refine congrArg (· * _) (Finset.sum_congr rfl fun x _ => ?_)
    rw [EReal.coe_mul, ← hqr, ← hkr]
  have hreal := Cert.GqaRefIdeal.Point.sc_real _ _ hq hk
  obtain ⟨T, hT⟩ := Cert.GqaRefIdeal.Point.mx_real _ hreal (ix4 b kv h l)
  obtain ⟨mx, -, hinv⟩ := inv (iblk m c 0 t) (iblk m c 1 t) (iblk m c 2 t) ⟨128 * h.val + q.val, by omega⟩ ss hs 4 le_rfl
  obtain ⟨M, hM, hacc⟩ := (hinv ⟨d.val, by omega⟩).last
  obtain ⟨M', hM', hone⟩ := (hinv ⟨64, by omega⟩).last
  have hMM : M' = M := EReal.coe_injective (hM'.symm.trans hM)
  rw [hMM] at hone
  have hden : (∑ p : Fin 4 × Fin 1024, Ideal.exp2 ((ss p.1 p.2 : EReal) - M) * (VB (iblk m c 2 t) (tr p.1) (ix3 0 p.2 ⟨64, by omega⟩) : EReal))
      = ∑ p : Fin 4 × Fin 1024, Ideal.exp2 ((ss p.1 p.2 : EReal) - M) * 1 :=
    Finset.sum_congr rfl fun p _ => congrArg (_ * ·) ((vb_at _ _ _ _).trans (one_at m c t _))
  have hlog : ∀ p : Fin 4 × Fin 1024, ss p.1 p.2 * Real.log 2 = tt (e p) := fun p => by
    show tt (e (p.1, p.2)) * (Real.log 2)⁻¹ * Real.log 2 = _
    rw [mul_assoc, inv_mul_cancel₀ (Real.log_pos (by norm_num)).ne', mul_one]
  have hval : ∀ p : Fin 4 × Fin 1024, (VB (iblk m c 2 t) (tr p.1) (ix3 0 p.2 ⟨d.val, by omega⟩) : EReal)
      = (m ((c : Thread nD τ).loc main_arg2) : FVec Ideal S4x4096x128 .bf16) (ix3 b (e p) ⟨kv.val * 64 + d.val, by omega⟩) := fun p => by
    rw [vb_at, v_at, ← he p.1 p.2]
    exact congrArg (fun z => (m ((c : Thread nD τ).loc main_arg2) : FVec Ideal S4x4096x128 .bf16) (ix3 b (e p) z)) (Fin.ext (congrArg (· + d.val) (Nat.mul_comm 64 kv.val)))
  have R := Softmax.ratio e (fun p => ss p.1 p.2) tt hlog M T (fun p => VB (iblk m c 2 t) (tr p.1) (ix3 0 p.2 ⟨d.val, by omega⟩))
    (fun n => (m ((c : Thread nD τ).loc main_arg2) : FVec Ideal S4x4096x128 .bf16) (ix3 b n ⟨kv.val * 64 + d.val, by omega⟩)) hval
  rw [block, out, hacc, hone, hden]
  refine R.trans (Eq.symm ?_)
  refine (Cert.GqaRefIdeal.Point.ref_at _ _ _ b kv h l d).trans ?_
  rw [hT]
  simp only [hsc]

/-- The result array after the run is the reference's term of the arguments, where queries and keys are finite. -/
theorem final (c : Dev nD) (hpre : Cert.Pre_finite_qk.fn (F := Ideal) (m ((c : Thread nD τ).loc main_arg0)) (m ((c : Thread nD τ).loc main_arg1)) (m ((c : Thread nD τ).loc main_arg2)) = fun _ => 1#1) :
    (dats m 0 c).arrAt 3 (cfgs 0).N
    = REF (m ((c : Thread nD τ).loc main_arg0)) (m ((c : Thread nD τ).loc main_arg1)) (m ((c : Thread nD τ).loc main_arg2)) := by
  obtain ⟨hq, hk⟩ := reals _ _ _ hpre
  refine (dats m 0 c).arrAt_eq_of_covers 3 _ (by decide +kernel) fun t hf y => ?_
  blk_simp
  rw [after0_3]
  have ey : (y : S1x128x256.Idx) = ix3 0 (y 1) ⟨64 * ((y 2).val / 64) + (y 2).val % 64, by have h2 : (y 2).val < 256 := (y 2).isLt; omega⟩ := by
    funext a
    fin_cases a
    · exact Subsingleton.elim (α := Fin 1) _ _
    · rfl
    · exact Fin.ext (Nat.div_add_mod (y 2).val 64).symm
  have h2 : (y 2).val < 256 := (y 2).isLt
  refine (congrArg (outsAt0 m c t) ey).trans ((block_at m c t hq hk (y 1) ⟨(y 2).val / 64, by omega⟩ ⟨(y 2).val % 64, by omega⟩).trans ?_)
  blk_ext [idx_val t]

end Cert.GqaIdeal.Value

end
-- ==== Proof.Proj.Body.lean ====
/- The body of the input projection: what it leaves in its buffers, at the first column block of a row block and at the others. -/
module

public import proofs.«01_k».proof.Proof.Gen.ProjIdeal.Frame
public import Idealize.ShloMosaic.Lib.Pipeline.ValueKit.Acc
public import Idealize.ShloMosaic.Lib.Pipeline.ReadBack

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The normalized rows: each row of `x` over the root of its mean square, times the gains `g`. -/
def norm (x : FVec F S1024x1024 .f32) (g : FVec F S1x1024 .f32) : FVec F S1024x1024 .bf16 :=
  truncf .bf16 (mulf (mulf x (broadcastTo S1024x1024 (rsqrt (addf (divf (shapeCast S1024x1 (multiReduction .add [1] S1024 (mulf x x) 0x00000000#32 reduces_S1024x1024_S1024 (.inl rfl) rfl) shapeCasts_S1024_S1024x1) (broadcast S1024x1 (Scalar.ofBits .f32 0x44800000#32))) (broadcast S1024x1 (Scalar.ofBits .f32 0x358637BD#32)))) broadcasts_S1024x1_S1024x1024)) (broadcastTo S1024x1024 (shapeCast S1x1024 g shapeCasts_S1x1024_S1x1024) broadcasts_S1x1024_S1024x1024)) bitsLt_bf16_f32

/-- The normalized rows as the body keeps them in its scratch buffer. -/
def rows (x : FVec F S1024x1024 .f32) (g : FVec F S1x1024 .f32) : FVec F S1024x1024 .bf16 :=
  shapeCast S1024x1024 (norm x g) shapeCasts_S1024x1024_S1024x1024

/-- The gate columns: the normalized rows times the gate weights. -/
def gate (x : FVec F S1024x1024 .f32) (g : FVec F S1x1024 .f32) (w : FVec F S1024x128 .bf16) : FVec F S1024x128 .f32 :=
  matmul dot_S1024x1024_S1024x128_S1024x128_1_0_0_1_n_n none (norm x g) (shapeCast S1024x128 w shapeCasts_S1024x128_S1024x128) (constant S1024x128 .f32 0x00000000#32)

/-- The main columns: the normalized rows `h` times a block of the main weights. -/
def cols (h : FVec F S1024x1024 .bf16) (w : FVec F S1024x1280 .bf16) : FVec F S1024x1280 .bf16 :=
  truncf .bf16 (matmul dot_S1024x1024_S1024x1280_S1024x1280_1_0_0_1_n_n none h (shapeCast S1024x1280 w shapeCasts_S1024x1280_S1024x1280) (constant S1024x1280 .f32 0x00000000#32)) bitsLt_bf16_f32

set_option maxHeartbeats 1000000 in
/-- The body at a first column block: the scratch gets the normalized rows, and both output buffers their products. -/
theorem first (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1280 .bf16) (h4 : a4.IsWhole) (a5 : Memref sig .tc .vmem S1024x128 .bf16) (h5 : a5.IsWhole) (a6 : Memref sig .tc .vmem S1024x1280 .bf16) (h6 : a6.IsWhole) (a7 : Memref sig .tc .vmem S1024x128 .f32) (h7 : a7.IsWhole) (a8 : Memref sig .tc .vmem S1024x1024 .bf16) (h8 : a8.IsWhole)
    (hc : k0_cond1 i = 1#1) (x : Vec F S1024x1024 .f32) (g : Vec F S1x1024 .f32) (w : Vec F S1024x1280 .bf16) (v : Vec F S1024x128 .bf16) (E : Set ℕ) (K : PUnit → sProp 𝕄) :
    iprop(owns (c : Thread nD τ) a2 fullShare x ∗ owns (c : Thread nD τ) a3 fullShare g ∗ owns (c : Thread nD τ) a4 fullShare w ∗ owns (c : Thread nD τ) a5 fullShare v ∗ (∃ d, owns (c : Thread nD τ) a6 fullShare d) ∗ (∃ d, owns (c : Thread nD τ) a7 fullShare d) ∗ (∃ d, owns (c : Thread nD τ) a8 fullShare d)
        ∗ (iprop(owns (c : Thread nD τ) a2 fullShare x ∗ owns (c : Thread nD τ) a3 fullShare g ∗ owns (c : Thread nD τ) a4 fullShare w ∗ owns (c : Thread nD τ) a5 fullShare v ∗ owns (c : Thread nD τ) a6 fullShare (cols (rows x g) w) ∗ owns (c : Thread nD τ) a7 fullShare (gate x g v) ∗ owns (c : Thread nD τ) a8 fullShare (rows x g)) -∗ K ⟨⟩))
      ⊢ wp frame (wpE (defs₀ (F := F)) Variants.none c none) E (cc0_norm_matmul_gate i a2 h2 a3 h3 a4 h4 a5 h5 a6 h6 a7 h7 a8 h8) K := by
  unfold cc0_norm_matmul_gate
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
  obtain rfl := h2.eq_unread e2; obtain rfl := h3.eq_unread e3; obtain rfl := h4.eq_unread e4; obtain rfl := h5.eq_unread e5
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    refine (View.read_writes_eq_canon _ _ _ (View.cover_of_tiledL _ S1024x1280.size (by sl_kernel_rfl))).trans ?_
    frame_out
    rfl
  isplitl [H7]
  · iexists _; isplitr
    swap; · iexact H7
    ipureintro
    sl_unfold_words
    refine (View.read_writes_eq_canon _ _ _ (View.cover_of_tiledL _ S1024x128.size (by sl_kernel_rfl))).trans ?_
    frame_out
    rfl
  iexists _; isplitr
  swap; · iexact H8
  ipureintro
  sl_unfold_words
  refine (View.read_writes_eq_canon _ _ _ (View.cover_of_tiledL _ S1024x1024.size (by sl_kernel_rfl))).trans ?_
  frame_out
  rfl

set_option maxHeartbeats 1000000 in
/-- The body at any other column block: the main output buffer gets its product with the rows `h` already in the scratch; the gate buffer is not touched. -/
theorem later (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1280 .bf16) (h4 : a4.IsWhole) (a5 : Memref sig .tc .vmem S1024x128 .bf16) (h5 : a5.IsWhole) (a6 : Memref sig .tc .vmem S1024x1280 .bf16) (h6 : a6.IsWhole) (a7 : Memref sig .tc .vmem S1024x128 .f32) (h7 : a7.IsWhole) (a8 : Memref sig .tc .vmem S1024x1024 .bf16) (h8 : a8.IsWhole)
    (hc : ¬k0_cond1 i = 1#1) (x : Vec F S1024x1024 .f32) (g : Vec F S1x1024 .f32) (w : Vec F S1024x1280 .bf16) (v : Vec F S1024x128 .bf16) (z : Vec F S1024x128 .f32) (h : Vec F S1024x1024 .bf16) (E : Set ℕ) (K : PUnit → sProp 𝕄) :
    iprop(owns (c : Thread nD τ) a2 fullShare x ∗ owns (c : Thread nD τ) a3 fullShare g ∗ owns (c : Thread nD τ) a4 fullShare w ∗ owns (c : Thread nD τ) a5 fullShare v ∗ (∃ d, owns (c : Thread nD τ) a6 fullShare d) ∗ owns (c : Thread nD τ) a7 fullShare z ∗ owns (c : Thread nD τ) a8 fullShare h
        ∗ (iprop(owns (c : Thread nD τ) a2 fullShare x ∗ owns (c : Thread nD τ) a3 fullShare g ∗ owns (c : Thread nD τ) a4 fullShare w ∗ owns (c : Thread nD τ) a5 fullShare v ∗ owns (c : Thread nD τ) a6 fullShare (cols h w) ∗ owns (c : Thread nD τ) a7 fullShare z ∗ owns (c : Thread nD τ) a8 fullShare h) -∗ K ⟨⟩))
      ⊢ wp frame (wpE (defs₀ (F := F)) Variants.none c none) E (cc0_norm_matmul_gate i a2 h2 a3 h3 a4 h4 a5 h5 a6 h6 a7 h7 a8 h8) K := by
  unfold cc0_norm_matmul_gate
  unfold owns
  iintro ⟨⟨%f2, %e2, H2⟩, ⟨%f3, %e3, H3⟩, ⟨%f4, %e4, H4⟩, ⟨%f5, %e5, H5⟩, ⟨%d6, %f6, -, H6⟩, ⟨%f7, %e7, H7⟩, ⟨%f8, %e8, H8⟩, Hk⟩
  obtain rfl := h2.eq_unread e2; obtain rfl := h3.eq_unread e3; obtain rfl := h4.eq_unread e4; obtain rfl := h5.eq_unread e5; obtain rfl := h7.eq_unread e7; obtain rfl := h8.eq_unread e8
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    refine (View.read_writes_eq_canon _ _ _ (View.cover_of_tiledL _ S1024x1280.size (by sl_kernel_rfl))).trans ?_
    frame_out
    rfl
  isplitl [H7]
  · iexists _; isplitr; · ipureintro; exact h7.read_unread _
    iexact H7
  iexists _; isplitr; · ipureintro; exact h8.read_unread _
  iexact H8

end Cert.ProjIdeal.Body

end
-- ==== Proof.Proj.Frame.lean ====
/- The run of the input projection: what each buffer holds after each grid point, the body at every point, and the whole run. -/
module

public import proofs.«01_k».proof.Proof.Proj.Body
public import Idealize.ShloMosaic.Lib.Pipeline.TableIdle
public import Idealize.ShloMosaic.Lib.Claim

@[expose] public section

set_option maxRecDepth 16384

noncomputable section

namespace Cert.ProjIdeal.Region

open Cert.ProjIdeal Cert.ProjIdeal.Gen Cert.ProjIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body is at a first column block exactly at the points divisible by seven. -/
theorem first_iff (t : Fin cfg0.N) : k0_cond1 (grid0.coords t) = 1#1 ↔ t.val % 7 = 0 := by
  have ht : t.val < 112 := Nat.lt_of_lt_of_eq t.isLt N_0
  have e1 : (grid0.coords t 1).val = t.val / 1 % 7 := Pipeline.Grid.coords_val t 1 (by decide) rfl
  simp only [k0_cond1, e1]
  word_cmp

/-- The gate window is idle exactly at the other points. -/
theorem idle_eq (t : Fin cfg0.N) : cfg0.idle 5 (grid0.coords t) = !decide (t.val % 7 = 0) := by
  show (!(k0_cond1 (grid0.coords t) == 1#1)) = _
  by_cases h : t.val % 7 = 0
  · rw [(first_iff t).mpr h]; simp [h]
  · have := mt (first_iff t).mp h
    simp [h, this]

/-- The first point of the row block that `t` works on. -/
def base (t : Fin cfg0.N) : Fin cfg0.N := ⟨t.val / 7 * 7, Nat.lt_of_le_of_lt (Nat.div_mul_le_self _ _) t.isLt⟩

/-- At the first point of a row block that first point is the point itself. -/
theorem base_first (t : Fin cfg0.N) (h : t.val % 7 = 0) : base t = t :=
  Fin.ext (by show t.val / 7 * 7 = t.val; omega)

/-- Later points of a row block share their first point with the point before. -/
theorem base_later (t : Fin cfg0.N) (h : ¬t.val % 7 = 0) (hp : t.val - 1 < cfg0.N) : base ⟨t.val - 1, hp⟩ = base t :=
  Fin.ext (by show (t.val - 1) / 7 * 7 = t.val / 7 * 7; omega)

/-- What the scratch holds after point `t`: the normalized rows of its row block. -/
def scr (c : Dev nD) (t : Fin cfg0.N) : Vec F S1024x1024 .bf16 := rows (iblk m c 0 (base t)) (iblk m c 1 (base t))

/-- What the gate buffer holds after point `t`: the gate columns of its row block. -/
def gat (c : Dev nD) (t : Fin cfg0.N) : Vec F S1024x128 .f32 := gate (iblk m c 0 (base t)) (iblk m c 1 (base t)) (iblk m c 3 (base t))

/-- The invariant before position `n`: at first anything in the scratch, afterwards what the point before left there. -/
def Inv (c : Dev nD) : (n : ℕ) → n ≤ cfg0.N → sProp 𝕄
  | 0, _ => Pipeline.ΦA spec0 c
  | n + 1, hn => iprop(iprop(owns (c : Thread nD τ) (Memref.whole cc0_scratch0 : Memref sig .tc .vmem S1024x1024 .bf16) fullShare (scr m c ⟨n, hn⟩)) ∗ (∃ r, prngReg c r))

/-- Before the first grid point the scratch memory may hold anything. -/
theorem Inv_zero (c : Dev nD) (n : ℕ) (h : n ≤ cfg0.N) (hz : n = 0) : Inv m c n h = Pipeline.ΦA spec0 c := by
  subst hz; rfl

/-- After a grid point the scratch memory holds what that point's row block keeps. -/
theorem Inv_pos (c : Dev nD) (n : ℕ) (h : n ≤ cfg0.N) (hz : n ≠ 0) :
    Inv m c n h = iprop(iprop(owns (c : Thread nD τ) (Memref.whole cc0_scratch0 : Memref sig .tc .vmem S1024x1024 .bf16) fullShare (scr m c ⟨n - 1, by omega⟩)) ∗ (∃ r, prngReg c r)) := by
  cases n with
  | zero => exact absurd rfl hz
  | succ n => rfl

/-- The launch's invariant, with the scratch as a buffer owned at some contents. -/
theorem launch_eq (c : Dev nD) :
    (Pipeline.ΦA spec0 c : sProp 𝕄)
      = iprop(iprop(∃ d, owns (c : Thread nD τ) (Memref.whole cc0_scratch0 : Memref sig .tc .vmem S1024x1024 .bf16) fullShare d) ∗ (∃ r, prngReg c r)) := by
  unfold Pipeline.ΦA; rw [scopedRest0_eq]; simp only [owns_whole]; try rfl

/-- What the run keeps: the arrays as the region finds them, and each buffer's contents after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cols (scr m c t) (iblk m c 2 t)
    | ⟨5, _⟩ => gat m c t
  Φ t := Inv m c t.val (Nat.le_of_lt_succ t.isLt)
  q _ := fullShare
  owed _ := 0

/-- Each window works on the array the program holds when the grid starts. -/
theorem A_eq (c : Dev nD) (w : Fin cfg0.W) : (dats m 0 c).A w = V m c (Pipeline.arrRef spec0 w) := by
  dsimp only [dats]

/-- The claim on the scratch memory before a point, by the number of points done. -/
theorem inv_start (c : Dev nD) (t : Fin cfg0.N) : (dats m 0 c).Φ t.castSucc = Inv m c t.val (Nat.le_of_lt t.isLt) := by
  dsimp only [dats]; exact Pipeline.Dat.Φ_castSucc (Inv m c) t

/-- After a grid point the window of rows still holds the block it read. -/
theorem after0_0 (c : Dev nD) (t : Fin cfg0.N) : (dats m 0 c).after 0 t = iblk m c 0 t := by dsimp only [dats]
/-- After a grid point the window of the gains still holds the block it read. -/
theorem after0_1 (c : Dev nD) (t : Fin cfg0.N) : (dats m 0 c).after 1 t = iblk m c 1 t := by dsimp only [dats]
/-- After a grid point the window of the main weights still holds the block it read. -/
theorem after0_2 (c : Dev nD) (t : Fin cfg0.N) : (dats m 0 c).after 2 t = iblk m c 2 t := by dsimp only [dats]
/-- After a grid point the window of the gate weights still holds the block it read. -/
theorem after0_3 (c : Dev nD) (t : Fin cfg0.N) : (dats m 0 c).after 3 t = iblk m c 3 t := by dsimp only [dats]
/-- After a grid point the window of the first result holds that point's product. -/
theorem after0_4 (c : Dev nD) (t : Fin cfg0.N) : (dats m 0 c).after 4 t = cols (scr m c t) (iblk m c 2 t) := by dsimp only [dats]
/-- After a grid point the window of the second result holds the row block's gate product. -/
theorem after0_5 (c : Dev nD) (t : Fin cfg0.N) : (dats m 0 c).after 5 t = gat m c t := by dsimp only [dats]

/-- Before a grid point the window of rows holds the block it reads. -/
theorem before0_0 (c : Dev nD) (t : Fin cfg0.N) (d) : (dats m 0 c).before 0 t d = iblk m c 0 t :=
  before0_0_of m (dats m 0 c) (A_eq m c 0) (after0_0 m c) t d
/-- Before a grid point the window of the gains holds the block it reads. -/
theorem before0_1 (c : Dev nD) (t : Fin cfg0.N) (d) : (dats m 0 c).before 1 t d = iblk m c 1 t :=
  before0_1_of m (dats m 0 c) (A_eq m c 1) (after0_1 m c) t d
/-- Before a grid point the window of the main weights holds the block it reads. -/
theorem before0_2 (c : Dev nD) (t : Fin cfg0.N) (d) : (dats m 0 c).before 2 t d = iblk m c 2 t :=
  before0_2_of m (dats m 0 c) (A_eq m c 2) (after0_2 m c) t d
/-- Before a grid point the window of the gate weights holds the block it reads. -/
theorem before0_3 (c : Dev nD) (t : Fin cfg0.N) (d) : (dats m 0 c).before 3 t d = iblk m c 3 t :=
  before0_3_of m (dats m 0 c) (A_eq m c 3) (after0_3 m c) t d

/-- Along a row block the gate columns stay what they are. -/
theorem gat_later (c : Dev nD) (t : Fin cfg0.N) (h : ¬t.val % 7 = 0) (hp : t.val - 1 < cfg0.N) : gat m c ⟨t.val - 1, hp⟩ = gat m c t := by
  unfold gat; rw [base_later t h hp]

/-- Along a row block the scratch stays what it is. -/
theorem scr_later (c : Dev nD) (t : Fin cfg0.N) (h : ¬t.val % 7 = 0) (hp : t.val - 1 < cfg0.N) : scr m c ⟨t.val - 1, hp⟩ = scr m c t := by
  unfold scr; rw [base_later t h hp]

/-- After a point that is not a row block's last one the gate buffer still holds what the body stored. -/
theorem not_fresh (t : Fin cfg0.N) (h : ¬t.val % 7 = 0) : cfg0.fresh 5 t.val = false := by
  have key : ∀ n, n ≤ cfg0.N → cfg0.fresh 5 n = decide (n % 7 = 0) :=
    cfg0.fresh_tab 5 (fun n => decide (n % 7 = 0)) rfl fun t => by
      rw [idle_eq t]
      have hf := flush0_5 t
      by_cases h6 : t.val % 7 = 6
      · rw [hf.mpr h6]; simp; omega
      · have hf' : (cfg0.win 5).flush t = false := by simpa using mt hf.mp h6
        rw [hf']; by_cases h0 : t.val % 7 = 0 <;> simp [h0] <;> omega
  rw [key _ (Nat.le_of_lt t.isLt)]; simp [h]

/-- At a point that is not a row block's first the gate buffer already holds the gate columns. -/
theorem before0_5 (c : Dev nD) (t : Fin cfg0.N) (h : ¬t.val % 7 = 0) (d) : (dats m 0 c).before 5 t d = gat m c t := by
  rw [(dats m 0 c).before_out_traj 5 rfl (fun _ _ => rfl) (fun t ht hi _ => ?_) t.val t rfl d, not_fresh t h,
    if_neg Bool.false_ne_true, after0_5, gat_later m c t h]
  rw [after0_5, after0_5, gat_later]
  rw [idle_eq t] at hi
  simpa using hi

/-! ## The body at every point -/

/-- The buffers the body is called with at point `t`. -/
abbrev m0 (t : Fin cfg0.N) : Memref sig .tc .vmem S1024x1024 .f32 := win0_0.stage (cfg0.slots t 0)
abbrev m1 (t : Fin cfg0.N) : Memref sig .tc .vmem S1x1024 .f32 := win0_1.stage (cfg0.slots t 1)
abbrev m2 (t : Fin cfg0.N) : Memref sig .tc .vmem S1024x1280 .bf16 := win0_2.stage (cfg0.slots t 2)
abbrev m3 (t : Fin cfg0.N) : Memref sig .tc .vmem S1024x128 .bf16 := win0_3.stage (cfg0.slots t 3)
abbrev m4 (t : Fin cfg0.N) : Memref sig .tc .vmem S1024x1280 .bf16 := win0_4.stage (cfg0.slots t 4)
abbrev m5 (t : Fin cfg0.N) : Memref sig .tc .vmem S1024x128 .f32 := win0_5.stage (cfg0.slots t 5)

/-- What the body finds at point `t`. -/
def found (c : Dev nD) (t : Fin cfg0.N) : sProp 𝕄 :=
  iprop((dats m 0 c).Φ t.castSucc ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d))
    ∗ (∃ d, owns (c : Thread nD τ) (m3 t) fullShare ((dats m 0 c).before 3 t d))
    ∗ (∃ d, owns (c : Thread nD τ) (m4 t) fullShare ((dats m 0 c).before 4 t d))
    ∗ (∃ d, owns (c : Thread nD τ) (m5 t) fullShare ((dats m 0 c).before 5 t d)))

/-- What it leaves: every buffer at its stated contents. -/
def left (c : Dev nD) (t : Fin cfg0.N) : sProp 𝕄 :=
  iprop((dats m 0 c).Φ t.succ ∗ (dats m 0 c).owesAt () t.succ
    ∗ owns (c : Thread nD τ) (m0 t) fullShare ((dats m 0 c).after 0 t)
    ∗ owns (c : Thread nD τ) (m1 t) fullShare ((dats m 0 c).after 1 t)
    ∗ owns (c : Thread nD τ) (m2 t) fullShare ((dats m 0 c).after 2 t)
    ∗ owns (c : Thread nD τ) (m3 t) fullShare ((dats m 0 c).after 3 t)
    ∗ owns (c : Thread nD τ) (m4 t) fullShare ((dats m 0 c).after 4 t)
    ∗ owns (c : Thread nD τ) (m5 t) fullShare ((dats m 0 c).after 5 t))

/-- The body at any point leaves every buffer at its stated contents. -/
theorem sound (c : Dev nD) (t : Fin cfg0.N) :
    found m c t ⊢ wp frame (wpE (defs₀ (F := F)) Variants.none c none) Set.univ (bodyAt0 t) (fun _ => left m c t) := by
  unfold found left bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = iprop(iprop(owns (c : Thread nD τ) (Memref.whole cc0_scratch0 : Memref sig .tc .vmem S1024x1024 .bf16) fullShare (scr m c t)) ∗ (∃ r, prngReg c r)) from rfl]
  rw [inv_start m c t]
  by_cases h0 : t.val % 7 = 0
  · have hI : Inv m c t.val (Nat.le_of_lt t.isLt) ⊢ (Pipeline.ΦA spec0 c : sProp 𝕄) := by
      by_cases hz : t.val = 0
      · rw [Inv_zero m c _ _ hz]
      · rw [Inv_pos m c _ _ hz, launch_eq]
        iintro ⟨HS, Hg⟩
        isplitl [HS]
        · iexists _; iexact HS
        iexact Hg
    refine (Idealize.SL.BI.Laws.sep_mono_left hI).trans ?_
    rw [launch_eq]
    unfold scr gat; rw [base_first t h0]
    iintro ⟨⟨HS, Hg⟩, Ho, ⟨%d0, H0⟩, ⟨%d1, H1⟩, ⟨%d2, H2⟩, ⟨%d3, H3⟩, ⟨%d4, H4⟩, ⟨%d5, H5⟩⟩
    iapply (first c (grid0.coords t) _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    rw [Inv_pos m c _ _ hz, scr_later m c t h0]
    simp only [before0_5 m c t h0]
    iintro ⟨⟨HS, Hg⟩, Ho, ⟨%d0, H0⟩, ⟨%d1, H1⟩, ⟨%d2, H2⟩, ⟨%d3, H3⟩, ⟨%d4, H4⟩, ⟨%d5, H5⟩⟩
    iapply (later c (grid0.coords t) _ _ _ _ _ _ _ _ _ _ _ _ _ _ (fun h => h0 ((first_iff t).mp h)) (iblk m c 0 t) (iblk m c 1 t) (iblk m c 2 t) (iblk m c 3 t) (gat m c t) (scr m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body on that point's buffers. -/
theorem row (t : Fin cfg0.N) : defs₀ (F := F) .tc cfg0.body (cfg0.bodyArgs t (cfg0.slots t)) = bodyAt0 t := by
  unfold defs₀; rw [Defs.onTc_tc]

/-- The gate buffer as a point hands it on: where the body stores nothing and nothing is written back, as it was found. -/
theorem hand_on (c : Dev nD) (t : Fin cfg0.N) :
    owns (c : Thread nD τ) (m5 t) fullShare ((dats m 0 c).after 5 t)
      ⊢ (match cfg0.idle 5 (cfg0.grid.coords t) with
        | true => match (cfg0.win 5).flush t with
          | false => iprop(∃ d, owns (c : Thread nD τ) (m5 t) fullShare ((dats m 0 c).before 5 t d))
          | true => owns (c : Thread nD τ) (m5 t) fullShare ((dats m 0 c).after 5 t)
        | false => owns (c : Thread nD τ) (m5 t) fullShare ((dats m 0 c).after 5 t) : sProp 𝕄) := by
  have hi := idle_eq t
  by_cases h0 : t.val % 7 = 0
  · rw [show cfg0.idle 5 (cfg0.grid.coords t) = false from hi.trans (by simp [h0])]
  · rw [show cfg0.idle 5 (cfg0.grid.coords t) = true from hi.trans (by simp [h0])]
    cases (cfg0.win 5).flush t with
    | true => exact .rfl
    | false =>
      simp only [before0_5 m c t h0, after0_5]
      iintro H
      iexists (fun _ => Classical.arbitrary _); iexact H

/-- The body at every point, as the run asks for it. -/
theorem body (c : Dev nD) : BodyObligation (dats (F := F) m 0 c) (defs₀ (F := F)) Variants.none () Set.univ := fun t => by
  rw [bigSep_W0, bigSep_W0, row]
  refine triple_restated (sound m c t) rfl .rfl fun _ => ?_
  unfold left
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply (hand_on m c t); iexact H5

/-- The scratch memory as the grid starts is any memory at all. -/
theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- The scratch memory as the grid ends is given back whatever it holds. -/
theorem inv_out (c : Dev nD) : (dats m 0 c).Φ (Fin.last cfg0.N) ⊢ Pipeline.ΦA spec0 c := by
  have hN : (Fin.last cfg0.N).val ≠ 0 := by rw [Fin.val_last]; have : cfg0.N = 112 := N_0; omega
  rw [show (dats m 0 c).Φ (Fin.last cfg0.N) = Inv m c (Fin.last cfg0.N).val (Nat.le_of_lt_succ (Fin.last cfg0.N).isLt) from rfl, Inv_pos m c _ _ hN, launch_eq]
  iintro ⟨HS, Hg⟩
  isplitl [HS]
  · iexists _; iexact HS
  iexact Hg

/-! ## The run -/

set_option backward.isDefEq.respectTransparency.types false in
/-- The program runs to the end, with every array at what the points wrote and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body m c).loose) (hshare := fun c => (dats m 0 c).share_full fun _ => rfl)
    (howed := fun _ _ => rfl) (V := V m) (hmain := hmain m Variants.none) (hA := A_eq m) (hin := inv_in m) (hout := inv_out m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The program runs to the end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.ProjIdeal.Region
-- ==== Proof.Proj.Printed.lean ====
/- The input projection as first printed: it is the same program as the idealized one, so its run is carried over. -/
module

public import proofs.«01_k».proof.Proof.Proj.Frame
public import proofs.«01_k».proof.Proof.Gen.Proj.Frame

@[expose] public section

noncomputable section

namespace Cert.Proj.Region

open Cert.Proj
open Idealize.ShloMosaic Idealize.ShloMosaic.TcCoe Idealize.ShloMosaic.Tactic Idealize.SL.Sem

variable {F : FTy → Type} [FloatOps F]

/-- The two programs have the same kernel bodies. -/
theorem defs_eq : @Cert.Proj.defs F _ _ = @Cert.ProjIdeal.defs F _ _ := by sl_kernel_rfl

/-- The two programs are the same. -/
theorem main_eq : @Cert.Proj.main F _ _ = @Cert.ProjIdeal.main F _ _ := by sl_kernel_rfl

/-- The program runs to the end, its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.ProjIdeal.Region.frame (F := F) m ρ

end Cert.Proj.Region

end
-- ==== Proof.Proj.Value.lean ====
/- The value of the projection: both results of the kernel are, entry by entry, the reference's. -/
module
public import proofs.«01_k».proof.Proof.Proj.Frame
public import proofs.«01_k».proof.Proof.Gen.ProjRefIdeal
public import Idealize.ShloMosaic.Lib.Pipeline.ValueKit
public import Idealize.ShloMosaic.Lib.Pipeline.ReadBack
public import Idealize.ShloMosaic.Lib.StableHlo.Run
@[expose] public section
set_option maxRecDepth 16384
noncomputable section
open Idealize.ShloMosaic Idealize.ShloMosaic.TcCoe Idealize.SL.Sem
open scoped BigOperators
namespace Cert.ProjIdeal.Value
open Cert.ProjIdeal Cert.ProjIdeal.Gen Cert.ProjIdeal.Region Cert.ProjIdeal.Body
variable (m : (ℓ : Loc nD τ sig) → Buf (Elt Ideal) ℓ)

/-- The column of the product that stands at column `j` of the main result. -/
def src (j : ℕ) : ℕ :=
  if j < 4096 then 4880 + j else if j < 5120 then j - 4096 else if j < 7168 then j - 5120 + 1280
  else if j < 8704 then j - 7168 + 3344 else j - 8704 + 1024

/-- `src` range by range, as implications. -/
theorem src_spec (j : ℕ) : (j < 4096 → src j = 4880 + j) ∧ (4096 ≤ j → j < 5120 → src j = j - 4096) ∧ (5120 ≤ j → j < 7168 → src j = j - 5120 + 1280)
    ∧ (7168 ≤ j → j < 8704 → src j = j - 7168 + 3344) ∧ (8704 ≤ j → src j = j - 8704 + 1024) := by
  unfold src
  refine ⟨fun h => ?_, fun h h' => ?_, fun h h' => ?_, fun h h' => ?_, fun h => ?_⟩ <;> (repeat' split) <;> omega

/-- A choice between two values is `z` when both are. -/
theorem either {α : Type} {P : Prop} [Decidable P] {a : P → α} {b : ¬P → α} {z : α} (ha : ∀ h, a h = z) (hb : ∀ h, b h = z) : dite P a b = z := by
  by_cases h : P
  · rw [dif_pos h]; exact ha h
  · rw [dif_neg h]; exact hb h

/-- A column of the main result comes from a column the product has. -/
theorem src_lt (j : Fin 8960) : src j.val < 8976 := by
  have := j.isLt; unfold src; split_ifs <;> omega

/-- The main weights as the host code arranges them. -/
def arranged (w : FVec Ideal S1024x8976 .f32) : FVec Ideal S1024x8960 .f32 :=
  concatenate S1024x8960 1 [⟨S1024x4096, extractStridedSlice S1024x4096 ![0, 4880] w slices_S1024x8976_S1024x4096_0_4880⟩, ⟨S1024x512, extractStridedSlice S1024x512 ![0, 0] w slices_S1024x8976_S1024x512_0_0⟩, ⟨S1024x512, extractStridedSlice S1024x512 ![0, 512] w slices_S1024x8976_S1024x512_0_512⟩, ⟨S1024x512, extractStridedSlice S1024x512 ![0, 1280] w slices_S1024x8976_S1024x512_0_1280⟩, ⟨S1024x512, extractStridedSlice S1024x512 ![0, 1792] w slices_S1024x8976_S1024x512_0_1792⟩, ⟨S1024x512, extractStridedSlice S1024x512 ![0, 2304] w slices_S1024x8976_S1024x512_0_2304⟩, ⟨S1024x512, extractStridedSlice S1024x512 ![0, 2816] w slices_S1024x8976_S1024x512_0_2816⟩, ⟨S1024x512, extractStridedSlice S1024x512 ![0, 3344] w slices_S1024x8976_S1024x512_0_3344⟩, ⟨S1024x512, extractStridedSlice S1024x512 ![0, 3856] w slices_S1024x8976_S1024x512_0_3856⟩, ⟨S1024x512, extractStridedSlice S1024x512 ![0, 4368] w slices_S1024x8976_S1024x512_0_4368⟩, ⟨S1024x128, extractStridedSlice S1024x128 ![0, 1024] w slices_S1024x8976_S1024x128_0_1024⟩, ⟨S1024x128, extractStridedSlice S1024x128 ![0, 1152] w slices_S1024x8976_S1024x128_0_1152⟩] concatenates_S1024x4096_S1024x512_S1024x512_S1024x512_S1024x512_S1024x512_S1024x512_S1024x512_S1024x512_S1024x512_S1024x128_S1024x128_S1024x8960_d1

/-- The arranged weights, column by column. -/
theorem arranged_apply (w : FVec Ideal S1024x8976 .f32) (k : Fin 1024) (j : Fin 8960) : arranged w (ix2 k j) = w (ix2 k ⟨src j.val, src_lt j⟩) := by
  pointwise [arranged]
  have e := src_spec j.val
  have hj := j.isLt
  repeat' refine either (fun h => congrArg (fun s => w (ix2 k s)) (Fin.ext (by dsimp only; omega))) fun h => ?_
  exact congrArg (fun s => w (ix2 k s)) (Fin.ext (by dsimp only; omega))

/-- The host code leaves the arranged weights in the third window's array. -/
theorem V_main (c : Dev nD) : (V m c main_v14 : FVec Ideal S1024x8960 .bf16)
    = (truncf .bf16 (arranged (m ((c : Thread nD τ).loc main_arg2))) bitsLt_bf16_f32 : FVec Ideal S1024x8960 .bf16) := by
  show StableHlo.after (List.flatten [hostOps0, hostOps0_1, hostOps0_2]) (fun b => m (c, b)) _ = _
  simp only [List.flatten_cons, List.flatten_nil, List.append_nil, List.cons_append, List.nil_append]
  after_results
  all_goals rfl

/-- The gate weights as the host code pads them. -/
def padded (w : FVec Ideal S1024x8976 .f32) : FVec Ideal S1024x128 .f32 :=
  pad S1024x128 ![0, 0] ![0, 112] ![0, 0] (extractStridedSlice S1024x16 ![0, 3328] w slices_S1024x8976_S1024x16_0_3328) (sitofp .f32 (constantI S_ 32 0#32)) pads_S1024x16_S1024x128_000_01120 h_S_

/-- The array the gate's weights are read from holds the padded weights. -/
theorem V_gate (c : Dev nD) : (V m c main_v16 : FVec Ideal S1024x128 .bf16)
    = (truncf .bf16 (padded (m ((c : Thread nD τ).loc main_arg2))) bitsLt_bf16_f32 : FVec Ideal S1024x128 .bf16) := by
  show StableHlo.after (List.flatten [hostOps0, hostOps0_1, hostOps0_2]) (fun b => m (c, b)) _ = _
  simp only [List.flatten_cons, List.flatten_nil, List.append_nil, List.cons_append, List.nil_append]
  after_results
  all_goals rfl

/-- The padding, a converted integer zero, is zero. -/
theorem zero_word : (FloatOps.sitofp .f32 (0#32) : Ideal .f32) = (0 : EReal) := by
  show (((0#32 : BitVec 32).toInt : ℝ) : EReal) = 0
  simp

/-- The padded gate weights, column by column: sixteen columns of the weights, then zeros. -/
theorem padded_apply (w : FVec Ideal S1024x8976 .f32) (k : Fin 1024) (j : Fin 128) :
    padded w (ix2 k j) = if h : j.val < 16 then w (ix2 k ⟨3328 + j.val, by omega⟩) else 0 := by
  pointwise [padded]
  rw [zero_word]

/-- The array the gains are read from holds them as one row. -/
theorem V_gain (c : Dev nD) : (V m c main_v17 : FVec Ideal S1x1024 .f32)
    = (shapeCast S1x1024 (m ((c : Thread nD τ).loc main_arg1) : FVec Ideal S1024 .f32) shapeCasts_S1024_S1x1024 : FVec Ideal S1x1024 .f32) := by
  show StableHlo.after (List.flatten [hostOps0, hostOps0_1, hostOps0_2]) (fun b => m (c, b)) _ = _
  simp only [List.flatten_cons, List.flatten_nil, List.append_nil, List.cons_append, List.nil_append]
  after_results
  all_goals rfl
/-- The reference's normalised rows: every row of `x` over its root mean square, times the weight. -/
abbrev NORM (x : FVec Ideal Cert.ProjRefIdeal.S16384x1024 .f32) (w : FVec Ideal Cert.ProjRefIdeal.S1024 .f32) :
    FVec Ideal Cert.ProjRefIdeal.S16384x1024 .f32 :=
  mulf (mulf x (broadcastInDim Cert.ProjRefIdeal.S16384x1024 ![0, 1] Cert.ProjRefIdeal.Gen.bcast_S16384x1_S16384x1024_0_1 (Host.rsqrt (addf (Host.divf (broadcastInDim Cert.ProjRefIdeal.S16384x1 ![0] Cert.ProjRefIdeal.Gen.bcast_S16384_S16384x1_0 (Host.reduceAdd (mulf x x) (constant Cert.ProjRefIdeal.S_ .f32 0x00000000#32) Cert.ProjRefIdeal.Gen.reducesTo_S16384x1024_S16384_d1 Cert.ProjRefIdeal.Gen.h_S_)) (broadcastInDim Cert.ProjRefIdeal.S16384x1 ![] Cert.ProjRefIdeal.Gen.bcast_S_S16384x1 (constant Cert.ProjRefIdeal.S_ .f32 0x44800000#32))) (broadcastInDim Cert.ProjRefIdeal.S16384x1 ![] Cert.ProjRefIdeal.Gen.bcast_S_S16384x1 (constant Cert.ProjRefIdeal.S_ .f32 0x358637BD#32)))))) (broadcastInDim Cert.ProjRefIdeal.S16384x1024 ![0, 1] Cert.ProjRefIdeal.Gen.bcast_S1x1024_S16384x1024_0_1 (broadcastInDim Cert.ProjRefIdeal.S1x1024 ![1] Cert.ProjRefIdeal.Gen.bcast_S1024_S1x1024_1 w))

/-- The reference's product. -/
def prod (a : FVec Ideal Cert.ProjRefIdeal.S16384x1024 .f32) (w : FVec Ideal Cert.ProjRefIdeal.S1024x8976 .f32) : FVec Ideal Cert.ProjRefIdeal.S16384x8976 .f32 :=
  Host.dotGeneral Cert.ProjRefIdeal.dot_S16384x1024_S1024x8976_S16384x8976_1_0_0_1_n_n none a w

/-- The reference's product, entry by entry. -/
theorem prod_apply (a : FVec Ideal Cert.ProjRefIdeal.S16384x1024 .f32) (w : FVec Ideal Cert.ProjRefIdeal.S1024x8976 .f32) (r : Fin 16384) (s : Fin 8976) :
    prod a w (ix2 r s) = ∑ k : Fin 1024, a (ix2 r k) * w (ix2 k s) := by
  pointwise [prod]

/-- The reference's first result: ranges of the product's columns side by side. -/
def mainOf (p : FVec Ideal Cert.ProjRefIdeal.S16384x8976 .f32) : FVec Ideal Cert.ProjRefIdeal.S16384x8960 .bf16 :=
  truncf .bf16 (concatenate Cert.ProjRefIdeal.S16384x8960 1 [⟨Cert.ProjRefIdeal.S16384x4096, extractStridedSlice Cert.ProjRefIdeal.S16384x4096 ![0, 4880] p Cert.ProjRefIdeal.Gen.slices_S16384x8976_S16384x4096_0_4880⟩, ⟨Cert.ProjRefIdeal.S16384x1024, extractStridedSlice Cert.ProjRefIdeal.S16384x1024 ![0, 0] p Cert.ProjRefIdeal.Gen.slices_S16384x8976_S16384x1024_0_0⟩, ⟨Cert.ProjRefIdeal.S16384x2048, extractStridedSlice Cert.ProjRefIdeal.S16384x2048 ![0, 1280] p Cert.ProjRefIdeal.Gen.slices_S16384x8976_S16384x2048_0_1280⟩, ⟨Cert.ProjRefIdeal.S16384x1536, extractStridedSlice Cert.ProjRefIdeal.S16384x1536 ![0, 3344] p Cert.ProjRefIdeal.Gen.slices_S16384x8976_S16384x1536_0_3344⟩, ⟨Cert.ProjRefIdeal.S16384x256, extractStridedSlice Cert.ProjRefIdeal.S16384x256 ![0, 1024] p Cert.ProjRefIdeal.Gen.slices_S16384x8976_S16384x256_0_1024⟩] Cert.ProjRefIdeal.Gen.concatenates_S16384x4096_S16384x1024_S16384x2048_S16384x1536_S16384x256_S16384x8960_d1) Cert.ProjRefIdeal.Gen.bitsLt_bf16_f32

/-- Column `j` of the first result is column `src j` of the product. -/
theorem mainOf_apply (p : FVec Ideal Cert.ProjRefIdeal.S16384x8976 .f32) (r : Fin 16384) (j : Fin 8960) :
    mainOf p (ix2 r j) = p (ix2 r ⟨src j.val, src_lt j⟩) := by
  pointwise [mainOf]
  have e := src_spec j.val
  have hj := j.isLt
  repeat' refine either (fun h => congrArg (fun s => p (ix2 r s)) (Fin.ext (by dsimp only; omega))) fun h => ?_
  exact congrArg (fun s => p (ix2 r s)) (Fin.ext (by dsimp only; omega))

/-- The reference's second result: sixteen columns of the product, then zeros. -/
def gateOf (p : FVec Ideal Cert.ProjRefIdeal.S16384x8976 .f32) : FVec Ideal Cert.ProjRefIdeal.S16384x128 .f32 :=
  pad Cert.ProjRefIdeal.S16384x128 ![0, 0] ![0, 112] ![0, 0] (extractStridedSlice Cert.ProjRefIdeal.S16384x16 ![0, 3328] p Cert.ProjRefIdeal.Gen.slices_S16384x8976_S16384x16_0_3328) (sitofp .f32 (constantI Cert.ProjRefIdeal.S_ 32 0#32)) Cert.ProjRefIdeal.Gen.pads_S16384x16_S16384x128_000_01120 Cert.ProjRefIdeal.Gen.h_S_

/-- The second result, column by column. -/
theorem gateOf_apply (p : FVec Ideal Cert.ProjRefIdeal.S16384x8976 .f32) (r : Fin 16384) (j : Fin 128) :
    gateOf p (ix2 r j) = if h : j.val < 16 then p (ix2 r ⟨3328 + j.val, by omega⟩) else 0 := by
  pointwise [gateOf]
  rw [zero_word]

/-- The body's main product, entry by entry. -/
theorem cols_apply (h : FVec Ideal S1024x1024 .bf16) (u : FVec Ideal S1024x1280 .bf16) (p : Fin 1024) (q : Fin 1280) :
    cols h u (ix2 p q) = ∑ k : Fin 1024, h (ix2 p k) * u (ix2 k q) := by
  pointwise [cols]

/-- The body's gate product, entry by entry. -/
theorem gate_apply (x : FVec Ideal S1024x1024 .f32) (g : FVec Ideal S1x1024 .f32) (u : FVec Ideal S1024x128 .bf16) (p : Fin 1024) (q : Fin 128) :
    gate x g u (ix2 p q) = ∑ k : Fin 1024, norm x g (ix2 p k) * u (ix2 k q) := by
  unfold gate
  generalize norm x g = h
  pointwise []

/-- Every window's block index at grid point `t`: the row block is `t / 7`, the column block `t % 7`. -/
theorem idx_val : ∀ t : Fin cfg0.N, win0_0.index t = ![t.val / 7, 0]
    ∧ win0_1.index t = ![0, 0]
    ∧ win0_2.index t = ![0, t.val % 7]
    ∧ win0_3.index t = ![0, 0]
    ∧ win0_4.index t = ![t.val / 7, t.val % 7]
    ∧ win0_5.index t = ![t.val / 7, 0] :=
  (by decide +kernel : ∀ t : Fin grid0.N, _)

/-- A row of a row block is a row of the array. -/
theorem row_lt (t : Fin cfg0.N) (p : Fin 1024) : t.val / 7 * 1024 + p.val < 16384 := by
  have : t.val < 112 := Nat.lt_of_lt_of_eq t.isLt N_0
  omega

/-- A column of a column block is a column of the main result. -/
theorem col_lt (t : Fin cfg0.N) (q : Fin 1280) : t.val % 7 * 1280 + q.val < 8960 := by omega

/-- The body's normalisation of a row block is the reference's, at the rows of the block. -/
theorem norm_point (c : Dev nD) (t : Fin cfg0.N) (p k : Fin 1024) : Body.norm (F := Ideal) (iblk m c 0 t) (iblk m c 1 t) (ix2 p k)
    = NORM (m ((c : Thread nD τ).loc main_arg0)) (m ((c : Thread nD τ).loc main_arg1)) (ix2 ⟨t.val / 7 * 1024 + p.val, row_lt t p⟩ k) := by
  have ex : ∀ k : Fin 1024, (iblk m c 0 t : FVec Ideal S1024x1024 .f32) (ix2 p k) = (m ((c : Thread nD τ).loc main_arg0) : FVec Ideal S16384x1024 .f32) (ix2 ⟨t.val / 7 * 1024 + p.val, row_lt t p⟩ k) := fun k => by
    rw [← V_main_arg0 m c]
    blk_ext [iblk, idx_val t]
  have eg : ∀ k : Fin 1024, (iblk m c 1 t : FVec Ideal S1x1024 .f32) (ix2 0 k) = (m ((c : Thread nD τ).loc main_arg1) : FVec Ideal S1024 .f32) (ix1 k) := fun k => by
    have e : (V m c main_v17 : FVec Ideal S1x1024 .f32) (ix2 0 k) = (m ((c : Thread nD τ).loc main_arg1) : FVec Ideal S1024 .f32) (ix1 k) := by
      rw [V_gain]; pointwise []
    rw [← e]
    blk_ext [iblk, idx_val t]
  generalize (iblk m c 0 t : FVec Ideal S1024x1024 .f32) = X at *
  generalize (iblk m c 1 t : FVec Ideal S1x1024 .f32) = G at *
  pointwise [Body.norm, NORM]
  simp only [ex, eg]

/-- The block of main weights a grid point reads, entry by entry, as a column of the weights. -/
theorem wmain (c : Dev nD) (t : Fin cfg0.N) (k : Fin 1024) (q : Fin 1280) : (iblk m c 2 t : FVec Ideal S1024x1280 .bf16) (ix2 k q)
    = (m ((c : Thread nD τ).loc main_arg2) : FVec Ideal S1024x8976 .f32) (ix2 k ⟨src (t.val % 7 * 1280 + q.val), src_lt ⟨_, col_lt t q⟩⟩) := by
  refine Eq.trans ?_ (arranged_apply (m ((c : Thread nD τ).loc main_arg2)) k ⟨_, col_lt t q⟩)
  have e : (V m c main_v14 : FVec Ideal S1024x8960 .bf16) (ix2 k ⟨_, col_lt t q⟩) = arranged (m ((c : Thread nD τ).loc main_arg2)) (ix2 k ⟨_, col_lt t q⟩) := by
    rw [V_main]; rfl
  rw [← e]
  blk_ext [iblk, idx_val t]

/-- The gate weights every grid point reads are the padded ones. -/
theorem wgate (c : Dev nD) (t : Fin cfg0.N) (k : Fin 1024) (q : Fin 128) : (iblk m c 3 t : FVec Ideal S1024x128 .bf16) (ix2 k q)
    = padded (m ((c : Thread nD τ).loc main_arg2)) (ix2 k q) := by
  have e : (V m c main_v16 : FVec Ideal S1024x128 .bf16) (ix2 k q) = padded (m ((c : Thread nD τ).loc main_arg2)) (ix2 k q) := by
    rw [V_gate]; rfl
  rw [← e]
  blk_ext [iblk, idx_val t]

/-- The product of normalised rows and weights. -/
abbrev full (c : Dev nD) : FVec Ideal Cert.ProjRefIdeal.S16384x8976 .f32 :=
  prod (NORM (m ((c : Thread nD τ).loc main_arg0)) (m ((c : Thread nD τ).loc main_arg1))) (m ((c : Thread nD τ).loc main_arg2))

/-- The rows kept from the first point of a row block are normalised rows of that block. -/
theorem scr_point (c : Dev nD) (t : Fin cfg0.N) (p k : Fin 1024) : (scr m c t : FVec Ideal S1024x1024 .bf16) (ix2 p k)
    = NORM (m ((c : Thread nD τ).loc main_arg0)) (m ((c : Thread nD τ).loc main_arg1)) (ix2 ⟨t.val / 7 * 1024 + p.val, row_lt t p⟩ k) := by
  have e : (scr m c t : FVec Ideal S1024x1024 .bf16) (ix2 p k) = Body.norm (F := Ideal) (iblk m c 0 (base t)) (iblk m c 1 (base t)) (ix2 p k) := by
    unfold scr rows
    generalize Body.norm (F := Ideal) (iblk m c 0 (base t)) (iblk m c 1 (base t)) = h
    pointwise []
  refine e.trans ((norm_point m c (base t) p k).trans (congrArg (fun r => NORM _ _ (ix2 r k)) (Fin.ext ?_)))
  show t.val / 7 * 7 / 7 * 1024 + p.val = t.val / 7 * 1024 + p.val
  omega

/-- The block of the first result a grid point writes. -/
theorem main_point (c : Dev nD) (t : Fin cfg0.N) (p : Fin 1024) (q : Fin 1280) :
    cols (F := Ideal) (scr m c t) (iblk m c 2 t) (ix2 p q) = mainOf (full m c) (ix2 ⟨_, row_lt t p⟩ ⟨_, col_lt t q⟩) := by
  refine (cols_apply _ _ p q).trans (Eq.trans ?_ ((mainOf_apply _ _ _).trans (prod_apply _ _ _ _)).symm)
  exact Finset.sum_congr rfl fun k _ => congrArg₂ (· * ·) (scr_point m c t p k) (wmain m c t k q)

/-- The block of the second result a row block writes. -/
theorem gate_point (c : Dev nD) (t : Fin cfg0.N) (p : Fin 1024) (q : Fin 128) :
    (gat m c t : FVec Ideal S1024x128 .f32) (ix2 p q) = gateOf (full m c) (ix2 ⟨_, row_lt t p⟩ q) := by
  refine (gate_apply _ _ _ p q).trans (Eq.trans ?_ (gateOf_apply _ _ _).symm)
  have hr : (⟨(base t).val / 7 * 1024 + p.val, row_lt (base t) p⟩ : Fin 16384) = ⟨t.val / 7 * 1024 + p.val, row_lt t p⟩ := Fin.ext (by
    show t.val / 7 * 7 / 7 * 1024 + p.val = t.val / 7 * 1024 + p.val
    omega)
  have hs : ∀ k, Body.norm (F := Ideal) (iblk m c 0 (base t)) (iblk m c 1 (base t)) (ix2 p k) * (iblk m c 3 (base t) : FVec Ideal S1024x128 .bf16) (ix2 k q)
      = NORM (m ((c : Thread nD τ).loc main_arg0)) (m ((c : Thread nD τ).loc main_arg1)) (ix2 ⟨t.val / 7 * 1024 + p.val, row_lt t p⟩ k)
        * (if h : q.val < 16 then (m ((c : Thread nD τ).loc main_arg2) : FVec Ideal S1024x8976 .f32) (ix2 k ⟨3328 + q.val, by omega⟩) else (0 : EReal)) := fun k =>
    congrArg₂ (· * ·) ((norm_point m c (base t) p k).trans (congrArg (fun r => NORM _ _ (ix2 r k)) hr)) ((wgate m c (base t) k q).trans (padded_apply _ k q))
  refine (Finset.sum_congr rfl fun k _ => hs k).trans ?_
  by_cases h : q.val < 16
  · simp only [dif_pos h]
    exact (prod_apply _ _ _ _).symm
  · simp only [dif_neg h, mul_zero, Finset.sum_const_zero]

/-- The kernel's first result is the reference's. -/
theorem final4 (c : Dev nD) : (dats m 0 c).arrAt 4 cfg0.N = mainOf (full m c) := by
  refine (dats m 0 c).arrAt_eq_of_covers 4 _ (by decide +kernel) fun t hf y => ?_
  blk_simp
  rw [after0_4]
  have ey : y = ix2 (y 0) (y 1) := funext fun a => by fin_cases a <;> rfl
  refine (congrArg (cols (scr m c t) (iblk m c 2 t) : FVec Ideal S1024x1280 .bf16) ey).trans ((main_point m c t (y 0) (y 1)).trans ?_)
  blk_ext [idx_val t]

/-- The kernel's second result is the reference's. -/
theorem final5 (c : Dev nD) : (dats m 0 c).arrAt 5 cfg0.N = gateOf (full m c) := by
  refine (dats m 0 c).arrAt_eq_of_covers 5 _ (by decide +kernel) fun t hf y => ?_
  blk_simp
  rw [after0_5]
  have ey : y = ix2 (y 0) (y 1) := funext fun a => by fin_cases a <;> rfl
  refine (congrArg (gat m c t : FVec Ideal S1024x128 .f32) ey).trans ((gate_point m c t (y 0) (y 1)).trans ?_)
  blk_ext [idx_val t]

end Cert.ProjIdeal.Value
-- ==== Proof.Up.Value.lean ====
/- The projection up to the feed-forward's hidden features, over the extended reals: what the carried scratch holds, what
   every block written back holds, and the whole result array. -/
module

public import proofs.«01_k».proof.Proof.Gen.UpIdeal.Value
public import proofs.«01_k».proof.Proof.Gen.UpRefIdeal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.UpIdeal.Value

open Cert.UpIdeal Cert.UpIdeal.Gen

variable (m : (ℓ : Loc nD τ sig) → Buf (Elt Ideal) ℓ)

/-- The reference's normalised rows: every row of `x` over its root mean square, times the weight. -/
abbrev NORM (x : FVec Ideal Cert.UpRefIdeal.S16384x1024 .f32) (w : FVec Ideal Cert.UpRefIdeal.S1024 .f32) :
    FVec Ideal Cert.UpRefIdeal.S16384x1024 .f32 :=
  mulf (mulf x (broadcastInDim Cert.UpRefIdeal.S16384x1024 ![0, 1] Cert.UpRefIdeal.Gen.bcast_S16384x1_S16384x1024_0_1 (Host.rsqrt (addf (Host.divf (broadcastInDim Cert.UpRefIdeal.S16384x1 ![0] Cert.UpRefIdeal.Gen.bcast_S16384_S16384x1_0 (Host.reduceAdd (mulf x x) (constant Cert.UpRefIdeal.S_ .f32 0x00000000#32) Cert.UpRefIdeal.Gen.reducesTo_S16384x1024_S16384_d1 Cert.UpRefIdeal.Gen.h_S_)) (broadcastInDim Cert.UpRefIdeal.S16384x1 ![] Cert.UpRefIdeal.Gen.bcast_S_S16384x1 (constant Cert.UpRefIdeal.S_ .f32 0x44800000#32))) (broadcastInDim Cert.UpRefIdeal.S16384x1 ![] Cert.UpRefIdeal.Gen.bcast_S_S16384x1 (constant Cert.UpRefIdeal.S_ .f32 0x358637BD#32)))))) (broadcastInDim Cert.UpRefIdeal.S16384x1024 ![0, 1] Cert.UpRefIdeal.Gen.bcast_S1x1024_S16384x1024_0_1 (broadcastInDim Cert.UpRefIdeal.S1x1024 ![1] Cert.UpRefIdeal.Gen.bcast_S1024_S1x1024_1 w))

/-- The reference's result: the normalised rows times the matrix. -/
abbrev REF (x : FVec Ideal Cert.UpRefIdeal.S16384x1024 .f32) (w : FVec Ideal Cert.UpRefIdeal.S1024 .f32)
    (u : FVec Ideal Cert.UpRefIdeal.S1024x5632 .f32) : FVec Ideal Cert.UpRefIdeal.S16384x5632 .bf16 :=
  truncf .bf16 (Host.dotGeneral Cert.UpRefIdeal.dot_S16384x1024_S1024x5632_S16384x5632_1_0_0_1_n_n none (NORM x w) u) Cert.UpRefIdeal.Gen.bitsLt_bf16_f32

/-- Every window's block index at grid point `t`: the row block is `t / 4`, the column block `t % 4`. -/
theorem idx_val : ∀ t : Fin cfg0.N, win0_0.index t = ![t.val / 4, 0]
    ∧ win0_1.index t = ![0, 0]
    ∧ win0_2.index t = ![0, t.val % 4]
    ∧ win0_3.index t = ![t.val / 4, t.val % 4] :=
  (by decide +kernel : ∀ t : Fin grid0.N, _)

/-- The body's normalisation of a row block is the reference's, at the rows of the block. -/
theorem norm_point (c : Dev nD) (t : Fin cfg0.N) (y) : k0_pay1 (F := Ideal) (iblk m c 0 t) (iblk m c 1 t) y
    = NORM (m ((c : Thread nD τ).loc main_arg0)) (m ((c : Thread nD τ).loc main_arg1)) (((cfg0.win 0).blk t).view.emb y) := by
  pointwise [k0_pay1, NORM]
  blk_point [iblk, V, idx_val t]

/-- The scratch after any point holds the normalised rows of the point's row block: stored at the block's first point,
    kept at the three that follow. -/
theorem scratch (c : Dev nD) : ∀ (n : ℕ) (h : n < cfg0.N) (y), (outsAt0 m c n h).2 y
    = NORM (m ((c : Thread nD τ).loc main_arg0)) (m ((c : Thread nD τ).loc main_arg1)) (((cfg0.win 0).blk ⟨n, h⟩).view.emb y) := by
  intro n
  induction n with
  | zero =>
    intro h y
    rw [outsAt0_A m c ⟨0, h⟩ (Nat.zero_mod _)]
    dsimp only
    frame_out
    exact norm_point m c ⟨0, h⟩ y
  | succ n ih =>
    intro h y
    by_cases h0 : (n + 1) % 4 = 0
    · rw [outsAt0_A m c ⟨n + 1, h⟩ h0]
      dsimp only
      frame_out
      exact norm_point m c ⟨n + 1, h⟩ y
    · rw [outsAt0_B m c ⟨n + 1, h⟩ h0]
      dsimp only [sout0_B_0]
      refine (ih (Nat.lt_of_succ_lt h) y).trans (congrArg _ ?_)
      blk_ext [idx_val ⟨n + 1, h⟩, idx_val ⟨n, Nat.lt_of_succ_lt h⟩]

/-- What a point writes back is the reference at the array index it sits at, whatever the scratch holds as long as it is
    the row block normalised. -/
theorem prod_point (c : Dev nD) (t : Fin cfg0.N) (v : FVec Ideal S1024x1024 .bf16)
    (hv : ∀ y, v y = NORM (m ((c : Thread nD τ).loc main_arg0)) (m ((c : Thread nD τ).loc main_arg1)) (((cfg0.win 0).blk t).view.emb y)) (y) :
    k0_pay2 v (iblk m c 2 t) y
    = REF (m ((c : Thread nD τ).loc main_arg0)) (m ((c : Thread nD τ).loc main_arg1)) (m ((c : Thread nD τ).loc main_arg2)) (((cfg0.win 3).blk t).view.emb y) := by
  have e : v = fun y => NORM (m ((c : Thread nD τ).loc main_arg0)) (m ((c : Thread nD τ).loc main_arg1)) (((cfg0.win 0).blk t).view.emb y) := funext hv
  subst e
  pointwise [k0_pay2, REF, NORM]
  blk_point [iblk, V, idx_val t]

/-- At a point that is not its row block's first, the point before left the normalised rows of the same block. -/
theorem scratch_prev (c : Dev nD) (t : Fin cfg0.N) (h0 : ¬t.val % 4 = 0) (y) :
    (outsAt0 m c (t.val - 1) (Nat.lt_of_le_of_lt (Nat.sub_le _ _) t.isLt)).2 y
    = NORM (m ((c : Thread nD τ).loc main_arg0)) (m ((c : Thread nD τ).loc main_arg1)) (((cfg0.win 0).blk t).view.emb y) := by
  refine (scratch m c (t.val - 1) (Nat.lt_of_le_of_lt (Nat.sub_le _ _) t.isLt) y).trans (congrArg _ ?_)
  have h1 : (t.val - 1) / 4 = t.val / 4 := by omega
  blk_ext [idx_val t, idx_val ⟨t.val - 1, Nat.lt_of_le_of_lt (Nat.sub_le _ _) t.isLt⟩, h1]

/-- The result array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h0 : t.val % 4 = 0
  · rw [outsAt0_A m c t h0]
    dsimp only
    frame_out
    exact prod_point m c t _ (fun y => norm_point m c t y) y
  · rw [outsAt0_B m c t h0]
    dsimp only
    frame_out
    rw [read_unread_whole]
    exact prod_point m c t _ (scratch_prev m c t h0) y

end Cert.UpIdeal.Value

end
-- ==== Proof.Merge.Value.lean ====
/- The merge of the four branches, over the extended reals: what every block written back holds, and the whole result
   array. -/
module

public import proofs.«01_k».proof.Proof.Gen.MergeIdeal.Value
public import proofs.«01_k».proof.Proof.Gen.MergeRefIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MergeIdeal.Value

open Cert.MergeIdeal Cert.MergeIdeal.Gen

variable (m : (ℓ : Loc nD τ sig) → Buf (Elt Ideal) ℓ)

open Cert.MergeRefIdeal in
open Cert.MergeRefIdeal.Gen in
/-- The reference's result: the residual plus the gated sum of the four projected branches times the output matrix. -/
abbrev REF (y0 y1 y2 y3 : FVec Ideal S16384x512 .bf16) (g : FVec Ideal S16384x8960 .bf16) (p : FVec Ideal S4x512x1024 .f32)
    (o : FVec Ideal S1024x1024 .f32) (r : FVec Ideal S16384x1024 .f32) : FVec Ideal S16384x1024 .f32 :=
  addf r (Host.dotGeneral dot_S16384x1024_S1024x1024_S16384x1024_1_0_0_1_n_n none (Host.reduceAdd (mulf (Host.divf (broadcastInDim S16384x4x1024 ![] bcast_S_S16384x4x1024 (constant S_ .f32 0x3F800000#32)) (addf (broadcastInDim S16384x4x1024 ![] bcast_S_S16384x4x1024 (constant S_ .f32 0x3F800000#32)) (Host.exp (Host.negf (shapeCast _ (extf .f32 (extractStridedSlice S16384x4096 ![0, 0] g slices_S16384x8960_S16384x4096_0_0) Cert.MergeRefIdeal.Gen.bitsLt_bf16_f32) shapeCasts_S16384x4096_S16384x4x1024))))) (transpose S16384x4x1024 [2, 0, 1] (Host.dotGeneral dot_S4x512x1024_S16384x4x512_S4x1024x16384_1_2_2_0_0_1 none p (extf .f32 ((concatenate S16384x4x512 1 [⟨S16384x1x512, broadcastInDim S16384x1x512 ![0, 2] bcast_S16384x512_S16384x1x512_0_2 y0⟩, ⟨S16384x1x512, broadcastInDim S16384x1x512 ![0, 2] bcast_S16384x512_S16384x1x512_0_2 y1⟩, ⟨S16384x1x512, broadcastInDim S16384x1x512 ![0, 2] bcast_S16384x512_S16384x1x512_0_2 y2⟩, ⟨S16384x1x512, broadcastInDim S16384x1x512 ![0, 2] bcast_S16384x512_S16384x1x512_0_2 y3⟩] concatenates_S16384x1x512_S16384x1x512_S16384x1x512_S16384x1x512_S16384x4x512_d1 : FVec Ideal S16384x4x512 .bf16)) Cert.MergeRefIdeal.Gen.bitsLt_bf16_f32)) transposes_S4x1024x16384_S16384x4x1024_2_0_1)) (constant S_ .f32 0x00000000#32) reducesTo_S16384x4x1024_S16384x1024_d1 h_S_) o)

/-- Every window's block index at grid point `t`: row block `t` of the activations, the whole of the weights. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0, 0]
    ∧ win0_6.index t = ![0, 0]
    ∧ win0_7.index t = ![t.val, 0]
    ∧ win0_8.index t = ![t.val, 0] :=
  (by decide +kernel : ∀ t : Fin grid0.N, _)

/-- The block of gates the body reads: rows of row block `t`, the first 4096 columns of the projection. -/
theorem gates (c : Dev nD) (t : Fin cfg0.N) (a : Fin 512) (b : Fin 4096) :
    (X0_4 m c t : FVec Ideal S512x4096 .bf16) (ix2 a b)
    = m ((c : Thread nD τ).loc main_arg4) (ix2 ⟨512 * t.val + a.val, by have h := t.isLt; have h' : cfg0.N = 32 := N_0; have := a.isLt; omega⟩ ⟨b.val, by have := b.isLt; omega⟩) := by
  unfold X0_4 Pipeline.Window.fill
  rw [dif_pos (moved0_4 t _)]
  blk_ext [iblk, V, idx_val t]

set_option maxHeartbeats 1600000 in
/-- The result array after the run is the reference's term of the arguments. -/
theorem final (c : Dev nD) : (dats m 0 c).arrAt 8 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  unfold outsAt0
  frame_out
  pointwise [k0_pay1, k0_pay2, k0_pay3, REF]
  have hg : ∀ b : Fin 4096, (X0_4 m c t : FVec Ideal S512x4096 .bf16) (ix2 (y 0) b) = _ := fun b => gates m c t (y 0) b
  simp only [hg, Fin.sum_univ_four, Ideal.logistic]
  norm_num
  refine congrArg₂ (· + ·) ?_ (Finset.sum_congr rfl fun x _ => congrArg₂ (· * ·) (congrArg₂ (· + ·) (congrArg₂ (· + ·) (congrArg₂ (· + ·)
    (congrArg₂ (· * ·) ?_ (Finset.sum_congr rfl fun k _ => (mul_comm _ _).trans ?_))
    (congrArg₂ (· * ·) ?_ (Finset.sum_congr rfl fun k _ => (mul_comm _ _).trans ?_)))
    (congrArg₂ (· * ·) ?_ (Finset.sum_congr rfl fun k _ => (mul_comm _ _).trans ?_)))
    (congrArg₂ (· * ·) ?_ (Finset.sum_congr rfl fun k _ => (mul_comm _ _).trans ?_))) ?_)
  all_goals blk_point [iblk, V, idx_val t]

end Cert.MergeIdeal.Value

end
-- ==== Proof.Ffn.Ref.lean ====
/- The reference of the second half of the feed-forward network over the extended reals: its stages, each read at one place. -/
module

public import proofs.«01_k».proof.Proof.Gen.FfnRefIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open scoped BigOperators

namespace Cert.FfnRefIdeal.Point

open Cert.FfnRefIdeal Cert.FfnRefIdeal.Gen

/-- The first 2816 columns of the product up, with a row of zeros before and after every sequence. -/
def PAD (u : FVec Ideal S16384x5632 .bf16) : FVec Ideal S4x4098x2816 .f32 :=
  pad S4x4098x2816 ![0, 1, 0] ![0, 1, 0] ![0, 0, 0] (extractStridedSlice S4x4096x2816 ![0, 0, 0] (shapeCast _ (extf .f32 u bitsLt_bf16_f32) shapeCasts_S16384x5632_S4x4096x5632) slices_S4x4096x5632_S4x4096x2816_0_0_0) (sitofp .f32 (constantI S_ 32 0#32)) pads_S4x4096x2816_S4x4098x2816_000_110_000 h_S_

/-- The depthwise convolution of width three along the sequence. -/
def CV (u : FVec Ideal S16384x5632 .bf16) (w : FVec Ideal S3x2816 .f32) (b : FVec Ideal S2816 .f32) : FVec Ideal S4x4096x2816 .f32 :=
  addf (addf (addf (addf (broadcastInDim S4x4096x2816 ![] bcast_S_S4x4096x2816 (constant S_ .f32 0x00000000#32)) (mulf (extractStridedSlice S4x4096x2816 ![0, 0, 0] (PAD u) slices_S4x4098x2816_S4x4096x2816_0_0_0) (broadcastInDim S4x4096x2816 ![0, 1, 2] bcast_S1x1x2816_S4x4096x2816_0_1_2 (broadcastInDim S1x1x2816 ![2] bcast_S2816_S1x1x2816_2 (shapeCast _ (extractStridedSlice S1x2816 ![0, 0] w slices_S3x2816_S1x2816_0_0) shapeCasts_S1x2816_S2816))))) (mulf (extractStridedSlice S4x4096x2816 ![0, 1, 0] (PAD u) slices_S4x4098x2816_S4x4096x2816_0_1_0) (broadcastInDim S4x4096x2816 ![0, 1, 2] bcast_S1x1x2816_S4x4096x2816_0_1_2 (broadcastInDim S1x1x2816 ![2] bcast_S2816_S1x1x2816_2 (shapeCast _ (extractStridedSlice S1x2816 ![1, 0] w slices_S3x2816_S1x2816_1_0) shapeCasts_S1x2816_S2816))))) (mulf (extractStridedSlice S4x4096x2816 ![0, 2, 0] (PAD u) slices_S4x4098x2816_S4x4096x2816_0_2_0) (broadcastInDim S4x4096x2816 ![0, 1, 2] bcast_S1x1x2816_S4x4096x2816_0_1_2 (broadcastInDim S1x1x2816 ![2] bcast_S2816_S1x1x2816_2 (shapeCast _ (extractStridedSlice S1x2816 ![2, 0] w slices_S3x2816_S1x2816_2_0) shapeCasts_S1x2816_S2816))))) (broadcastInDim S4x4096x2816 ![0, 1, 2] bcast_S1x1x2816_S4x4096x2816_0_1_2 (broadcastInDim S1x1x2816 ![2] bcast_S2816_S1x1x2816_2 b))

/-- The activated convolution times the linear half of the product up. -/
def HH (u : FVec Ideal S16384x5632 .bf16) (w : FVec Ideal S3x2816 .f32) (b : FVec Ideal S2816 .f32) : FVec Ideal S4x4096x2816 .f32 :=
  mulf (mulf (CV u w b) (mulf (broadcastInDim S4x4096x2816 ![] bcast_S_S4x4096x2816 (constant S_ .f32 0x3F000000#32)) (addf (broadcastInDim S4x4096x2816 ![] bcast_S_S4x4096x2816 (constant S_ .f32 0x3F800000#32)) (Host.tanh (mulf (broadcastInDim S4x4096x2816 ![] bcast_S_S4x4096x2816 (constant S_ .f32 0x3F4C422A#32)) (addf (CV u w b) (mulf (broadcastInDim S4x4096x2816 ![] bcast_S_S4x4096x2816 (constant S_ .f32 0x3D372713#32)) (mulf (mulf (CV u w b) (CV u w b)) (CV u w b))))))))) (extractStridedSlice S4x4096x2816 ![0, 0, 2816] (shapeCast _ (extf .f32 u bitsLt_bf16_f32) shapeCasts_S16384x5632_S4x4096x5632) slices_S4x4096x5632_S4x4096x2816_0_0_2816)

/-- The residual sum after the product down. -/
def Y (u : FVec Ideal S16384x5632 .bf16) (w : FVec Ideal S3x2816 .f32) (b : FVec Ideal S2816 .f32) (wd : FVec Ideal S2816x1024 .f32) (x : FVec Ideal S16384x1024 .f32) : FVec Ideal S16384x1024 .f32 :=
  addf x (shapeCast _ (Host.dotGeneral dot_S4x4096x2816_S2816x1024_S4x4096x1024_2_0_01_1_n_n none (HH u w b) wd) shapeCasts_S4x4096x1024_S16384x1024)

/-- The root mean square norm of every row. -/
def NORM (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The reference's result. -/
def REF (u : FVec Ideal S16384x5632 .bf16) (w : FVec Ideal S3x2816 .f32) (b : FVec Ideal S2816 .f32) (wd : FVec Ideal S2816x1024 .f32) (x : FVec Ideal S16384x1024 .f32) (g : FVec Ideal S1024 .f32) : FVec Ideal S16384x1024 .f32 :=
  NORM (Y u w b wd x) g

/-- The row before row `r`, zero where a sequence of 4096 rows begins. -/
def prev (u : FVec Ideal S16384x5632 .bf16) (r : Fin 16384) (k : Fin 2816) : EReal :=
  if r.val % 4096 = 0 then 0 else u (ix2 ⟨r.val - 1, by omega⟩ ⟨k.val, by omega⟩)

/-- The row after row `r`, zero where a sequence of 4096 rows ends. -/
def next (u : FVec Ideal S16384x5632 .bf16) (r : Fin 16384) (k : Fin 2816) : EReal :=
  if h : r.val % 4096 = 4095 then 0 else u (ix2 ⟨r.val + 1, by omega⟩ ⟨k.val, by omega⟩)

/-- The activation of a number, by its formula with the hyperbolic tangent. -/
def act (z : EReal) : EReal :=
  z * (Ideal.ofBits FTy.f32 0x3F000000#32 * (1 + Ideal.tanh (Ideal.ofBits FTy.f32 0x3F4C422A#32 * (z + Ideal.ofBits FTy.f32 0x3D372713#32 * (z * z * z)))))

/-- The convolution at one row and column. -/
def conv (u : FVec Ideal S16384x5632 .bf16) (w : FVec Ideal S3x2816 .f32) (b : FVec Ideal S2816 .f32) (r : Fin 16384) (k : Fin 2816) : EReal :=
  prev u r k * w (ix2 0 k) + u (ix2 r ⟨k.val, by omega⟩) * w (ix2 1 k) + next u r k * w (ix2 2 k) + b (ix1 k)

theorem pad_at (u : FVec Ideal S16384x5632 .bf16) (s : Fin 4) (l : Fin 4098) (k : Fin 2816) :
    PAD u (ix3 s l k) = if h : 1 ≤ l.val ∧ l.val ≤ 4096 then (u (ix2 ⟨s.val * 4096 + (l.val - 1), by omega⟩ ⟨k.val, by omega⟩) : EReal) else 0 := by
  pointwise [PAD]
  have hz : (FloatOps.sitofp FTy.f32 0#32 : Ideal FTy.f32) = (0 : EReal) := by simp [FloatOps.sitofp]
  by_cases h : 1 ≤ l.val ∧ l.val ≤ 4096
  · rw [dif_pos (⟨h.1, by omega⟩ : 1 ≤ l.val ∧ l.val - 1 < 4096), dif_pos h]
  · rw [dif_neg (fun h' => h ⟨h'.1, by omega⟩ : ¬ (1 ≤ l.val ∧ l.val - 1 < 4096)), dif_neg h, hz]

theorem hh_at (u : FVec Ideal S16384x5632 .bf16) (w : FVec Ideal S3x2816 .f32) (b : FVec Ideal S2816 .f32) (s : Fin 4) (l : Fin 4096) (k : Fin 2816) :
    HH u w b (ix3 s l k) = act (CV u w b (ix3 s l k)) * u (ix2 ⟨s.val * 4096 + l.val, by omega⟩ ⟨2816 + k.val, by omega⟩) := by
  pointwise [HH, act]

theorem cv_at (u : FVec Ideal S16384x5632 .bf16) (w : FVec Ideal S3x2816 .f32) (b : FVec Ideal S2816 .f32) (s : Fin 4) (l : Fin 4096) (k : Fin 2816) :
    CV u w b (ix3 s l k) = (PAD u (ix3 s ⟨l.val, by omega⟩ k) : EReal) * w (ix2 0 k) + PAD u (ix3 s ⟨1 + l.val, by omega⟩ k) * w (ix2 1 k)
      + PAD u (ix3 s ⟨2 + l.val, by omega⟩ k) * w (ix2 2 k) + b (ix1 k) := by
  pointwise [CV]

/-- The convolution of a row of a sequence is that of the row of the whole array. -/
theorem cv_conv (u : FVec Ideal S16384x5632 .bf16) (w : FVec Ideal S3x2816 .f32) (b : FVec Ideal S2816 .f32) (r : Fin 16384) (k : Fin 2816) :
    CV u w b (ix3 ⟨r.val / 4096, by omega⟩ ⟨r.val % 4096, by omega⟩ k) = conv u w b r k := by
  rw [cv_at, pad_at, pad_at, pad_at]
  unfold conv prev next
  have e (a : ℕ) (ha) (a' : ℕ) (ha') (h : a = a') : (u (ix2 ⟨a, ha⟩ ⟨k.val, by omega⟩) : EReal) = u (ix2 ⟨a', ha'⟩ ⟨k.val, by omega⟩) := by subst h; rfl
  have := r.isLt
  refine congrArg (· + _) (congrArg₂ (· + ·) (congrArg₂ (· + ·) (congrArg (· * _) ?_) (congrArg (· * _) ?_)) (congrArg (· * _) ?_))
  · split_ifs <;> first | exact e _ _ _ _ (by dsimp only; omega) | rfl | (exfalso; dsimp only at *; omega)
  · rw [dif_pos (by dsimp only; omega)]
    exact e _ _ _ _ (by dsimp only; omega)
  · split_ifs <;> first | exact e _ _ _ _ (by dsimp only; omega) | rfl | (exfalso; dsimp only at *; omega)

theorem y_at (u : FVec Ideal S16384x5632 .bf16) (w : FVec Ideal S3x2816 .f32) (b : FVec Ideal S2816 .f32) (wd : FVec Ideal S2816x1024 .f32) (x : FVec Ideal S16384x1024 .f32) (r : Fin 16384) (n : Fin 1024) :
    Y u w b wd x (ix2 r n) = x (ix2 r n) + ∑ k : Fin 2816, HH u w b (ix3 ⟨r.val / 4096, by omega⟩ ⟨r.val % 4096, by omega⟩ k) * wd (ix2 k n) := by
  pointwise [Y]

theorem norm_at (y : FVec Ideal S16384x1024 .f32) (g : FVec Ideal S1024 .f32) (r : Fin 16384) (n : Fin 1024) :
    NORM y g (ix2 r n) = y (ix2 r n) * Ideal.rsqrt (Ideal.div (∑ k : Fin 1024, y (ix2 r k) * y (ix2 r k)) (Ideal.ofBits FTy.f32 0x44800000#32) + Ideal.ofBits FTy.f32 0x358637BD#32) * g (ix1 n) := by
  pointwise [NORM]

/-- The residual sum at one row and column. -/
def sum (u : FVec Ideal S16384x5632 .bf16) (w : FVec Ideal S3x2816 .f32) (b : FVec Ideal S2816 .f32) (wd : FVec Ideal S2816x1024 .f32) (x : FVec Ideal S16384x1024 .f32)
    (r : Fin 16384) (n : Fin 1024) : EReal :=
  x (ix2 r n) + ∑ k : Fin 2816, act (conv u w b r k) * u (ix2 r ⟨2816 + k.val, by omega⟩) * wd (ix2 k n)

/-- The residual sum at one row and column. -/
theorem y_sum (u : FVec Ideal S16384x5632 .bf16) (w : FVec Ideal S3x2816 .f32) (b : FVec Ideal S2816 .f32) (wd : FVec Ideal S2816x1024 .f32) (x : FVec Ideal S16384x1024 .f32)
    (r : Fin 16384) (n : Fin 1024) : Y u w b wd x (ix2 r n) = sum u w b wd x r n := by
  rw [y_at]
  unfold sum
  refine congrArg (_ + ·) (Finset.sum_congr rfl fun k _ => congrArg (· * _) ?_)
  rw [hh_at, cv_conv]
  have e (a : ℕ) (ha) (h : a = r.val) : (u (ix2 ⟨a, ha⟩ ⟨2816 + k.val, by omega⟩) : EReal) = u (ix2 r ⟨2816 + k.val, by omega⟩) := by subst h; rfl
  exact congrArg (_ * ·) (e _ _ (by dsimp only; omega))

/-- The reference's result at one row and column: the residual sum, over its root mean square along the row, times the gain. -/
theorem ref_at (u : FVec Ideal S16384x5632 .bf16) (w : FVec Ideal S3x2816 .f32) (b : FVec Ideal S2816 .f32) (wd : FVec Ideal S2816x1024 .f32) (x : FVec Ideal S16384x1024 .f32)
    (g : FVec Ideal S1024 .f32) (r : Fin 16384) (n : Fin 1024) :
    REF u w b wd x g (ix2 r n) = sum u w b wd x r n * Ideal.rsqrt (Ideal.div (∑ k : Fin 1024, sum u w b wd x r k * sum u w b wd x r k) (Ideal.ofBits FTy.f32 0x44800000#32)
      + Ideal.ofBits FTy.f32 0x358637BD#32) * g (ix1 n) := by
  unfold REF
  rw [norm_at]
  simp only [y_sum]

end Cert.FfnRefIdeal.Point

end
-- ==== Proof.Ffn.Point.lean ====
/- What one tile of the second half of the feed-forward network computes, over the extended reals, place by place. -/
module

public import proofs.«01_k».proof.Proof.Gen.FfnIdeal.Value
public import proofs.«01_k».proof.Proof.Ffn.Ref

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen Cert.FfnRefIdeal.Point

/-- A grid position's place in its sequence, as the body computes it: the remainder by the 16 tiles of a sequence. -/
def place (w : BitVec 32) : BitVec 32 :=
  Scalar.select
    (Scalar.andi
      (Scalar.xori (Scalar.cmpi .slt (Scalar.remsi w (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi w (Scalar.select (Scalar.cmpi .eq 16#32 0#32) 1#32 16#32)) 0#32))
    (Scalar.addi (Scalar.remsi w (Scalar.select (Scalar.cmpi .eq 16#32 0#32) 1#32 16#32)) (Scalar.select (Scalar.cmpi .eq 16#32 0#32) 1#32 16#32))
    (Scalar.remsi w (Scalar.select (Scalar.cmpi .eq 16#32 0#32) 1#32 16#32))

/-- A choice by whether a position is the first of its sequence. -/
theorem first_sel (j : Fin 64) {α : Type} (p q : α) : Scalar.select (Scalar.cmpi .eq (place (BitVec.ofNat 32 j.val)) 0#32) p q = if j.val % 16 = 0 then p else q := by
  have h : ∀ j : Fin 64, Scalar.cmpi .eq (place (BitVec.ofNat 32 j.val)) 0#32 = if j.val % 16 = 0 then 1#1 else 0#1 := by decide +kernel
  rw [h j]
  split_ifs <;> rfl

/-- A choice by whether a position is the last of its sequence. -/
theorem last_sel (j : Fin 64) {α : Type} (p q : α) : Scalar.select (Scalar.cmpi .eq (place (BitVec.ofNat 32 j.val)) 15#32) p q = if j.val % 16 = 15 then p else q := by
  have h : ∀ j : Fin 64, Scalar.cmpi .eq (place (BitVec.ofNat 32 j.val)) 15#32 = if j.val % 16 = 15 then 1#1 else 0#1 := by decide +kernel
  rw [h j]
  split_ifs <;> rfl

/-- A choice by whether a row is the tile's first. -/
theorem head_sel (a : Fin 256) {α : Type} (p q : α) : Scalar.select (IntOp.cmpi .eq (BitVec.ofNat 32 a.val) 0#32) p q = if a.val = 0 then p else q := by
  have h : ∀ a : Fin 256, IntOp.cmpi .eq (BitVec.ofNat 32 a.val) 0#32 = if a.val = 0 then 1#1 else 0#1 := by decide +kernel
  rw [h a]
  split_ifs <;> rfl

/-- A choice by whether a row is the tile's last. -/
theorem tail_sel (a : Fin 256) {α : Type} (p q : α) : Scalar.select (IntOp.cmpi .eq (BitVec.ofNat 32 a.val) 255#32) p q = if a.val = 255 then p else q := by
  have h : ∀ a : Fin 256, IntOp.cmpi .eq (BitVec.ofNat 32 a.val) 255#32 = if a.val = 255 then 1#1 else 0#1 := by decide +kernel
  rw [h a]
  split_ifs <;> rfl

/-- The rows one up: the row before each, the first from the block before or zero. -/
theorem up_at (i : grid0.Coords) (x : Vec Ideal S256x2816 .bf16) (z : Vec Ideal S1x2816 .bf16) (a : Fin 256) (k : Fin 2816) :
    k0_pay3 i x z (ix2 a k) = if a.val = 0 then (if (i 0).val % 16 = 0 then 0 else z (ix2 0 k)) else x (ix2 ⟨a.val - 1, by omega⟩ k) := by
  pointwise [k0_pay3, k0_pay2]
  refine (head_sel a _ _).trans ?_
  have e (n : ℕ) (hn) (h : n = a.val - 1) : x (ix2 ⟨n, hn⟩ k) = x (ix2 ⟨a.val - 1, by omega⟩ k) := by subst h; rfl
  by_cases h : a.val = 0
  · exact (if_pos h).trans ((first_sel (i 0) _ _).trans (if_pos h).symm)
  · exact (if_neg h).trans ((e _ _ (by omega)).trans (if_neg h).symm)

/-- The rows one down: the row after each, the last from the block after or zero. -/
theorem down_at (i : grid0.Coords) (x : Vec Ideal S256x2816 .bf16) (z : Vec Ideal S1x2816 .bf16) (a : Fin 256) (k : Fin 2816) :
    k0_pay4 i x z (ix2 a k) = if h : a.val = 255 then (if (i 0).val % 16 = 15 then 0 else z (ix2 0 k)) else x (ix2 ⟨a.val + 1, by omega⟩ k) := by
  pointwise [k0_pay4, k0_pay2]
  refine (tail_sel a _ _).trans ?_
  have e (n : ℕ) (hn) (h : a.val ≠ 255) (h : n = a.val + 1) : x (ix2 ⟨n, hn⟩ k) = x (ix2 ⟨a.val + 1, by omega⟩ k) := by subst h; rfl
  by_cases h : a.val = 255
  · exact (if_pos h).trans ((last_sel (i 0) _ _).trans (by rw [dif_pos h]))
  · exact (if_neg h).trans ((e _ _ h (by omega)).trans (by rw [dif_neg h]))

/-- The residual sum of a tile. -/
theorem sum_at (v11 v30 v38 : FVec Ideal S256x2816 .f32) (v39 : Vec Ideal S3x2816 .f32) (v51 : Vec Ideal S1x2816 .f32) (v68 : Vec Ideal S256x2816 .bf16) (v72 : Vec Ideal S256x1024 .f32)
    (v73 : Vec Ideal S2816x1024 .bf16) (a : Fin 256) (n : Fin 1024) :
    k0_pay5 v11 v30 v38 v39 v51 v68 v72 v73 (ix2 a n) = v72 (ix2 a n) + ∑ k : Fin 2816, act (v30 (ix2 a k) * v39 (ix2 0 k) + v11 (ix2 a k) * v39 (ix2 1 k) + v38 (ix2 a k) * v39 (ix2 2 k) + v51 (ix2 0 k))
      * v68 (ix2 a k) * v73 (ix2 k n) := by
  pointwise [k0_pay5]
  refine congrArg (_ + ·) (Finset.sum_congr rfl fun k _ => congrArg (· * _) (congrArg (· * _) ?_))
  unfold act
  rw [mul_comm (Ideal.ofBits FTy.f32 _) (_ + v51 _), mul_assoc (_ + v51 _)]

/-- The norm of a tile. -/
theorem norm_at (y : FVec Ideal S256x1024 .f32) (q : FVec Ideal S256x1 .f32) (g : Vec Ideal S1x1024 .f32) (a : Fin 256) (n : Fin 1024) :
    k0_pay1 y q g (ix2 a n) = y (ix2 a n) * Ideal.rsqrt (q (ix2 a 0) + Ideal.ofBits FTy.f32 0x358637BD#32) * g (ix2 0 n) := by
  pointwise [k0_pay1]

/-- The mean square of a row of a tile. -/
theorem ms_at (v11 v30 v38 : FVec Ideal S256x2816 .f32) (v39 : Vec Ideal S3x2816 .f32) (v51 : Vec Ideal S1x2816 .f32) (v68 : Vec Ideal S256x2816 .bf16) (v72 : Vec Ideal S256x1024 .f32)
    (v73 : Vec Ideal S2816x1024 .bf16) (a : Fin 256) :
    k0_pay6 v11 v30 v38 v39 v51 v68 v72 v73 (ix2 a 0) = Ideal.div (∑ k : Fin 1024, k0_pay5 v11 v30 v38 v39 v51 v68 v72 v73 (ix2 a k) * k0_pay5 v11 v30 v38 v39 v51 v68 v72 v73 (ix2 a k)) (Ideal.ofBits FTy.f32 0x44800000#32) := by
  pointwise [k0_pay6]

end Cert.FfnIdeal.Value

end
-- ==== Proof.Ffn.Value.lean ====
/- The second half of the feed-forward network with the model's last norm, over the extended reals: the whole result array. -/
module

public import proofs.«01_k».proof.Proof.Ffn.Point
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen Cert.FfnRefIdeal.Point

variable (m : (ℓ : Loc nD τ sig) → Buf (Elt Ideal) ℓ)

/-- Every window's block index at grid point `t`. -/
theorem idx_val : ∀ t : Fin cfg0.N, win0_0.index t = ![t.val, 0]
    ∧ win0_1.index t = ![t.val, 1]
    ∧ win0_2.index t = ![16 * t.val - 1, 0]
    ∧ win0_3.index t = ![min (16 * (t.val + 1)) 1023, 0]
    ∧ win0_4.index t = ![0, 0]
    ∧ win0_5.index t = ![0, 0]
    ∧ win0_6.index t = ![0, 0]
    ∧ win0_7.index t = ![t.val, 0]
    ∧ win0_8.index t = ![0, 0]
    ∧ win0_9.index t = ![t.val, 0] :=
  (by decide +kernel : ∀ t : Fin grid0.N, _)

/-- Grid point `t` of this one-axis grid is at coordinate `t`. -/
theorem coord_val : ∀ t : Fin cfg0.N, (grid0.coords t 0).val = t.val :=
  (by decide +kernel : ∀ t : Fin grid0.N, _)

/-- The product down's weights as the body reads them: the conversion changes no extended real. -/
theorem V_weights (c : Dev nD) (k : Fin 2816) (n : Fin 1024) : (V m c main_v0 : FVec Ideal S2816x1024 .bf16) (ix2 k n) = m ((c : Thread nD τ).loc main_arg3) (ix2 k n) := by
  have e : (V m c main_v0 : FVec Ideal S2816x1024 .bf16) = (truncf .bf16 (m ((c : Thread nD τ).loc main_arg3) : FVec Ideal S2816x1024 .f32) bitsLt_bf16_f32 : FVec Ideal S2816x1024 .bf16) := by
    show StableHlo.after (List.flatten [hostOps0]) (fun b => m (c, b)) _ = _
    simp only [List.flatten_cons, List.flatten_nil, List.append_nil, List.cons_append, List.nil_append]
    after_results
    all_goals rfl
  rw [e]
  pointwise []

/-- The bias laid out as a row. -/
theorem V_bias (c : Dev nD) (k : Fin 2816) : (V m c main_v1 : FVec Ideal S1x2816 .f32) (ix2 0 k) = m ((c : Thread nD τ).loc main_arg2) (ix1 k) := by
  have e : V m c main_v1 = shapeCast S1x2816 (m ((c : Thread nD τ).loc main_arg2)) shapeCasts_S2816_S1x2816 := by
    show StableHlo.after (List.flatten [hostOps0]) (fun b => m (c, b)) _ = _
    simp only [List.flatten_cons, List.flatten_nil, List.append_nil, List.cons_append, List.nil_append]
    after_results
    all_goals rfl
  rw [e]
  pointwise []

/-- The gain laid out as a row. -/
theorem V_gain (c : Dev nD) (n : Fin 1024) : (V m c main_v2 : FVec Ideal S1x1024 .f32) (ix2 0 n) = m ((c : Thread nD τ).loc main_arg5) (ix1 n) := by
  have e : V m c main_v2 = shapeCast S1x1024 (m ((c : Thread nD τ).loc main_arg5)) shapeCasts_S1024_S1x1024 := by
    show StableHlo.after (List.flatten [hostOps0]) (fun b => m (c, b)) _ = _
    simp only [List.flatten_cons, List.flatten_nil, List.append_nil, List.cons_append, List.nil_append]
    after_results
    all_goals rfl
  rw [e]
  pointwise []

/-- The tile's rows of the convolved half. -/
theorem rows (c : Dev nD) (t : Fin cfg0.N) (a : Fin 256) (k : Fin 2816) :
    (iblk m c 0 t : FVec Ideal S256x2816 .bf16) (ix2 a k) = m ((c : Thread nD τ).loc main_arg0) (ix2 ⟨256 * t.val + a.val, by have h := t.isLt; have h' : cfg0.N = 64 := N_0; have := a.isLt; omega⟩ ⟨k.val, by have := k.isLt; omega⟩) := by
  rw [← V_main_arg0 m c]
  blk_ext [iblk, idx_val t]

/-- The tile's rows of the linear half. -/
theorem lins (c : Dev nD) (t : Fin cfg0.N) (a : Fin 256) (k : Fin 2816) :
    (iblk m c 1 t : FVec Ideal S256x2816 .bf16) (ix2 a k) = m ((c : Thread nD τ).loc main_arg0) (ix2 ⟨256 * t.val + a.val, by have h := t.isLt; have h' : cfg0.N = 64 := N_0; have := a.isLt; omega⟩ ⟨2816 + k.val, by have := k.isLt; omega⟩) := by
  rw [← V_main_arg0 m c]
  blk_ext [iblk, idx_val t]

/-- The last row of the 16 before the tile. -/
theorem before (c : Dev nD) (t : Fin cfg0.N) (ht : 0 < t.val) (k : Fin 2816) :
    (iblk m c 2 t : FVec Ideal S16x2816 .bf16) (ix2 15 k) = m ((c : Thread nD τ).loc main_arg0) (ix2 ⟨256 * t.val - 1, by have h := t.isLt; have h' : cfg0.N = 64 := N_0; omega⟩ ⟨k.val, by have := k.isLt; omega⟩) := by
  rw [← V_main_arg0 m c]
  blk_ext [iblk, idx_val t]

/-- The first row of the 16 after the tile. -/
theorem after (c : Dev nD) (t : Fin cfg0.N) (ht : t.val < 63) (k : Fin 2816) :
    (iblk m c 3 t : FVec Ideal S16x2816 .bf16) (ix2 0 k) = m ((c : Thread nD τ).loc main_arg0) (ix2 ⟨256 * t.val + 256, by have h := t.isLt; have h' : cfg0.N = 64 := N_0; omega⟩ ⟨k.val, by have := k.isLt; omega⟩) := by
  rw [← V_main_arg0 m c]
  blk_ext [iblk, idx_val t]

/-- The tile's rows as the body reads them. -/
theorem cur_at (i : grid0.Coords) (x0 x1 : Vec Ideal S256x2816 .bf16) (x2 x3 : Vec Ideal S16x2816 .bf16) (x4 : Vec Ideal S3x2816 .f32) (x5 : Vec Ideal S1x2816 .f32) (x6 : Vec Ideal S2816x1024 .bf16) (x7 : Vec Ideal S256x1024 .f32) (x8 : Vec Ideal S1x1024 .f32) (a : Fin 256) (k : Fin 2816) :
    k0_pay7 i x0 x1 x2 x3 x4 x5 x6 x7 x8 (ix2 a k) = x0 (ix2 a k) := by
  unfold k0_pay7
  pointwise [k0_pay2]

/-- The rows before the tile's, from the windows' blocks. -/
theorem prev_at (i : grid0.Coords) (x0 x1 : Vec Ideal S256x2816 .bf16) (x2 x3 : Vec Ideal S16x2816 .bf16) (x4 : Vec Ideal S3x2816 .f32) (x5 : Vec Ideal S1x2816 .f32) (x6 : Vec Ideal S2816x1024 .bf16) (x7 : Vec Ideal S256x1024 .f32) (x8 : Vec Ideal S1x1024 .f32) (a : Fin 256) (k : Fin 2816) :
    k0_pay8 i x0 x1 x2 x3 x4 x5 x6 x7 x8 (ix2 a k) = if a.val = 0 then (if (i 0).val % 16 = 0 then 0 else x2 (ix2 15 k)) else x0 (ix2 ⟨a.val - 1, by omega⟩ k) := by
  unfold k0_pay8
  rw [up_at]
  pointwise []

/-- The rows after the tile's, from the windows' blocks. -/
theorem next_at (i : grid0.Coords) (x0 x1 : Vec Ideal S256x2816 .bf16) (x2 x3 : Vec Ideal S16x2816 .bf16) (x4 : Vec Ideal S3x2816 .f32) (x5 : Vec Ideal S1x2816 .f32) (x6 : Vec Ideal S2816x1024 .bf16) (x7 : Vec Ideal S256x1024 .f32) (x8 : Vec Ideal S1x1024 .f32) (a : Fin 256) (k : Fin 2816) :
    k0_pay9 i x0 x1 x2 x3 x4 x5 x6 x7 x8 (ix2 a k) = if h : a.val = 255 then (if (i 0).val % 16 = 15 then 0 else x3 (ix2 0 k)) else x0 (ix2 ⟨a.val + 1, by omega⟩ k) := by
  unfold k0_pay9
  rw [down_at]
  pointwise []

/-- Row `a` of tile `t` in the whole array. -/
abbrev row (t : Fin cfg0.N) (a : Fin 256) : Fin 16384 := ⟨256 * t.val + a.val, by have h := t.isLt; have h' : cfg0.N = 64 := N_0; omega⟩

/-- The rows before the tile's, in the whole array. -/
theorem prev_row (c : Dev nD) (t : Fin cfg0.N) (a : Fin 256) (k : Fin 2816) :
    (k0_pay8 (grid0.coords t) (iblk m c 0 t) (iblk m c 1 t) (iblk m c 2 t) (iblk m c 3 t) (iblk m c 4 t) (iblk m c 5 t) (iblk m c 6 t) (iblk m c 7 t) (iblk m c 8 t)) (ix2 a k) = prev (m ((c : Thread nD τ).loc main_arg0)) (row t a) k := by
  rw [prev_at]
  unfold prev
  rw [coord_val t]
  have h := t.isLt
  have h' : cfg0.N = 64 := N_0
  have e (n n' : ℕ) (hn hn') (h : n = n') : m ((c : Thread nD τ).loc main_arg0) (ix2 ⟨n, hn⟩ ⟨k.val, by omega⟩) = m ((c : Thread nD τ).loc main_arg0) (ix2 ⟨n', hn'⟩ ⟨k.val, by omega⟩) := by subst h; rfl
  by_cases ha : a.val = 0
  · rw [if_pos ha]
    by_cases ht : t.val % 16 = 0
    · rw [if_pos ht, if_pos (by dsimp only; omega)]
    · rw [if_neg ht, if_neg (by dsimp only; omega), before m c t (by omega) k]
      exact e _ _ _ _ (by dsimp only; omega)
  · rw [if_neg ha, if_neg (by dsimp only; omega), rows m c t _ k]
    exact e _ _ _ _ (by dsimp only; omega)

/-- The rows after the tile's, in the whole array. -/
theorem next_row (c : Dev nD) (t : Fin cfg0.N) (a : Fin 256) (k : Fin 2816) :
    (k0_pay9 (grid0.coords t) (iblk m c 0 t) (iblk m c 1 t) (iblk m c 2 t) (iblk m c 3 t) (iblk m c 4 t) (iblk m c 5 t) (iblk m c 6 t) (iblk m c 7 t) (iblk m c 8 t)) (ix2 a k) = next (m ((c : Thread nD τ).loc main_arg0)) (row t a) k := by
  rw [next_at]
  unfold next
  rw [coord_val t]
  have h := t.isLt
  have h' : cfg0.N = 64 := N_0
  have e (n n' : ℕ) (hn hn') (h : n = n') : m ((c : Thread nD τ).loc main_arg0) (ix2 ⟨n, hn⟩ ⟨k.val, by omega⟩) = m ((c : Thread nD τ).loc main_arg0) (ix2 ⟨n', hn'⟩ ⟨k.val, by omega⟩) := by subst h; rfl
  by_cases ha : a.val = 255
  · rw [dif_pos ha]
    by_cases ht : t.val % 16 = 15
    · rw [if_pos ht, dif_pos (by dsimp only; omega)]
    · rw [if_neg ht, dif_neg (by dsimp only; omega), after m c t (by omega) k]
      exact e _ _ _ _ (by dsimp only; omega)
  · rw [dif_neg ha, dif_neg (by dsimp only; omega), rows m c t _ k]
    exact e _ _ _ _ (by dsimp only; omega)

/-- The tile's residual sum is that of its rows in the whole array. -/
theorem sum_row (c : Dev nD) (t : Fin cfg0.N) (a : Fin 256) (n : Fin 1024) :
    k0_pay5 (k0_pay7 (grid0.coords t) (iblk m c 0 t) (iblk m c 1 t) (iblk m c 2 t) (iblk m c 3 t) (iblk m c 4 t) (iblk m c 5 t) (iblk m c 6 t) (iblk m c 7 t) (iblk m c 8 t)) (k0_pay8 (grid0.coords t) (iblk m c 0 t) (iblk m c 1 t) (iblk m c 2 t) (iblk m c 3 t) (iblk m c 4 t) (iblk m c 5 t) (iblk m c 6 t) (iblk m c 7 t) (iblk m c 8 t)) (k0_pay9 (grid0.coords t) (iblk m c 0 t) (iblk m c 1 t) (iblk m c 2 t) (iblk m c 3 t) (iblk m c 4 t) (iblk m c 5 t) (iblk m c 6 t) (iblk m c 7 t) (iblk m c 8 t)) (iblk m c 4 t) (iblk m c 5 t) (iblk m c 1 t) (iblk m c 7 t) (iblk m c 6 t) (ix2 a n)
    = sum (m ((c : Thread nD τ).loc main_arg0)) (m ((c : Thread nD τ).loc main_arg1)) (m ((c : Thread nD τ).loc main_arg2)) (m ((c : Thread nD τ).loc main_arg3)) (m ((c : Thread nD τ).loc main_arg4)) (row t a) n := by
  rw [sum_at]
  unfold sum conv
  have e4 (j : Fin 3) (k : Fin 2816) : (iblk m c 4 t : FVec Ideal S3x2816 .f32) (ix2 j k) = m ((c : Thread nD τ).loc main_arg1) (ix2 j k) := by
    rw [← V_main_arg1 m c]
    blk_ext [iblk, idx_val t]
  have e5 (k : Fin 2816) : (iblk m c 5 t : FVec Ideal S1x2816 .f32) (ix2 0 k) = m ((c : Thread nD τ).loc main_arg2) (ix1 k) := by
    rw [← V_bias m c k]
    blk_ext [iblk, idx_val t]
  have e6 (k : Fin 2816) : (iblk m c 6 t : FVec Ideal S2816x1024 .bf16) (ix2 k n) = m ((c : Thread nD τ).loc main_arg3) (ix2 k n) := by
    rw [← V_weights m c k n]
    blk_ext [iblk, idx_val t]
  have e7 : (iblk m c 7 t : FVec Ideal S256x1024 .f32) (ix2 a n) = m ((c : Thread nD τ).loc main_arg4) (ix2 (row t a) n) := by
    rw [← V_main_arg4 m c]
    blk_ext [iblk, idx_val t]
  refine congrArg₂ (· + ·) e7 (Finset.sum_congr rfl fun k _ => congrArg₂ (· * ·) (congrArg₂ (· * ·) (congrArg act (congrArg₂ (· + ·) (congrArg₂ (· + ·) (congrArg₂ (· + ·)
    (congrArg₂ (· * ·) (prev_row m c t a k) (e4 0 k)) (congrArg₂ (· * ·) ((cur_at _ _ _ _ _ _ _ _ _ _ a k).trans (rows m c t a k)) (e4 1 k))) (congrArg₂ (· * ·) (next_row m c t a k) (e4 2 k))) (e5 k)))
    (lins m c t a k)) (e6 k))

/-- The tile written back is the reference's rows. -/
theorem tile_row (c : Dev nD) (t : Fin cfg0.N) (a : Fin 256) (n : Fin 1024) :
    k0_pay1 (k0_pay5 (k0_pay7 (grid0.coords t) (iblk m c 0 t) (iblk m c 1 t) (iblk m c 2 t) (iblk m c 3 t) (iblk m c 4 t) (iblk m c 5 t) (iblk m c 6 t) (iblk m c 7 t) (iblk m c 8 t)) (k0_pay8 (grid0.coords t) (iblk m c 0 t) (iblk m c 1 t) (iblk m c 2 t) (iblk m c 3 t) (iblk m c 4 t) (iblk m c 5 t) (iblk m c 6 t) (iblk m c 7 t) (iblk m c 8 t)) (k0_pay9 (grid0.coords t) (iblk m c 0 t) (iblk m c 1 t) (iblk m c 2 t) (iblk m c 3 t) (iblk m c 4 t) (iblk m c 5 t) (iblk m c 6 t) (iblk m c 7 t) (iblk m c 8 t)) (iblk m c 4 t) (iblk m c 5 t) (iblk m c 1 t) (iblk m c 7 t) (iblk m c 6 t)) (k0_pay6 (k0_pay7 (grid0.coords t) (iblk m c 0 t) (iblk m c 1 t) (iblk m c 2 t) (iblk m c 3 t) (iblk m c 4 t) (iblk m c 5 t) (iblk m c 6 t) (iblk m c 7 t) (iblk m c 8 t)) (k0_pay8 (grid0.coords t) (iblk m c 0 t) (iblk m c 1 t) (iblk m c 2 t) (iblk m c 3 t) (iblk m c 4 t) (iblk m c 5 t) (iblk m c 6 t) (iblk m c 7 t) (iblk m c 8 t)) (k0_pay9 (grid0.coords t) (iblk m c 0 t) (iblk m c 1 t) (iblk m c 2 t) (iblk m c 3 t) (iblk m c 4 t) (iblk m c 5 t) (iblk m c 6 t) (iblk m c 7 t) (iblk m c 8 t)) (iblk m c 4 t) (iblk m c 5 t) (iblk m c 1 t) (iblk m c 7 t) (iblk m c 6 t)) (iblk m c 8 t) (ix2 a n)
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t a) n) := by
  have e8 : (iblk m c 8 t : FVec Ideal S1x1024 .f32) (ix2 0 n) = m ((c : Thread nD τ).loc main_arg5) (ix1 n) := by
    rw [← V_gain m c n]
    blk_ext [iblk, idx_val t]
  rw [Value.norm_at, ref_at, ms_at]
  refine congrArg₂ (· * ·) (congrArg₂ (· * ·) (sum_row m c t a n) (congrArg (fun z => Ideal.rsqrt (Ideal.div z _ + _)) (Finset.sum_congr rfl fun k _ => ?_))) e8
  exact congrArg₂ (· * ·) (sum_row m c t a k) (sum_row m c t a k)

set_option maxHeartbeats 1600000 in
/-- The result array after the run is the reference's term of the arguments. -/
theorem final (c : Dev nD) : (dats m 0 c).arrAt 9 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  frame_out
  have ey : y = ix2 (y 0) (y 1) := funext fun a => by fin_cases a <;> rfl
  refine (congrArg (k0_pay1 _ _ _) ey).trans ((tile_row m c t (y 0) (y 1)).trans ?_)
  blk_ext [idx_val t]

end Cert.FfnIdeal.Value

end
-- ==== Proof.Ffn1.Value.lean ====
/- The second half of the feed-forward network in the first layer, which has no norm at its end. Its program holds the same arrays as the one with the norm
   and stores what that one takes the norm of, so the rows of a tile are taken from there. -/
module

public import proofs.«01_k».proof.Proof.Ffn.Value
public import proofs.«01_k».proof.Proof.Gen.Ffn1Ideal.Value

@[expose] public section

set_option maxRecDepth 16384

noncomputable section

open Idealize.ShloMosaic Idealize.ShloMosaic.TcCoe Idealize.SL.Sem
open Idealize.ShloMosaic.Pipeline (Dat)

namespace Cert.Ffn1Ideal.Value

open Cert.Ffn1Ideal Cert.Ffn1Ideal.Gen
open Cert.FfnRefIdeal.Point (Y y_sum)
open Cert.FfnIdeal.Value (row sum_row)

variable (m : (ℓ : Loc nD τ sig) → Buf (Elt Ideal) ℓ)

/-- This program's memory as one of the program with the norm, whose arrays are the same. -/
abbrev M1 (m : (ℓ : Loc nD τ sig) → Buf (Elt Ideal) ℓ) : (ℓ : Loc Cert.FfnIdeal.nD Cert.FfnIdeal.τ Cert.FfnIdeal.sig) → Buf (Elt Ideal) ℓ := m

/-- The result's block at grid point `t`. -/
theorem idx_eq (t : Fin cfg0.N) : win0_9.index t = ![t.val, 0] := (Cert.FfnIdeal.Value.idx_val t).2.2.2.2.2.2.2.2.2

/-- What this program stores is what the one with the norm takes the norm of: the same function of what the body reads. -/
theorem stored_eq : @k0_pay1 Ideal _ = @Cert.FfnIdeal.Gen.k0_pay5 Ideal _ := rfl

/-- So are the rows read in the middle of the convolution, -/
theorem mid_eq : @k0_pay2 Ideal _ = @Cert.FfnIdeal.Gen.k0_pay2 Ideal _ := rfl

/-- the rows before them, -/
theorem before_eq : @k0_pay3 Ideal _ = @Cert.FfnIdeal.Gen.k0_pay3 Ideal _ := rfl

/-- and the rows after them. -/
theorem after_eq : @k0_pay4 Ideal _ = @Cert.FfnIdeal.Gen.k0_pay4 Ideal _ := rfl

/-- Every block holds the same in both programs. -/
theorem blk_eq (c : Dev nD) (t : Fin cfg0.N) : iblk m c 0 t = Cert.FfnIdeal.Gen.iblk (M1 m) c 0 t
    ∧ iblk m c 1 t = Cert.FfnIdeal.Gen.iblk (M1 m) c 1 t
    ∧ iblk m c 2 t = Cert.FfnIdeal.Gen.iblk (M1 m) c 2 t
    ∧ iblk m c 3 t = Cert.FfnIdeal.Gen.iblk (M1 m) c 3 t
    ∧ iblk m c 4 t = Cert.FfnIdeal.Gen.iblk (M1 m) c 4 t
    ∧ iblk m c 5 t = Cert.FfnIdeal.Gen.iblk (M1 m) c 5 t
    ∧ iblk m c 6 t = Cert.FfnIdeal.Gen.iblk (M1 m) c 6 t
    ∧ iblk m c 7 t = Cert.FfnIdeal.Gen.iblk (M1 m) c 7 t := ⟨rfl, rfl, rfl, rfl, rfl, rfl, rfl, rfl⟩

/-- A load of the whole block is the block. -/
theorem ld_whole (x : Vec Ideal S256x2816 .bf16) : View.ld x Cert.FfnIdeal.Gen.r0_0 = x :=
  View.ld_unit_zero (funext fun a => by fin_cases a <;> rfl) _ x

/-- Every row of what grid point `t` stores is the reference's residual sum. -/
theorem stored_row (c : Dev nD) (t : Fin cfg0.N) (a : Fin 256) (n : Fin 1024) :
    k0_pay1 (k0_pay2 (iblk m c 0 t)) (k0_pay3 (grid0.coords t) (iblk m c 0 t) (View.ld (iblk m c 2 t) r0_1)) (k0_pay4 (grid0.coords t) (iblk m c 0 t) (View.ld (iblk m c 3 t) r0_2)) (iblk m c 4 t) (iblk m c 5 t) (iblk m c 1 t) (iblk m c 7 t) (iblk m c 6 t) (ix2 a n)
    = Y (m ((c : Thread nD τ).loc main_arg0)) (m ((c : Thread nD τ).loc main_arg1)) (m ((c : Thread nD τ).loc main_arg2)) (m ((c : Thread nD τ).loc main_arg3)) (m ((c : Thread nD τ).loc main_arg4)) (ix2 (row t a) n) := by
  have e := sum_row (M1 m) c t a n
  unfold Cert.FfnIdeal.Gen.k0_pay7 Cert.FfnIdeal.Gen.k0_pay8 Cert.FfnIdeal.Gen.k0_pay9 at e
  rw [ld_whole] at e
  obtain ⟨h0, h1, h2, h3, h4, h5, h6, h7⟩ := blk_eq m c t
  rw [stored_eq, mid_eq, before_eq, after_eq, h0, h1, h2, h3, h4, h5, h6, h7]
  exact e.trans (y_sum _ _ _ _ _ _ _).symm

/-- The result array after the run is the reference's residual sum of the arguments. -/
theorem final (c : Dev nD) : (dats m 0 c).arrAt 9 (cfgs 0).N
    = Y (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  frame_out
  have ey : y = ix2 (y 0) (y 1) := funext fun a => by fin_cases a <;> rfl
  refine (congrArg (k0_pay1 _ _ _ _ _ _ _ _) ey).trans ((stored_row m c t (y 0) (y 1)).trans ?_)
  blk_ext [idx_eq t]

end Cert.Ffn1Ideal.Value

end
-- ==== Proof.Diff.Loop.lean ====
/- What the loop over the key blocks leaves in the two carried arrays of the differential attention's kernel, and the block it writes. -/
module

public import proofs.«01_k».proof.Proof.Gen.DiffIdeal.Value
public import Idealize.ShloMosaic.Lib.Pipeline.ValueKit
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.DiffIdeal.Value

open Cert.DiffIdeal Cert.DiffIdeal.Gen

variable (m : (ℓ : Loc nD τ sig) → Buf (Elt Ideal) ℓ)

/-- A running maximum, the running sums of the weights and the running weighted sums of the values. -/
abbrev State := Vec Ideal S1x512x128 .f32 × Vec Ideal S1x512x128 .f32 × Vec Ideal S1x512x128 .f32

/-- One block of keys more, for the queries `Q`, the block's biases `b`, its keys `kb` and its values `vb`. -/
def step (Q : FVec Ideal S512x64 .bf16) (b : Vec Ideal S1x1x512x512 .f32) (kb : Vec Ideal S1x64x512 .bf16) (vb : Vec Ideal S1x512x128 .bf16) (s : State) : State :=
  (k0_pay13 (k0_pay6 Q b kb s.1), k0_pay12 (k0_pay9 Q b kb s.1 s.2.1), k0_pay11 (k0_pay3 vb) (k0_pay7 Q b kb s.1) (k0_pay10 Q b kb s.1) s.2.2)

/-- The tile of biases that trip `k` reads. -/
abbrev BB (i : grid0.Coords) (x3 : Vec Ideal S1x5x512x512 .f32) (k : Fin k0_t1_loop.trips) : Vec Ideal S1x1x512x512 .f32 :=
  View.ld x3 (Rect.unit (s := S1x5x512x512) (k0_off1 i k) S1x1x512x512.size (k0_off1_inb i k))

/-- The block of values that trip `k` reads. -/
abbrev VB (x2 : Vec Ideal S1x4096x128 .bf16) (k : Fin k0_t1_loop.trips) : Vec Ideal S1x512x128 .bf16 :=
  View.ld x2 (Rect.unit (s := S1x4096x128) (k0_off2 k) S1x512x128.size (k0_off2_inb k))

/-- The block of the first map's keys that trip `k` reads. -/
abbrev KB0 (x1 : Vec Ideal S1x128x4096 .bf16) (k : Fin k0_t1_loop.trips) : Vec Ideal S1x64x512 .bf16 :=
  View.ld x1 (Rect.unit (s := S1x128x4096) (k0_off3 k) S1x64x512.size (k0_off3_inb k))

/-- The block of the second map's keys that trip `k` reads. -/
abbrev KB1 (x1 : Vec Ideal S1x128x4096 .bf16) (k : Fin k0_t1_loop.trips) : Vec Ideal S1x64x512 .bf16 :=
  View.ld x1 (Rect.unit (s := S1x128x4096) (k0_off4 k) S1x64x512.size (k0_off4_inb k))

/-- The state of one map after `n` trips. -/
def st (Q : FVec Ideal S512x64 .bf16) (B : Fin k0_t1_loop.trips → Vec Ideal S1x1x512x512 .f32) (K : Fin k0_t1_loop.trips → Vec Ideal S1x64x512 .bf16)
    (W : Fin k0_t1_loop.trips → Vec Ideal S1x512x128 .bf16) : ℕ → State
  | 0 => (broadcast S1x512x128 (Scalar.ofBits (F := Ideal) .f32 0xFF800000#32), broadcast S1x512x128 (Scalar.ofBits (F := Ideal) .f32 0x00000000#32), broadcast S1x512x128 (Scalar.ofBits (F := Ideal) .f32 0x00000000#32))
  | n + 1 => if h : n < k0_t1_loop.trips then step Q (B ⟨n, h⟩) (K ⟨n, h⟩) (W ⟨n, h⟩) (st Q B K W n) else st Q B K W n

/-- The part of the array of maxima that holds map `a`'s. -/
abbrev R10 (a : Fin 2) : Rect S2x512x128 := Rect.unit (s := S2x512x128) ![a.val, 0, 0] S1x512x128.size (by fin_cases a <;> decide)

/-- The part of the array of sums that holds map `a`'s weights. -/
abbrev R11d (a : Fin 2) : Rect S2x512x256 := Rect.unit (s := S2x512x256) ![a.val, 0, 128] S1x512x128.size (by fin_cases a <;> decide)

/-- The part of the array of sums that holds map `a`'s weighted values. -/
abbrev R11n (a : Fin 2) : Rect S2x512x256 := Rect.unit (s := S2x512x256) ![a.val, 0, 0] S1x512x128.size (by fin_cases a <;> decide)

/-- The state of map `a` as the two arrays hold it. -/
def held (f10 : Vec Ideal S2x512x128 .f32) (f11 : Vec Ideal S2x512x256 .f32) (a : Fin 2) : State :=
  (View.ld f10 (R10 a), View.ld f11 (R11d a), View.ld f11 (R11n a))

section
variable (c : Dev nD) (i : grid0.Coords) (arg3 : Memref sig .tc .vmem S1x512x128 .bf16) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x5x512x512 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x128 .f32) (harg10 : arg10.IsWhole) (arg11 : Memref sig .tc .vmem S2x512x256 .f32) (harg11 : arg11.IsWhole) (arg2 : BitVec 32) (v0 : Vec Ideal S1x512x128 .bf16)
    (X4 : BufTy.Contents (Elt Ideal) arg4.view.ty) (X5 : BufTy.Contents (Elt Ideal) arg5.view.ty) (X6 : BufTy.Contents (Elt Ideal) arg6.view.ty)

/-- One trip stores each map's new state, the second map's last. -/
theorem trip (k : Fin k0_t1_loop.trips) (f10 : BufTy.Contents (Elt Ideal) arg10.view.ty) (f11 : BufTy.Contents (Elt Ideal) arg11.view.ty) :
    tripL_k0_t1 (F := Ideal) Variants.none c none i arg3 harg3 arg4 harg4 arg5 harg5 arg6 harg6 arg7 harg7 arg8 harg8 arg9 harg9 arg10 harg10 arg11 harg11 arg2 v0 X4 X5 X6 k f10 f11
    = (let s0 := step (k0_pay21 v0) (BB i (arg6.view.read (Elt Ideal) X6) k) (KB0 (arg4.view.read (Elt Ideal) X4) k) (VB (arg5.view.read (Elt Ideal) X5) k) (held (arg10.view.read (Elt Ideal) f10) (arg11.view.read (Elt Ideal) f11) 0)
       let s1 := step (k0_pay22 v0) (BB i (arg6.view.read (Elt Ideal) X6) k) (KB1 (arg4.view.read (Elt Ideal) X4) k) (VB (arg5.view.read (Elt Ideal) X5) k) (held (arg10.view.read (Elt Ideal) f10) (arg11.view.read (Elt Ideal) f11) 1)
       ([⟨R10 1, s1.1⟩, ⟨R10 0, s0.1⟩], [⟨R11d 1, s1.2.1⟩, ⟨R11n 1, s1.2.2⟩, ⟨R11d 0, s0.2.1⟩, ⟨R11n 0, s0.2.2⟩])) := by
  unfold tripL_k0_t1 trip_k0_t1
  dsimp only
  sl_unfold_words
  simp only [View.readAt_eq_ld]
  rfl

/-- A store to a part and a load of the same part. -/
theorem ld_same {S : Shape} {e : EltTy} {W : View sig .tc .vmem S e} (f : W.ty.Contents (Elt Ideal)) (L : List (View.Piece (Elt Ideal) S e)) {off size : Fin S.rank → ℕ} (inb : ∀ a, off a + size a ≤ S.size a)
    (w : (Rect.unit off size inb).shape.Idx → Elt Ideal e) :
    View.ld (W.read (Elt Ideal) (W.writes (Elt Ideal) f (⟨Rect.unit off size inb, w⟩ :: L))) (Rect.unit off size inb) = w := by
  rw [View.read_writes_cons_put W f inb w L rfl]
  exact VecWindow.window_put_same _ _ _ inb _

/-- A store to a part leaves what lies apart from it on some axis. -/
theorem ld_apart {S : Shape} {e : EltTy} {W : View sig .tc .vmem S e} (f : W.ty.Contents (Elt Ideal)) (L : List (View.Piece (Elt Ideal) S e)) {off size off' size' : Fin S.rank → ℕ} (inb : ∀ a, off a + size a ≤ S.size a)
    (inb' : ∀ a, off' a + size' a ≤ S.size a) (w : (Rect.unit off size inb).shape.Idx → Elt Ideal e) (a : Fin S.rank) (ha : off' a + size' a ≤ off a ∨ off a + size a ≤ off' a) :
    View.ld (W.read (Elt Ideal) (W.writes (Elt Ideal) f (⟨Rect.unit off size inb, w⟩ :: L))) (Rect.unit off' size' inb')
      = View.ld (W.read (Elt Ideal) (W.writes (Elt Ideal) f L)) (Rect.unit off' size' inb') := by
  rw [View.read_writes_cons_put W f inb w L rfl]
  exact VecWindow.window_put_of_disjoint _ _ _ _ _ inb' _ a ha

/-- What the arrays hold after the six stores of a trip. -/
theorem held_writes (f10 : BufTy.Contents (Elt Ideal) arg10.view.ty) (f11 : BufTy.Contents (Elt Ideal) arg11.view.ty) (L10 L11) (s0 s1 : State) :
    held (arg10.view.read (Elt Ideal) (arg10.view.writes (Elt Ideal) f10 (⟨R10 1, s1.1⟩ :: ⟨R10 0, s0.1⟩ :: L10)))
      (arg11.view.read (Elt Ideal) (arg11.view.writes (Elt Ideal) f11 (⟨R11d 1, s1.2.1⟩ :: ⟨R11n 1, s1.2.2⟩ :: ⟨R11d 0, s0.2.1⟩ :: ⟨R11n 0, s0.2.2⟩ :: L11))) 0 = s0
    ∧ held (arg10.view.read (Elt Ideal) (arg10.view.writes (Elt Ideal) f10 (⟨R10 1, s1.1⟩ :: ⟨R10 0, s0.1⟩ :: L10)))
      (arg11.view.read (Elt Ideal) (arg11.view.writes (Elt Ideal) f11 (⟨R11d 1, s1.2.1⟩ :: ⟨R11n 1, s1.2.2⟩ :: ⟨R11d 0, s0.2.1⟩ :: ⟨R11n 0, s0.2.2⟩ :: L11))) 1 = s1 := by
  refine ⟨Prod.ext ?_ (Prod.ext ?_ ?_), Prod.ext ?_ (Prod.ext ?_ ?_)⟩
  · dsimp only [held]
    refine (ld_apart (S := S2x512x128) (W := arg10.view) f10 _ _ _ _ (0 : Fin 3) ?_).trans ?_
    · exact Or.inl (by decide)
    exact ld_same (S := S2x512x128) (W := arg10.view) f10 _ _ _
  · dsimp only [held]
    refine (ld_apart (S := S2x512x256) (W := arg11.view) f11 _ _ _ _ (0 : Fin 3) ?_).trans ?_
    · exact Or.inl (by decide)
    refine (ld_apart (S := S2x512x256) (W := arg11.view) f11 _ _ _ _ (0 : Fin 3) ?_).trans ?_
    · exact Or.inl (by decide)
    exact ld_same (S := S2x512x256) (W := arg11.view) f11 _ _ _
  · dsimp only [held]
    refine (ld_apart (S := S2x512x256) (W := arg11.view) f11 _ _ _ _ (0 : Fin 3) ?_).trans ?_
    · exact Or.inl (by decide)
    refine (ld_apart (S := S2x512x256) (W := arg11.view) f11 _ _ _ _ (0 : Fin 3) ?_).trans ?_
    · exact Or.inl (by decide)
    refine (ld_apart (S := S2x512x256) (W := arg11.view) f11 _ _ _ _ (2 : Fin 3) ?_).trans ?_
    · exact Or.inl (by decide)
    exact ld_same (S := S2x512x256) (W := arg11.view) f11 _ _ _
  · dsimp only [held]
    exact ld_same (S := S2x512x128) (W := arg10.view) f10 _ _ _
  · dsimp only [held]
    exact ld_same (S := S2x512x256) (W := arg11.view) f11 _ _ _
  · dsimp only [held]
    refine (ld_apart (S := S2x512x256) (W := arg11.view) f11 _ _ _ _ (2 : Fin 3) ?_).trans ?_
    · exact Or.inl (by decide)
    exact ld_same (S := S2x512x256) (W := arg11.view) f11 _ _ _

/-- After `n` trips the two arrays hold the states of both maps. -/
theorem carried (G10 : BufTy.Contents (Elt Ideal) arg10.view.ty) (G11 : BufTy.Contents (Elt Ideal) arg11.view.ty)
    (h10 : arg10.view.read (Elt Ideal) G10 = k0_pay23 (F := Ideal)) (h11 : arg11.view.read (Elt Ideal) G11 = k0_pay24 (F := Ideal)) : ∀ n, n ≤ k0_t1_loop.trips →
    held (arg10.view.read (Elt Ideal) (arg10.view.writes (Elt Ideal) G10 (pb_k0_t1 (F := Ideal) Variants.none c none i arg3 harg3 arg4 harg4 arg5 harg5 arg6 harg6 arg7 harg7 arg8 harg8 arg9 harg9 arg10 harg10 arg11 harg11 arg2 v0 X4 X5 X6 G10 G11 n).1))
      (arg11.view.read (Elt Ideal) (arg11.view.writes (Elt Ideal) G11 (pb_k0_t1 (F := Ideal) Variants.none c none i arg3 harg3 arg4 harg4 arg5 harg5 arg6 harg6 arg7 harg7 arg8 harg8 arg9 harg9 arg10 harg10 arg11 harg11 arg2 v0 X4 X5 X6 G10 G11 n).2)) 0
      = st (k0_pay21 v0) (BB i (arg6.view.read (Elt Ideal) X6)) (KB0 (arg4.view.read (Elt Ideal) X4)) (VB (arg5.view.read (Elt Ideal) X5)) n
    ∧ held (arg10.view.read (Elt Ideal) (arg10.view.writes (Elt Ideal) G10 (pb_k0_t1 (F := Ideal) Variants.none c none i arg3 harg3 arg4 harg4 arg5 harg5 arg6 harg6 arg7 harg7 arg8 harg8 arg9 harg9 arg10 harg10 arg11 harg11 arg2 v0 X4 X5 X6 G10 G11 n).1))
      (arg11.view.read (Elt Ideal) (arg11.view.writes (Elt Ideal) G11 (pb_k0_t1 (F := Ideal) Variants.none c none i arg3 harg3 arg4 harg4 arg5 harg5 arg6 harg6 arg7 harg7 arg8 harg8 arg9 harg9 arg10 harg10 arg11 harg11 arg2 v0 X4 X5 X6 G10 G11 n).2)) 1
      = st (k0_pay22 v0) (BB i (arg6.view.read (Elt Ideal) X6)) (KB1 (arg4.view.read (Elt Ideal) X4)) (VB (arg5.view.read (Elt Ideal) X5)) n
  | 0, _ => by
    have e10 : arg10.view.read (Elt Ideal) (arg10.view.writes (Elt Ideal) G10 (pb_k0_t1 (F := Ideal) Variants.none c none i arg3 harg3 arg4 harg4 arg5 harg5 arg6 harg6 arg7 harg7 arg8 harg8 arg9 harg9 arg10 harg10 arg11 harg11 arg2 v0 X4 X5 X6 G10 G11 0).1) = k0_pay23 (F := Ideal) := h10
    have e11 : arg11.view.read (Elt Ideal) (arg11.view.writes (Elt Ideal) G11 (pb_k0_t1 (F := Ideal) Variants.none c none i arg3 harg3 arg4 harg4 arg5 harg5 arg6 harg6 arg7 harg7 arg8 harg8 arg9 harg9 arg10 harg10 arg11 harg11 arg2 v0 X4 X5 X6 G10 G11 0).2) = k0_pay24 (F := Ideal) := h11
    rw [e10, e11]
    exact ⟨rfl, rfl⟩
  | n + 1, hn => by
    have ih := carried G10 G11 h10 h11 n (Nat.le_of_succ_le hn)
    have e := pb_k0_t1_succ (F := Ideal) Variants.none c none i arg3 harg3 arg4 harg4 arg5 harg5 arg6 harg6 arg7 harg7 arg8 harg8 arg9 harg9 arg10 harg10 arg11 harg11 arg2 v0 X4 X5 X6 G10 G11 ⟨n, hn⟩
    rw [trip] at e
    dsimp only at e
    rw [ih.1, ih.2] at e
    have s1 (Q B K W) : st Q B K W (n + 1) = _ := dif_pos hn
    rw [e, s1, s1]
    exact held_writes _ _ _ _ _ _ _ _

end

/-- The state of the first map after the eight trips at point `t`. -/
def fin0 (c : Dev nD) (t : Fin cfg0.N) : State :=
  st (k0_pay21 (iblk m c 0 t)) (BB (grid0.coords t) (iblk m c 3 t)) (KB0 (iblk m c 1 t)) (VB (iblk m c 2 t)) 8

/-- The second map's. -/
def fin1 (c : Dev nD) (t : Fin cfg0.N) : State :=
  st (k0_pay22 (iblk m c 0 t)) (BB (grid0.coords t) (iblk m c 3 t)) (KB1 (iblk m c 1 t)) (VB (iblk m c 2 t)) 8

theorem pay1_congr {L L' : FVec Ideal S1x1 .f32} {a a' b b' d d' e e' : Vec Ideal S1x512x128 .f32} {g g' : Vec Ideal S1x128 .f32} (hL : L = L') (ha : a = a') (hb : b = b') (hd : d = d') (he : e = e') (hg : g = g') :
    k0_pay1 L a b d e g = k0_pay1 L' a' b' d' e' g' := by
  subst hL ha hb hd he hg; rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The array of maxima at the start of a point. -/
abbrev G10 : BufTy.Contents (Elt Ideal) scM0_0.view.ty := scM0_0.view.writes (Elt Ideal) scM0_0.view.junk [⟨Rect.unit ![0, 0, 0] S2x512x128.size inb_S2x512x128_S2x512x128_0_0_0, k0_pay23 (F := Ideal)⟩]

/-- The array of sums at the start of a point. -/
abbrev G11 : BufTy.Contents (Elt Ideal) scM0_1.view.ty := scM0_1.view.writes (Elt Ideal) scM0_1.view.junk [⟨Rect.unit ![0, 0, 0] S2x512x256.size inb_S2x512x256_S2x512x256_0_0_0, k0_pay24 (F := Ideal)⟩]

/-- The stores of the eight trips at point `t`. -/
abbrev trips8 (c : Dev nD) (t : Fin cfg0.N) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (BitVec.ofNat 32 (grid0.coords t 2).val) (iblk m c 0 t) ((hs0_1 t).unread (iblk m c 1 t)) ((hs0_2 t).unread (iblk m c 2 t)) ((hs0_3 t).unread (iblk m c 3 t)) G10 G11 8

/-- After the eight trips the two arrays hold the two maps' states. -/
theorem sums (c : Dev nD) (t : Fin cfg0.N) :
    held (scM0_0.view.read (Elt Ideal) (scM0_0.view.writes (Elt Ideal) G10 (trips8 m c t).1)) (scM0_1.view.read (Elt Ideal) (scM0_1.view.writes (Elt Ideal) G11 (trips8 m c t).2)) 0 = fin0 m c t
    ∧ held (scM0_0.view.read (Elt Ideal) (scM0_0.view.writes (Elt Ideal) G10 (trips8 m c t).1)) (scM0_1.view.read (Elt Ideal) (scM0_1.view.writes (Elt Ideal) G11 (trips8 m c t).2)) 1 = fin1 m c t := by
  have e := carried c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (BitVec.ofNat 32 (grid0.coords t 2).val) (iblk m c 0 t) ((hs0_1 t).unread (iblk m c 1 t)) ((hs0_2 t).unread (iblk m c 2 t)) ((hs0_3 t).unread (iblk m c 3 t)) G10 G11
    (View.read_writes_full (Val := Elt Ideal) (s := S2x512x128) scM0_0.view scM0_0.view.junk (off := ![0, 0, 0]) inb_S2x512x128_S2x512x128_0_0_0 (k0_pay23 (F := Ideal)) [])
    (View.read_writes_full (Val := Elt Ideal) (s := S2x512x256) scM0_1.view scM0_1.view.junk (off := ![0, 0, 0]) inb_S2x512x256_S2x512x256_0_0_0 (k0_pay24 (F := Ideal)) []) 8 (by decide +kernel)
  rw [(hs0_1 t).read_unread, (hs0_2 t).read_unread, (hs0_3 t).read_unread] at e
  exact e

/-- The block the body writes at point `t`: the last step applied to the sums after the eight trips. -/
theorem block (c : Dev nD) (t : Fin cfg0.N) :
    outsAt0 m c t = k0_pay1 (k0_pay28 (iblk m c 4 t)) (fin0 m c t).2.2 (fin0 m c t).2.1 (fin1 m c t).2.2 (fin1 m c t).2.1 (iblk m c 5 t) := by
  unfold outsAt0
  unfold out0_A_6
  rw [View.read_writes_eq_canon _ _ _ (cover0_A_6 _ _ _ _ _ _ _ _ _ _ _ _ _ _ _ _ _ _ _ _ _ _ _ _ _ _)]
  unfold kernelRun0_A
  dsimp only
  sl_unfold_words
  rw [View.canon_unit_zero (S := S1x512x128) (funext fun a => by fin_cases a <;> rfl)]
  unfold View.readCov
  simp only [View.readAt_eq_ld, View.writes_append]
  rw [View.ld_unit_zero (S := S1x512x128) hz3, View.ld_unit_zero (S := S4x64) hz2, View.ld_unit_zero (S := S1x128) hz2, (hs0_4 t).read_unread, (hs0_5 t).read_unread, (hs0_0 t).read_unread]
  have e := sums m c t
  exact pay1_congr rfl (congrArg (fun s : State => s.2.2) e.1) (congrArg (fun s : State => s.2.1) e.1) (congrArg (fun s : State => s.2.2) e.2) (congrArg (fun s : State => s.2.1) e.2) rfl

end Cert.DiffIdeal.Value

end
-- ==== Proof.Diff.Steps.lean ====
/- The differential attention's kernel, entry by entry: the scores of a block of keys, one step of the running softmax, and what the eight steps leave. -/
module

public import proofs.«01_k».proof.Proof.Diff.Loop
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DiffIdeal.Value

open Cert.DiffIdeal Cert.DiffIdeal.Gen

/-- The first map's queries: the first 64 columns, scaled. -/
theorem q0_at (v0 : Vec Ideal S1x512x128 .bf16) (r : Fin 512) (d : Fin 64) :
    k0_pay21 v0 (ix2 r d) = (v0 (ix3 0 r ⟨d.val, by omega⟩) : EReal) * ((8⁻¹ * (Real.log 2)⁻¹ : ℝ) : EReal) := by
  pointwise [k0_pay21, k0_pay20]
  exact congrArg (v0 _ * ·) (IdealRules.named_const.ideal_named_scalar _ _ _ _ rfl)

/-- The second map's queries: the last 64 columns, scaled. -/
theorem q1_at (v0 : Vec Ideal S1x512x128 .bf16) (r : Fin 512) (d : Fin 64) :
    k0_pay22 v0 (ix2 r d) = (v0 (ix3 0 r ⟨64 + d.val, by omega⟩) : EReal) * ((8⁻¹ * (Real.log 2)⁻¹ : ℝ) : EReal) := by
  pointwise [k0_pay22, k0_pay20]
  exact congrArg (v0 _ * ·) (IdealRules.named_const.ideal_named_scalar _ _ _ _ rfl)

/-- A score: the dot product of a query with a key, and the bias, in base two. -/
theorem score (Q : FVec Ideal S512x64 .bf16) (b : Vec Ideal S1x1x512x512 .f32) (kb : Vec Ideal S1x64x512 .bf16) (r j : Fin 512) :
    k0_pay4 Q b kb (ix2 r j) = (∑ d : Fin 64, (Q (ix2 r d) : EReal) * kb (ix3 0 d j)) + b (ix4 0 0 r j) * (((Real.log 2)⁻¹ : ℝ) : EReal) := by
  pointwise [k0_pay4, k0_pay2]
  exact congrArg (_ + ·) (congrArg (b _ * ·) (IdealRules.named_const.ideal_named_scalar _ _ _ _ rfl))

/-- The new maximum as the sums use it. -/
theorem mx6 (Q : FVec Ideal S512x64 .bf16) (b : Vec Ideal S1x1x512x512 .f32) (kb : Vec Ideal S1x64x512 .bf16) (mp : Vec Ideal S1x512x128 .f32) (r : Fin 512) (l : Fin 128) :
    k0_pay6 Q b kb mp (ix2 r l) = max (mp (ix3 0 r l)) (Finset.univ.fold max (⊥ : EReal) fun j : Fin 512 => k0_pay4 Q b kb (ix2 r j)) := by
  pointwise [k0_pay6, k0_pay5]
  rw [show Ideal.ofBits FTy.f32 0xFF800000#32 = (⊥ : EReal) from by simp [Ideal.ofBits, Ideal.ieee]]

/-- The new maximum as it is stored. -/
theorem mx13 (x : FVec Ideal S512x128 .f32) (r : Fin 512) (l : Fin 128) : k0_pay13 x (ix3 0 r l) = x (ix2 r l) := by
  pointwise [k0_pay13]

/-- A block's weight. -/
theorem weight (Q : FVec Ideal S512x64 .bf16) (b : Vec Ideal S1x1x512x512 .f32) (kb : Vec Ideal S1x64x512 .bf16) (mp : Vec Ideal S1x512x128 .f32) (r j : Fin 512) :
    k0_pay8 Q b kb mp (ix2 r j) = Ideal.exp2 (k0_pay4 Q b kb (ix2 r j) - k0_pay6 Q b kb mp (ix2 r ⟨j.val % 128, by omega⟩)) := by
  pointwise [k0_pay8]
  refine congrArg (fun i => Ideal.exp2 (k0_pay4 Q b kb (ix2 r j) - i)) ?_
  have e (a : ℕ) (ha) (ha' : a = j.val % 128) : k0_pay6 Q b kb mp (ix2 r ⟨a, ha⟩) = k0_pay6 Q b kb mp (ix2 r ⟨j.val % 128, by omega⟩) := by
    subst ha'; rfl
  have := j.isLt
  split_ifs <;> exact e _ _ (by omega)

/-- The new sum of the weights. -/
theorem den (Q : FVec Ideal S512x64 .bf16) (b : Vec Ideal S1x1x512x512 .f32) (kb : Vec Ideal S1x64x512 .bf16) (mp lp : Vec Ideal S1x512x128 .f32) (r : Fin 512) (l : Fin 128) :
    k0_pay12 (k0_pay9 Q b kb mp lp) (ix3 0 r l) = Ideal.exp2 (mp (ix3 0 r l) - k0_pay6 Q b kb mp (ix2 r l)) * lp (ix3 0 r l) + ∑ j : Fin 512, k0_pay8 Q b kb mp (ix2 r j) := by
  pointwise [k0_pay12, k0_pay9, k0_pay7, k0_pay5]
  rfl

/-- The new weighted sum of the values. -/
theorem num (Q : FVec Ideal S512x64 .bf16) (b : Vec Ideal S1x1x512x512 .f32) (kb : Vec Ideal S1x64x512 .bf16) (vb : Vec Ideal S1x512x128 .bf16) (mp ap : Vec Ideal S1x512x128 .f32) (r : Fin 512) (l : Fin 128) :
    k0_pay11 (k0_pay3 vb) (k0_pay7 Q b kb mp) (k0_pay10 Q b kb mp) ap (ix3 0 r l)
      = ap (ix3 0 r l) * Ideal.exp2 (mp (ix3 0 r l) - k0_pay6 Q b kb mp (ix2 r l)) + ∑ j : Fin 512, k0_pay8 Q b kb mp (ix2 r j) * vb (ix3 0 j l) := by
  pointwise [k0_pay11, k0_pay3, k0_pay7, k0_pay10, k0_pay5]
  rfl

theorem trips_eq : k0_t1_loop.trips = 8 := by decide +kernel

/-- Trip `k` of the eight. -/
abbrev tr (k : Fin 8) : Fin k0_t1_loop.trips := ⟨k.val, by rw [trips_eq]; exact k.isLt⟩

/-- Where the scores of row `r` are the reals `s`, the state after `n` trips is the softmax of the blocks seen so far:
    every lane holds the same maximum and the same sum of the weights, and lane `l` the weighted sum of column `l` of the values. -/
theorem inv (Q : FVec Ideal S512x64 .bf16) (B : Fin k0_t1_loop.trips → Vec Ideal S1x1x512x512 .f32) (K : Fin k0_t1_loop.trips → Vec Ideal S1x64x512 .bf16)
    (W : Fin k0_t1_loop.trips → Vec Ideal S1x512x128 .bf16) (r : Fin 512)
    (s : Fin 8 → Fin 512 → ℝ) (hs : ∀ k j, k0_pay4 Q (B (tr k)) (K (tr k)) (ix2 r j) = (s k j : EReal)) : ∀ n, n ≤ 8 →
    ∃ mx : EReal, (∀ l, (st Q B K W n).1 (ix3 0 r l) = mx)
      ∧ ∀ l, Softmax.Inv s (fun _ _ => 1) n mx ((st Q B K W n).2.1 (ix3 0 r l))
        ∧ Softmax.Inv s (fun k j => W (tr k) (ix3 0 j l)) n mx ((st Q B K W n).2.2 (ix3 0 r l))
  | 0, _ => by
    have z : Ideal.ofBits FTy.f32 0x00000000#32 = (0 : EReal) := by simp
    refine ⟨⊥, fun l => ?_, fun l => ?_⟩
    · show Ideal.ofBits FTy.f32 0xFF800000#32 = (⊥ : EReal)
      simp [Ideal.ofBits, Ideal.ieee]
    · rw [show (st Q B K W 0).2.1 (ix3 0 r l) = (0 : EReal) from z, show (st Q B K W 0).2.2 (ix3 0 r l) = (0 : EReal) from z]
      exact ⟨Softmax.Inv.zero _ _, Softmax.Inv.zero _ _⟩
  | n + 1, hn => by
    obtain ⟨mp, h1, h2⟩ := inv Q B K W r s hs n (Nat.le_of_succ_le hn)
    have hn' : n < 8 := hn
    have s1 : st Q B K W (n + 1) = step Q (B (tr ⟨n, hn'⟩)) (K (tr ⟨n, hn'⟩)) (W (tr ⟨n, hn'⟩)) (st Q B K W n) := dif_pos (show n < k0_t1_loop.trips by rw [trips_eq]; exact hn')
    have e6 : ∀ l, k0_pay6 Q (B (tr ⟨n, hn'⟩)) (K (tr ⟨n, hn'⟩)) (st Q B K W n).1 (ix2 r l) = max mp (Finset.univ.fold max (⊥ : EReal) fun j : Fin 512 => (s ⟨n, hn'⟩ j : EReal)) := fun l => by
      rw [mx6, h1]; exact congrArg (fun f => max mp (Finset.univ.fold max (⊥ : EReal) f)) (funext fun j => hs ⟨n, hn'⟩ j)
    rw [s1]
    refine ⟨max mp (Finset.univ.fold max (⊥ : EReal) fun j : Fin 512 => (s ⟨n, hn'⟩ j : EReal)), fun l => ?_, fun l => ⟨?_, ?_⟩⟩
    · exact (mx13 _ r l).trans (e6 l)
    · refine Softmax.Inv.step hn' (h2 l).1 rfl ?_
      refine (den _ _ _ _ _ r l).trans ?_
      rw [h1, e6, mul_comm]
      refine congrArg (_ + ·) (Finset.sum_congr rfl fun j _ => ?_)
      rw [weight, hs ⟨n, hn'⟩ j, e6, mul_one]
    · refine Softmax.Inv.step hn' (h2 l).2 rfl ?_
      refine (num _ _ _ _ _ _ r l).trans ?_
      rw [h1, e6]
      refine congrArg (_ + ·) (Finset.sum_congr rfl fun j _ => ?_)
      rw [weight, hs ⟨n, hn'⟩ j, e6]

end Cert.DiffIdeal.Value

end
-- ==== Proof.Diff.Reads.lean ====
/- What the differential attention's call reads: the windows' blocks as entries of the arguments. -/
module

public import proofs.«01_k».proof.Proof.Diff.Steps
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.DiffIdeal.Value

open Cert.DiffIdeal Cert.DiffIdeal.Gen

variable (m : (ℓ : Loc nD τ sig) → Buf (Elt Ideal) ℓ)

/-- The blocks at grid point `t`: batch `t / 32`, head `t / 8 % 4`, block `t % 8` of 512 queries. -/
theorem idx_val : ∀ t : Fin cfg0.N, win0_0.index t = ![t.val / 32, t.val % 8, 56 + t.val / 8 % 4]
    ∧ win0_1.index t = ![t.val / 32, t.val / 8 % 4, 0]
    ∧ win0_2.index t = ![t.val / 32, 0, 64 + t.val / 8 % 4]
    ∧ win0_3.index t = ![t.val / 8 % 4, 0, 0, 0]
    ∧ win0_4.index t = ![0, 0]
    ∧ win0_5.index t = ![0, 0]
    ∧ win0_6.index t = ![t.val / 32, t.val % 8, t.val / 8 % 4] :=
  (by decide +kernel : ∀ t : Fin grid0.N, _)

theorem lt128 (t : Fin cfg0.N) : t.val < 128 := by
  have h := t.isLt
  have h' : cfg0.N = 128 := N_0
  omega

/-- The third coordinate of a grid point. -/
theorem coord2 : ∀ t : Fin cfg0.N, (grid0.coords t 2).val = t.val % 8 :=
  (by decide +kernel : ∀ t : Fin grid0.N, _)

theorem q_at (c : Dev nD) (t : Fin cfg0.N) (q : Fin 512) (e : Fin 128) :
    (iblk m c 0 t : FVec Ideal S1x512x128 .bf16) (ix3 0 q e) = m ((c : Thread nD τ).loc main_arg0)
      (ix3 ⟨t.val / 32, by have := lt128 t; omega⟩ ⟨512 * (t.val % 8) + q.val, by omega⟩ ⟨7168 + 128 * (t.val / 8 % 4) + e.val, by omega⟩) := by
  rw [← V_main_arg0 m c]
  blk_ext [iblk, idx_val t]

theorem v_at (c : Dev nD) (t : Fin cfg0.N) (n : Fin 4096) (d : Fin 128) :
    (iblk m c 2 t : FVec Ideal S1x4096x128 .bf16) (ix3 0 n d) = m ((c : Thread nD τ).loc main_arg0)
      (ix3 ⟨t.val / 32, by have := lt128 t; omega⟩ n ⟨8192 + 128 * (t.val / 8 % 4) + d.val, by omega⟩) := by
  rw [← V_main_arg0 m c]
  blk_ext [iblk, idx_val t]

/-- The keys as the call takes them: transposed. -/
theorem V_keys (c : Dev nD) : (V m c main_v49 : FVec Ideal S4x512x4096 .bf16) = transpose S4x512x4096 [0, 2, 1] (extractStridedSlice S4x4096x512 ![0, 0, 7680] (m ((c : Thread nD τ).loc main_arg0)) slices_S4x4096x8960_S4x4096x512_0_0_7680) transposes_S4x4096x512_S4x512x4096_0_2_1 := by
  show StableHlo.after (List.flatten [hostOps0, hostOps0_1, hostOps0_2, hostOps0_3, hostOps0_4]) (fun b => m (c, b)) _ = _
  simp only [List.flatten_cons, List.flatten_nil, List.append_nil, List.cons_append, List.nil_append]
  after_results
  all_goals rfl

theorem k_at (c : Dev nD) (t : Fin cfg0.N) (d : Fin 128) (n : Fin 4096) :
    (iblk m c 1 t : FVec Ideal S1x128x4096 .bf16) (ix3 0 d n) = m ((c : Thread nD τ).loc main_arg0)
      (ix3 ⟨t.val / 32, by have := lt128 t; omega⟩ n ⟨7680 + 128 * (t.val / 8 % 4) + d.val, by omega⟩) := by
  have e : (iblk m c 1 t : FVec Ideal S1x128x4096 .bf16) (ix3 0 d n) = (V m c main_v49 : FVec Ideal S4x512x4096 .bf16)
      (ix3 ⟨t.val / 32, by have := lt128 t; omega⟩ ⟨128 * (t.val / 8 % 4) + d.val, by omega⟩ n) := by
    blk_ext [iblk, idx_val t]
  rw [e, V_keys]
  pointwise []
  exact congrArg (fun z => (m ((c : Thread nD τ).loc main_arg0) : FVec Ideal S4x4096x8960 .bf16) (ix3 ⟨t.val / 32, by have := lt128 t; omega⟩ n z)) (Fin.ext (by dsimp only; omega))

theorem lam_at (c : Dev nD) (t : Fin cfg0.N) (p : Fin 4) (d : Fin 64) :
    (iblk m c 4 t : FVec Ideal S4x64 .f32) (ix2 p d) = m ((c : Thread nD τ).loc main_arg2) (ix2 p d) := by
  rw [← V_main_arg2 m c]
  blk_ext [iblk, idx_val t]

theorem V_gain (c : Dev nD) : (V m c main_v50 : FVec Ideal S1x128 .f32) = shapeCast S1x128 (m ((c : Thread nD τ).loc main_arg3)) shapeCasts_S128_S1x128 := by
  show StableHlo.after (List.flatten [hostOps0, hostOps0_1, hostOps0_2, hostOps0_3, hostOps0_4]) (fun b => m (c, b)) _ = _
  simp only [List.flatten_cons, List.flatten_nil, List.append_nil, List.cons_append, List.nil_append]
  after_results
  all_goals rfl

theorem g_at (c : Dev nD) (t : Fin cfg0.N) (d : Fin 128) :
    (iblk m c 5 t : FVec Ideal S1x128 .f32) (ix2 0 d) = m ((c : Thread nD τ).loc main_arg3) (ix1 d) := by
  have e : (iblk m c 5 t : FVec Ideal S1x128 .f32) (ix2 0 d) = (V m c main_v50 : FVec Ideal S1x128 .f32) (ix2 0 d) := by
    blk_ext [iblk, idx_val t]
  rw [e, V_gain]
  pointwise []

/-- The keys of a trip's block, first map. -/
theorem kb0_at (x1 : Vec Ideal S1x128x4096 .bf16) (k : Fin 8) (d : Fin 64) (j : Fin 512) :
    KB0 x1 (tr k) (ix3 0 d j) = x1 (ix3 0 ⟨d.val, by omega⟩ ⟨512 * k.val + j.val, by omega⟩) := by
  unfold KB0 View.ld
  refine congrArg x1 (funext fun a => Fin.ext ?_)
  have e := k0_off3_eq (tr k)
  fin_cases a
  · exact (congrArg (· + _) (congrFun e 0)).trans (by simp)
  · exact (congrArg (· + _) (congrFun e 1)).trans (by simp)
  · exact (congrArg (· + _) (congrFun e 2)).trans (by simp)

/-- The keys of a trip's block, second map. -/
theorem kb1_at (x1 : Vec Ideal S1x128x4096 .bf16) (k : Fin 8) (d : Fin 64) (j : Fin 512) :
    KB1 x1 (tr k) (ix3 0 d j) = x1 (ix3 0 ⟨64 + d.val, by omega⟩ ⟨512 * k.val + j.val, by omega⟩) := by
  unfold KB1 View.ld
  refine congrArg x1 (funext fun a => Fin.ext ?_)
  have e := k0_off4_eq (tr k)
  fin_cases a
  · exact (congrArg (· + _) (congrFun e 0)).trans (by simp)
  · exact (congrArg (· + _) (congrFun e 1)).trans (by simp)
  · exact (congrArg (· + _) (congrFun e 2)).trans (by simp)

/-- The values of a trip's block. -/
theorem vb_at (x2 : Vec Ideal S1x4096x128 .bf16) (k : Fin 8) (j : Fin 512) (l : Fin 128) :
    VB x2 (tr k) (ix3 0 j l) = x2 (ix3 0 ⟨512 * k.val + j.val, by omega⟩ l) := by
  unfold VB View.ld
  refine congrArg x2 (funext fun a => Fin.ext ?_)
  have e := k0_off2_eq (tr k)
  fin_cases a
  · exact (congrArg (· + _) (congrFun e 0)).trans (by simp)
  · exact (congrArg (· + _) (congrFun e 1)).trans (by simp)
  · exact (congrArg (· + _) (congrFun e 2)).trans (by simp)

/-- Which of the five tiles trip `k` reads: the one of the blocks' distance, which beyond two blocks is that of two. -/
def tile (t : Fin cfg0.N) (k : Fin 8) : Fin 5 := ⟨min 4 (2 + k.val - t.val % 8), by omega⟩

theorem off1_val : ∀ (i k : Fin 8), BitVec.toNat (Scalar.indexCast (Scalar.addi (Scalar.minsi (2#32) (Scalar.maxsi (4294967294#32) (Scalar.subi (Scf.iv 0#32 1#32 k.val) (BitVec.ofNat 32 i.val)))) 2#32)) = min 4 (2 + k.val - i.val) := by
  decide +kernel

/-- The biases of a trip's tile. -/
theorem bb_at (t : Fin cfg0.N) (x3 : Vec Ideal S1x5x512x512 .f32) (k : Fin 8) (r j : Fin 512) :
    BB (grid0.coords t) x3 (tr k) (ix4 0 0 r j) = x3 (ix4 0 (tile t k) r j) := by
  unfold BB View.ld
  refine congrArg x3 (funext fun a => Fin.ext ?_)
  have e : k0_off1 (grid0.coords t) (tr k) = ![0, min 4 (2 + k.val - t.val % 8), 0, 0] := by
    rw [← coord2 t]
    exact congrArg (fun z => ![0, z, 0, 0]) (off1_val ⟨(grid0.coords t 2).val, by rw [coord2]; omega⟩ k)
  fin_cases a
  · exact (congrArg (· + _) (congrFun e 0)).trans (by simp)
  · exact (congrArg (· + _) (congrFun e 1)).trans (by simp [tile])
  · exact (congrArg (· + _) (congrFun e 2)).trans (by simp)
  · exact (congrArg (· + _) (congrFun e 3)).trans (by simp)

end Cert.DiffIdeal.Value

end
-- ==== Proof.Diff.Bucket.lean ====
/- The bucket of a distance between two positions, and that it is the same for all distances from 513 on. -/
module

public import proofs.«01_k».proof.Proof.Softmax
public import Idealize.ShloMosaic.Lib.Pipeline.ValueKit

@[expose] public section

set_option maxRecDepth 16384

noncomputable section

open Idealize.ShloMosaic

namespace Bucket

/-- How far into the logarithmic buckets a distance lies. -/
def steps (n : BitVec 32) : BitVec 32 :=
  Ideal.fptosi 32 (Ideal.div (Ideal.log (Ideal.div (((IntOp.maxsi n 1#32).toInt : ℝ) : EReal) (Ideal.ofBits FTy.f32 0x41000000#32))) (Ideal.ofBits FTy.f32 0x40317218#32) * Ideal.ofBits FTy.f32 0x41000000#32)

/-- The bucket of a signed distance. -/
def bucket (d : BitVec 32) : BitVec 32 :=
  IntOp.addi (Scalar.select (IntOp.cmpi .sgt d 0#32) 16#32 0#32)
    (Scalar.select (IntOp.cmpi .slt (IntOp.absi d) 8#32) (IntOp.absi d) (IntOp.minsi (IntOp.addi 8#32 (steps (IntOp.absi d))) 15#32))

/-- The row of the table of biases that a bucket names. -/
def row (b : BitVec 32) : Fin 32 :=
  ⟨min (Scalar.select (IntOp.cmpi .slt b 0#32) (IntOp.addi b 32#32) b).toInt.toNat 31, by omega⟩

theorem toInt_small (z : ℤ) (h1 : -2147483648 ≤ z) (h2 : z < 2147483648) : (BitVec.ofInt 32 z).toInt = z := by
  rw [BitVec.toInt_ofInt]
  exact Int.bmod_eq_of_le (by omega) (by omega)

theorem eight : Ideal.ofBits FTy.f32 0x41000000#32 = ((8 : ℝ) : EReal) := by
  simp [Ideal.ofBits, Ideal.ieee]; rw [← EReal.coe_mul]; norm_num

theorem ln16 : Ideal.ofBits FTy.f32 0x40317218#32 = ((11629080 / 4194304 : ℝ) : EReal) := by
  simp [Ideal.ofBits, Ideal.ieee]; rw [← EReal.coe_mul]; norm_num

/-- From 513 on (to 4095) a distance lies at least seven steps in. -/
theorem steps_far (k : ℤ) (h1 : 513 ≤ k) (h2 : k ≤ 4095) : ∃ e : ℤ, 7 ≤ e ∧ e ≤ 100 ∧ steps (BitVec.ofInt 32 k) = BitVec.ofInt 32 e := by
  have hk : (BitVec.ofInt 32 k).toInt = k := toInt_small k (by omega) (by omega)
  have hm : (IntOp.maxsi (BitVec.ofInt 32 k) 1#32).toInt = k := by
    unfold IntOp.maxsi
    rw [if_pos (show BitVec.slt 1#32 (BitVec.ofInt 32 k) = true from decide_eq_true (by rw [hk]; show (1 : ℤ) < k; omega)), hk]
  have hr1 : (513 : ℝ) ≤ (k : ℝ) := by exact_mod_cast h1
  have hr2 : (k : ℝ) ≤ 4095 := by exact_mod_cast h2
  have hpos : 0 < (k : ℝ) / 8 := by positivity
  have l2a : 1 / 2 ≤ Real.log 2 := (by norm_num : (1 / 2 : ℝ) = 1 - 2⁻¹) ▸ Real.one_sub_inv_le_log_of_pos (by norm_num : (0 : ℝ) < 2)
  have l2b : Real.log 2 ≤ 1 := (Real.log_le_sub_one_of_pos (by norm_num : (0 : ℝ) < 2)).trans (by norm_num)
  have lo : 3 ≤ Real.log ((k : ℝ) / 8) := by
    have : Real.log ((2 : ℝ) ^ 6) ≤ Real.log ((k : ℝ) / 8) := Real.log_le_log (by norm_num) (by norm_num; linarith)
    rw [Real.log_pow] at this
    push_cast at this
    linarith
  have hi : Real.log ((k : ℝ) / 8) ≤ 9 := by
    have : Real.log ((k : ℝ) / 8) ≤ Real.log ((2 : ℝ) ^ 9) := Real.log_le_log hpos (by norm_num; linarith)
    rw [Real.log_pow] at this
    push_cast at this
    linarith
  have e1 : steps (BitVec.ofInt 32 k) = Ideal.fptosi 32 ((Real.log ((k : ℝ) / 8) / (11629080 / 4194304) * 8 : ℝ) : EReal) := by
    unfold steps
    rw [hm, eight, ln16, Ideal.div_coe (by norm_num), Ideal.div_coe (by norm_num), ← EReal.coe_mul, mul_one_div]
    rw [show Ideal.log (((k : ℝ) / 8 : ℝ) : EReal) = (Real.log ((k : ℝ) / 8) : EReal) from if_neg (not_le.mpr hpos), ← EReal.coe_mul, ← EReal.coe_mul, mul_one_div]
  generalize hx : (Real.log ((k : ℝ) / 8) / (11629080 / 4194304) * 8 : ℝ) = x at e1
  have x1 : 7 ≤ x := by rw [← hx]; linarith
  have x2 : x ≤ 100 := by rw [← hx]; linarith
  have f1 : 7 ≤ ⌊x⌋ := Int.le_floor.mpr (by exact_mod_cast x1)
  have f2 : ⌊x⌋ ≤ 100 := by
    have := Int.floor_le x
    exact_mod_cast this.trans x2
  refine ⟨⌊x⌋, f1, f2, ?_⟩
  rw [e1]
  unfold Ideal.fptosi
  rw [Ideal.toIntClamped_coe, if_pos (by linarith)]
  norm_num
  congr 1
  omega

/-- From 513 on the logarithmic bucket is the last. -/
theorem large_far (k : ℤ) (h1 : 513 ≤ k) (h2 : k ≤ 4095) :
    Scalar.select (IntOp.cmpi .slt (BitVec.ofInt 32 k) 8#32) (BitVec.ofInt 32 k) (IntOp.minsi (IntOp.addi 8#32 (steps (BitVec.ofInt 32 k))) 15#32) = 15#32 := by
  obtain ⟨e, e1, e2, he⟩ := steps_far k h1 h2
  have hk : (BitVec.ofInt 32 k).toInt = k := toInt_small k (by omega) (by omega)
  have c : IntOp.cmpi .slt (BitVec.ofInt 32 k) 8#32 = 0#1 :=
    congrArg BitVec.ofBool (decide_eq_false (by rw [hk]; show ¬ k < 8; omega))
  have s : IntOp.addi 8#32 (BitVec.ofInt 32 e) = BitVec.ofInt 32 (8 + e) := (BitVec.ofInt_add 8 e).symm
  have hs : (BitVec.ofInt 32 (8 + e)).toInt = 8 + e := toInt_small _ (by omega) (by omega)
  rw [c, he, s]
  unfold IntOp.minsi
  rw [if_neg (show ¬ BitVec.slt (BitVec.ofInt 32 (8 + e)) 15#32 = true from fun h => by
    have h' := of_decide_eq_true h
    rw [hs] at h'
    have : (8 + e : ℤ) < 15 := h'
    omega)]
  rfl

/-- All distances from 513 to 4095 have the last bucket. -/
theorem bucket_far_pos (k : ℤ) (h1 : 513 ≤ k) (h2 : k ≤ 4095) : bucket (BitVec.ofInt 32 k) = 31#32 := by
  have hk : (BitVec.ofInt 32 k).toInt = k := toInt_small k (by omega) (by omega)
  have a : IntOp.absi (BitVec.ofInt 32 k) = BitVec.ofInt 32 k := by
    unfold IntOp.absi
    rw [BitVec.msb_eq_toInt, hk, if_neg (by simp; omega)]
  have c : IntOp.cmpi .sgt (BitVec.ofInt 32 k) 0#32 = 1#1 :=
    congrArg BitVec.ofBool (decide_eq_true (by rw [hk]; show 0 < k; omega))
  unfold bucket
  rw [a, large_far k h1 h2, c]
  rfl

/-- All distances from −4095 to −513 have bucket 15. -/
theorem bucket_far_neg (k : ℤ) (h1 : k ≤ -513) (h2 : -4095 ≤ k) : bucket (BitVec.ofInt 32 k) = 15#32 := by
  have hk : (BitVec.ofInt 32 k).toInt = k := toInt_small k (by omega) (by omega)
  have a : IntOp.absi (BitVec.ofInt 32 k) = BitVec.ofInt 32 (-k) := by
    unfold IntOp.absi
    rw [BitVec.msb_eq_toInt, hk, if_pos (by simp; omega), BitVec.ofInt_neg]
  have c : IntOp.cmpi .sgt (BitVec.ofInt 32 k) 0#32 = 0#1 :=
    congrArg BitVec.ofBool (decide_eq_false (by rw [hk]; show ¬ 0 < k; omega))
  unfold bucket
  rw [a, large_far (-k) (by omega) (by omega), c]
  rfl

/-- The distance from query `512 i + r` to key `512 k + j` has the bucket of the tile for the blocks' distance, beyond two blocks that for two. -/
theorem bucket_tile (i k : Fin 8) (r j : Fin 512) :
    bucket (BitVec.ofInt 32 ((((min 4 (2 + k.val - i.val) : ℕ) : ℤ) - 2) * 512 + j.val - r.val)) = bucket (BitVec.ofInt 32 ((512 * k.val + j.val : ℕ) - (512 * i.val + r.val : ℕ) : ℤ)) := by
  have := i.isLt; have := k.isLt; have := r.isLt; have := j.isLt
  by_cases far : k.val + 2 < i.val
  · rw [bucket_far_neg _ (by omega) (by omega), bucket_far_neg _ (by omega) (by omega)]
  by_cases far' : i.val + 2 < k.val
  · rw [bucket_far_pos _ (by omega) (by omega), bucket_far_pos _ (by omega) (by omega)]
  · congr 2
    omega

end Bucket

end
-- ==== Proof.Diff.Bias.lean ====
/- The tiles of biases that the host prepares for the differential attention's call. -/
module

public import proofs.«01_k».proof.Proof.Diff.Reads
public import proofs.«01_k».proof.Proof.Diff.Bucket
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.DiffIdeal.Value

open Cert.DiffIdeal Cert.DiffIdeal.Gen

variable (m : (ℓ : Loc nD τ sig) → Buf (Elt Ideal) ℓ)

/-- Key position less query position, for every entry of every tile. -/
def REL : IVec S5x512x512 32 :=
  subi (broadcastInDim S5x512x512 ![0, 1, 2] bcast_S5x1x512_S5x512x512_0_1_2 (addi (broadcastInDim S5x1x512 ![0, 1, 2] bcast_S5x1x1_S5x1x512_0_1_2 (muli (broadcastInDim S5x1x1 ![0] bcast_S5_S5x1x1_0 (addi (broadcastInDim S5 ![] bcast_S_S5 (constantI S_ 32 4294967294#32)) (iotaInDim S5 32 0))) (broadcastInDim S5x1x1 ![] bcast_S_S5x1x1 (constantI S_ 32 512#32)))) (broadcastInDim S5x1x512 ![0, 1, 2] bcast_S1x1x512_S5x1x512_0_1_2 (broadcastInDim S1x1x512 ![2] bcast_S512_S1x1x512_2 (iotaInDim S512 32 0))))) (broadcastInDim S5x512x512 ![0, 1, 2] bcast_S1x512x1_S5x512x512_0_1_2 (broadcastInDim S1x512x1 ![1] bcast_S512_S1x512x1_1 (iotaInDim S512 32 0)))

/-- The buckets of an array of distances. -/
def BUCK (rel : IVec S5x512x512 32) : IVec S5x512x512 32 :=
  addi (id (select (cmpi .sgt rel (broadcastInDim S5x512x512 ![] bcast_S_S5x512x512 (constantI S_ 32 0#32))) (broadcastInDim S5x512x512 ![] bcast_S_S5x512x512 (constantI S_ 32 16#32)) (broadcastInDim S5x512x512 ![] bcast_S_S5x512x512 (constantI S_ 32 0#32)))) (select (cmpi .slt (absi rel) (broadcastInDim S5x512x512 ![] bcast_S_S5x512x512 (constantI S_ 32 8#32))) (absi rel) (minsi (addi (broadcastInDim S5x512x512 ![] bcast_S_S5x512x512 (constantI S_ 32 8#32)) (fptosi 32 (mulf (Host.divf (Host.log (Host.divf (sitofp .f32 (maxsi (absi rel) (broadcastInDim S5x512x512 ![] bcast_S_S5x512x512 (constantI S_ 32 1#32)))) (broadcastInDim S5x512x512 ![] bcast_S_S5x512x512 (constant S_ .f32 0x41000000#32)))) (broadcastInDim S5x512x512 ![] bcast_S_S5x512x512 (constant S_ .f32 0x40317218#32))) (broadcastInDim S5x512x512 ![] bcast_S_S5x512x512 (constant S_ .f32 0x41000000#32)) : FVec Ideal S5x512x512 .f32))) (broadcastInDim S5x512x512 ![] bcast_S_S5x512x512 (constantI S_ 32 15#32))))

/-- The tiles: the biases of the buckets, head by head. -/
def TILES (w : FVec Ideal S32x4 .f32) (b : IVec S5x512x512 32) : FVec Ideal S4x5x512x512 .f32 :=
  transpose S4x5x512x512 [3, 0, 1, 2] (Host.gather gather_S32x4_S5x512x512x1_S5x512x512x4_3_0_n_n_0_3_14 w (broadcastInDim S5x512x512x1 ![0, 1, 2] bcast_S5x512x512_S5x512x512x1_0_1_2 (select (cmpi .slt b (broadcastInDim S5x512x512 ![] bcast_S_S5x512x512 (constantI S_ 32 0#32))) (addi b (broadcastInDim S5x512x512 ![] bcast_S_S5x512x512 (constantI S_ 32 32#32))) b))) transposes_S5x512x512x4_S4x5x512x512_3_0_1_2

theorem V_tiles (c : Dev nD) : (V m c main_v47 : FVec Ideal S4x5x512x512 .f32) = TILES (m ((c : Thread nD τ).loc main_arg1)) (BUCK REL) := by
  show StableHlo.after (List.flatten [hostOps0, hostOps0_1, hostOps0_2, hostOps0_3, hostOps0_4]) (fun b => m (c, b)) _ = _
  simp only [List.flatten_cons, List.flatten_nil, List.append_nil, List.cons_append, List.nil_append]
  after_results
  all_goals rfl

theorem rel_at (x : Fin 5) (r j : Fin 512) : REL (ix3 x r j) = BitVec.ofInt 32 (((x.val : ℤ) - 2) * 512 + j.val - r.val) := by
  have e : REL (ix3 x r j) = IntOp.subi (IntOp.addi (IntOp.muli (IntOp.addi 4294967294#32 (BitVec.ofNat 32 x.val)) 512#32) (BitVec.ofNat 32 j.val)) (BitVec.ofNat 32 r.val) := by
    pointwise [REL]
  rw [e]
  unfold IntOp.subi IntOp.addi IntOp.muli
  rw [show (4294967294#32 : BitVec 32) = BitVec.ofInt 32 (-2) from by decide, show (512#32 : BitVec 32) = BitVec.ofInt 32 512 from by decide,
    show BitVec.ofNat 32 x.val = BitVec.ofInt 32 x.val from (BitVec.ofInt_natCast 32 x.val).symm, show BitVec.ofNat 32 j.val = BitVec.ofInt 32 j.val from (BitVec.ofInt_natCast 32 j.val).symm,
    show BitVec.ofNat 32 r.val = BitVec.ofInt 32 r.val from (BitVec.ofInt_natCast 32 r.val).symm, ← BitVec.ofInt_add, ← BitVec.ofInt_mul, ← BitVec.ofInt_add, BitVec.sub_eq_add_neg, ← BitVec.ofInt_neg, ← BitVec.ofInt_add]
  congr 1

theorem buck_at (rel : IVec S5x512x512 32) (i : S5x512x512.Idx) : BUCK rel i = Bucket.bucket (rel i) := rfl

/-- The gather reads a row of the table at every entry. -/
theorem gather_at (w : FVec Ideal S32x4 .f32) (idx : IVec S5x512x512x1 32) (x : Fin 5) (r j : Fin 512) (h : Fin 4) :
    Host.gather gather_S32x4_S5x512x512x1_S5x512x512x4_3_0_n_n_0_3_14 w idx (ix4 x r j h) = w (ix2 ⟨min (idx (ix4 x r j 0)).toInt.toNat 31, by omega⟩ h) := by
  unfold Host.gather
  refine congrArg w (funext fun a => Fin.ext ?_)
  show gather_S32x4_S5x512x512x1_S5x512x512x4_3_0_n_n_0_3_14.start (ix4 x r j h) idx a + gather_S32x4_S5x512x512x1_S5x512x512x4_3_0_n_n_0_3_14.batchCoord (ix4 x r j h) a
    + gather_S32x4_S5x512x512x1_S5x512x512x4_3_0_n_n_0_3_14.offCoord (ix4 x r j h) a = _
  rw [GatherDims.batchCoord_eq_zero _ _ _ List.not_mem_nil, Nat.add_zero]
  fin_cases a
  · rw [GatherDims.offCoord_eq_zero _ _ _ (fun h => ((GatherDims.mem_sKept _ _).mp h).1 (List.mem_singleton.mpr rfl)), Nat.add_zero]
    unfold GatherDims.start
    refine (dif_pos (by decide)).trans ?_
    refine congrArg (fun z => min (idx z).toInt.toNat 31) (funext fun b => ?_)
    fin_cases b <;> rfl
  · unfold GatherDims.start
    rw [dif_neg (by decide), Nat.zero_add]
    unfold GatherDims.offCoord
    exact dif_pos (by decide)

theorem tiles_at (w : FVec Ideal S32x4 .f32) (b : IVec S5x512x512 32) (h : Fin 4) (x : Fin 5) (r j : Fin 512) : TILES w b (ix4 h x r j) = w (ix2 (Bucket.row (b (ix3 x r j))) h) := by
  pointwise [TILES]
  rw [gather_at]
  refine congrArg (fun z => w (ix2 z h)) (Fin.ext ?_)
  have e : broadcastInDim S5x512x512x1 ![0, 1, 2] bcast_S5x512x512_S5x512x512x1_0_1_2 (select (cmpi .slt b (broadcastInDim S5x512x512 ![] bcast_S_S5x512x512 (constantI S_ 32 0#32))) (addi b (broadcastInDim S5x512x512 ![] bcast_S_S5x512x512 (constantI S_ 32 32#32))) b) (ix4 x r j 0)
      = Scalar.select (IntOp.cmpi .slt (b (ix3 x r j)) 0#32) (IntOp.addi (b (ix3 x r j)) 32#32) (b (ix3 x r j)) := by
    pointwise []
  exact congrArg (fun z : BitVec 32 => min z.toInt.toNat 31) e

/-- The bias of query `r` of the point's block with key `j` of trip `k`'s: that of the bucket of their distance. -/
theorem bias_at (c : Dev nD) (t : Fin cfg0.N) (k : Fin 8) (r j : Fin 512) :
    BB (grid0.coords t) (iblk m c 3 t) (tr k) (ix4 0 0 r j)
      = m ((c : Thread nD τ).loc main_arg1) (ix2 (Bucket.row (Bucket.bucket (BitVec.ofInt 32 ((512 * k.val + j.val : ℕ) - (512 * (t.val % 8) + r.val : ℕ) : ℤ)))) ⟨t.val / 8 % 4, by omega⟩) := by
  have e : (iblk m c 3 t : FVec Ideal S1x5x512x512 .f32) (ix4 0 (tile t k) r j) = (V m c main_v47 : FVec Ideal S4x5x512x512 .f32) (ix4 ⟨t.val / 8 % 4, by omega⟩ (tile t k) r j) := by
    blk_ext [iblk, idx_val t]
  rw [bb_at, e, V_tiles, tiles_at, buck_at, rel_at]
  exact congrArg (fun z => (m ((c : Thread nD τ).loc main_arg1) : FVec Ideal S32x4 .f32) (ix2 (Bucket.row z) ⟨t.val / 8 % 4, by omega⟩)) (Bucket.bucket_tile ⟨t.val % 8, by omega⟩ k r j)

end Cert.DiffIdeal.Value

end
-- ==== Proof.Diff.Ref.lean ====
/- The differential attention's reference, entry by entry. -/
module

public import proofs.«01_k».proof.Proof.Gen.DiffRefIdeal
public import proofs.«01_k».proof.Proof.Diff.Bucket
public import proofs.«01_k».proof.Proof.Softmax
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open scoped BigOperators

namespace Cert.DiffRefIdeal.Point

open Cert.DiffRefIdeal Cert.DiffRefIdeal.Gen

/-- Key position less query position. -/
def REL : IVec S4096x4096 32 :=
  subi (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))

/-- The buckets of an array of distances. -/
def BUCK (rel : IVec S4096x4096 32) : IVec S4096x4096 32 :=
  addi (id (select (cmpi .sgt rel (broadcastInDim S4096x4096 ![] bcast_S_S4096x4096 (constantI S_ 32 0#32))) (broadcastInDim S4096x4096 ![] bcast_S_S4096x4096 (constantI S_ 32 16#32)) (broadcastInDim S4096x4096 ![] bcast_S_S4096x4096 (constantI S_ 32 0#32)))) (select (cmpi .slt (absi rel) (broadcastInDim S4096x4096 ![] bcast_S_S4096x4096 (constantI S_ 32 8#32))) (absi rel) (minsi (addi (broadcastInDim S4096x4096 ![] bcast_S_S4096x4096 (constantI S_ 32 8#32)) (fptosi 32 (mulf (Host.divf (Host.log (Host.divf (sitofp .f32 (maxsi (absi rel) (broadcastInDim S4096x4096 ![] bcast_S_S4096x4096 (constantI S_ 32 1#32)))) (broadcastInDim S4096x4096 ![] bcast_S_S4096x4096 (constant S_ .f32 0x41000000#32)))) (broadcastInDim S4096x4096 ![] bcast_S_S4096x4096 (constant S_ .f32 0x40317218#32))) (broadcastInDim S4096x4096 ![] bcast_S_S4096x4096 (constant S_ .f32 0x41000000#32)) : FVec Ideal S4096x4096 .f32))) (broadcastInDim S4096x4096 ![] bcast_S_S4096x4096 (constantI S_ 32 15#32))))

/-- The biases of the buckets, head by head. -/
def BIAS (w : FVec Ideal S32x4 .f32) (b : IVec S4096x4096 32) : FVec Ideal S4x4096x4096 .f32 :=
  transpose S4x4096x4096 [2, 0, 1] (Host.gather gather_S32x4_S4096x4096x1_S4096x4096x4_2_0_n_n_0_2_14 w (broadcastInDim S4096x4096x1 ![0, 1] bcast_S4096x4096_S4096x4096x1_0_1 (select (cmpi .slt b (broadcastInDim S4096x4096 ![] bcast_S_S4096x4096 (constantI S_ 32 0#32))) (addi b (broadcastInDim S4096x4096 ![] bcast_S_S4096x4096 (constantI S_ 32 32#32))) b))) transposes_S4096x4096x4_S4x4096x4096_2_0_1

/-- The scores of both maps. -/
def SC (p : FVec Ideal S4x4096x8960 .bf16) (bias : FVec Ideal S4x4096x4096 .f32) : FVec Ideal S4x4x2x4096x4096 .f32 :=
  addf (mulf (Host.dotGeneral dot_S4x4096x4x2x64_S4x4096x4x2x64_S4x4x2x4096x4096_4_4_1_1_023_023 none (shapeCast _ (extf .f32 (extractStridedSlice S4x4096x512 ![0, 0, 7168] p slices_S4x4096x8960_S4x4096x512_0_0_7168) bitsLt_bf16_f32) shapeCasts_S4x4096x512_S4x4096x4x2x64) (shapeCast _ (extf .f32 (extractStridedSlice S4x4096x512 ![0, 0, 7680] p slices_S4x4096x8960_S4x4096x512_0_0_7680) bitsLt_bf16_f32) shapeCasts_S4x4096x512_S4x4096x4x2x64)) (broadcastInDim S4x4x2x4096x4096 ![] bcast_S_S4x4x2x4096x4096 (constant S_ .f32 0x3E000000#32))) (broadcastInDim S4x4x2x4096x4096 ![0, 1, 2, 3, 4] bcast_S1x4x1x4096x4096_S4x4x2x4096x4096_0_1_2_3_4 (broadcastInDim S1x4x1x4096x4096 ![1, 3, 4] bcast_S4x4096x4096_S1x4x1x4096x4096_1_3_4 bias))

/-- The greatest score of every query. -/
def MX (sc : FVec Ideal S4x4x2x4096x4096 .f32) : FVec Ideal S4x4x2x4096 .f32 :=
  maximumf (broadcastInDim S4x4x2x4096 ![] bcast_S_S4x4x2x4096 (constant S_ .f32 0xFF800000#32)) (Host.reduce FloatOps.maximumf sc (constant S_ .f32 0xFF800000#32) reducesTo_S4x4x2x4096x4096_S4x4x2x4096_d4 h_S_)

/-- The exponentials of the scores less the greatest. -/
def EX (sc : FVec Ideal S4x4x2x4096x4096 .f32) : FVec Ideal S4x4x2x4096x4096 .f32 :=
  Host.exp (subf sc (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (MX sc))))

/-- The weights: the exponentials over their sum. -/
def PR (ex : FVec Ideal S4x4x2x4096x4096 .f32) : FVec Ideal S4x4x2x4096x4096 .f32 :=
  Host.divf ex (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd ex (constant S_ .f32 0x00000000#32) reducesTo_S4x4x2x4096x4096_S4x4x2x4096_d4 h_S_)))

/-- The factor of the second map; `z` is the word of the layer's constant. -/
def LAM (z : BitVec 32) (lp : FVec Ideal S4x64 .f32) : FVec Ideal S_ .f32 :=
  addf (subf (Host.exp (Host.reduceAdd (mulf (shapeCast _ (extractStridedSlice S1x64 ![0, 0] lp slices_S4x64_S1x64_0_0) shapeCasts_S1x64_S64) (shapeCast _ (extractStridedSlice S1x64 ![1, 0] lp slices_S4x64_S1x64_1_0) shapeCasts_S1x64_S64)) (constant S_ .f32 0x00000000#32) reducesTo_S64_S_d0 h_S_)) (Host.exp (Host.reduceAdd (mulf (shapeCast _ (extractStridedSlice S1x64 ![2, 0] lp slices_S4x64_S1x64_2_0) shapeCasts_S1x64_S64) (shapeCast _ (extractStridedSlice S1x64 ![3, 0] lp slices_S4x64_S1x64_3_0) shapeCasts_S1x64_S64)) (constant S_ .f32 0x00000000#32) reducesTo_S64_S_d0 h_S_))) (constant S_ .f32 z)

/-- The values weighted by the difference of the two maps. -/
def OUT (p : FVec Ideal S4x4096x8960 .bf16) (lam : FVec Ideal S_ .f32) (pr : FVec Ideal S4x4x2x4096x4096 .f32) : FVec Ideal S4x4096x4x128 .f32 :=
  transpose S4x4096x4x128 [0, 3, 1, 2] (Host.dotGeneral dot_S4x4096x4x128_S4x4x4096x4096_S4x4x128x4096_1_3_3_2_02_01 none (shapeCast _ (extf .f32 (extractStridedSlice S4x4096x512 ![0, 0, 8192] p slices_S4x4096x8960_S4x4096x512_0_0_8192) bitsLt_bf16_f32) shapeCasts_S4x4096x512_S4x4096x4x128) (subf (shapeCast _ (extractStridedSlice S4x4x1x4096x4096 ![0, 0, 0, 0, 0] pr slices_S4x4x2x4096x4096_S4x4x1x4096x4096_0_0_0_0_0) shapeCasts_S4x4x1x4096x4096_S4x4x4096x4096) (mulf (broadcastInDim S4x4x4096x4096 ![] bcast_S_S4x4x4096x4096 lam) (shapeCast _ (extractStridedSlice S4x4x1x4096x4096 ![0, 0, 1, 0, 0] pr slices_S4x4x2x4096x4096_S4x4x1x4096x4096_0_0_1_0_0) shapeCasts_S4x4x1x4096x4096_S4x4x4096x4096)))) transposes_S4x4x128x4096_S4x4096x4x128_0_3_1_2

/-- Every head's output over its root mean square, with the gain and the layer's factor, whose word is `z`. -/
def NORM (z : BitVec 32) (o : FVec Ideal S4x4096x4x128 .f32) (g : FVec Ideal S128 .f32) : FVec Ideal S4x4096x512 .bf16 :=
  truncf .bf16 (shapeCast _ (mulf (mulf (mulf o (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 g))) (broadcastInDim S4x4096x4x128 ![] bcast_S_S4x4096x4x128 (constant S_ .f32 z))) shapeCasts_S4x4096x4x128_S4x4096x512) bitsLt_bf16_f32

/-- The reference's result, for the words of the layer's two constants. -/
def REF (z z' : BitVec 32) (p : FVec Ideal S4x4096x8960 .bf16) (w : FVec Ideal S32x4 .f32) (lp : FVec Ideal S4x64 .f32) (g : FVec Ideal S128 .f32) : FVec Ideal S4x4096x512 .bf16 :=
  NORM z' (OUT p (LAM z lp) (PR (EX (SC p (BIAS w (BUCK REL)))))) g

theorem rel_at (l s : Fin 4096) : REL (ix2 l s) = BitVec.ofInt 32 ((s.val : ℤ) - l.val) := by
  have e : REL (ix2 l s) = IntOp.subi (BitVec.ofNat 32 s.val) (BitVec.ofNat 32 l.val) := by
    pointwise [REL]
  rw [e]
  unfold IntOp.subi
  rw [show BitVec.ofNat 32 s.val = BitVec.ofInt 32 s.val from (BitVec.ofInt_natCast 32 s.val).symm, show BitVec.ofNat 32 l.val = BitVec.ofInt 32 l.val from (BitVec.ofInt_natCast 32 l.val).symm,
    BitVec.sub_eq_add_neg, ← BitVec.ofInt_neg, ← BitVec.ofInt_add]
  congr 1

theorem buck_at (rel : IVec S4096x4096 32) (i : S4096x4096.Idx) : BUCK rel i = Bucket.bucket (rel i) := rfl

/-- The gather reads a row of the table at every entry. -/
theorem gather_at (w : FVec Ideal S32x4 .f32) (idx : IVec S4096x4096x1 32) (l s : Fin 4096) (h : Fin 4) :
    Host.gather gather_S32x4_S4096x4096x1_S4096x4096x4_2_0_n_n_0_2_14 w idx (ix3 l s h) = w (ix2 ⟨min (idx (ix3 l s 0)).toInt.toNat 31, by omega⟩ h) := by
  unfold Host.gather
  refine congrArg w (funext fun a => Fin.ext ?_)
  show gather_S32x4_S4096x4096x1_S4096x4096x4_2_0_n_n_0_2_14.start (ix3 l s h) idx a + gather_S32x4_S4096x4096x1_S4096x4096x4_2_0_n_n_0_2_14.batchCoord (ix3 l s h) a
    + gather_S32x4_S4096x4096x1_S4096x4096x4_2_0_n_n_0_2_14.offCoord (ix3 l s h) a = _
  rw [GatherDims.batchCoord_eq_zero _ _ _ List.not_mem_nil, Nat.add_zero]
  fin_cases a
  · rw [GatherDims.offCoord_eq_zero _ _ _ (fun h => ((GatherDims.mem_sKept _ _).mp h).1 (List.mem_singleton.mpr rfl)), Nat.add_zero]
    unfold GatherDims.start
    refine (dif_pos (by decide)).trans ?_
    refine congrArg (fun z => min (idx z).toInt.toNat 31) (funext fun b => ?_)
    fin_cases b <;> rfl
  · unfold GatherDims.start
    rw [dif_neg (by decide), Nat.zero_add]
    unfold GatherDims.offCoord
    exact dif_pos (by decide)

theorem bias_at (w : FVec Ideal S32x4 .f32) (b : IVec S4096x4096 32) (h : Fin 4) (l s : Fin 4096) : BIAS w b (ix3 h l s) = w (ix2 (Bucket.row (b (ix2 l s))) h) := by
  pointwise [BIAS]
  rw [gather_at]
  refine congrArg (fun z => w (ix2 z h)) (Fin.ext ?_)
  have e : broadcastInDim S4096x4096x1 ![0, 1] bcast_S4096x4096_S4096x4096x1_0_1 (select (cmpi .slt b (broadcastInDim S4096x4096 ![] bcast_S_S4096x4096 (constantI S_ 32 0#32))) (addi b (broadcastInDim S4096x4096 ![] bcast_S_S4096x4096 (constantI S_ 32 32#32))) b) (ix3 l s 0)
      = Scalar.select (IntOp.cmpi .slt (b (ix2 l s)) 0#32) (IntOp.addi (b (ix2 l s)) 32#32) (b (ix2 l s)) := by
    pointwise []
  exact congrArg (fun z : BitVec 32 => min z.toInt.toNat 31) e

/-- A score: the dot product over the 64 coordinates of the map, times 1/8, and the bias. -/
theorem sc_at (p : FVec Ideal S4x4096x8960 .bf16) (bias : FVec Ideal S4x4096x4096 .f32) (b h : Fin 4) (i : Fin 2) (l s : Fin 4096) :
    SC p bias (ix5 b h i l s) = (∑ d : Fin 64, (p (ix3 b l ⟨7168 + (h.val * 128 + i.val * 64 + d.val), by omega⟩) : EReal) * p (ix3 b s ⟨7680 + (h.val * 128 + i.val * 64 + d.val), by omega⟩)) * ((8⁻¹ : ℝ) : EReal) + bias (ix3 h l s) := by
  pointwise [SC]
  rw [show Ideal.ofBits FTy.f32 0x3E000000#32 = ((8⁻¹ : ℝ) : EReal) from by simp [Ideal.ofBits, Ideal.ieee]; rw [← EReal.coe_mul]; norm_num]

theorem ex_at (sc : FVec Ideal S4x4x2x4096x4096 .f32) (b h : Fin 4) (i : Fin 2) (l s : Fin 4096) :
    EX sc (ix5 b h i l s) = Ideal.exp (sc (ix5 b h i l s) - MX sc (ix4 b h i l)) := by
  pointwise [EX]

theorem pr_at (ex : FVec Ideal S4x4x2x4096x4096 .f32) (b h : Fin 4) (i : Fin 2) (l s : Fin 4096) :
    PR ex (ix5 b h i l s) = Ideal.div (ex (ix5 b h i l s)) (0 + ∑ s' : Fin 4096, ex (ix5 b h i l s')) := by
  pointwise [PR]

/-- The word of −∞. -/
theorem neg_inf : Ideal.ofBits FTy.f32 0xFF800000#32 = (⊥ : EReal) := by simp [Ideal.ofBits, Ideal.ieee]

/-- A maximum along one axis, from −∞ on, of an array of reals is a real. -/
theorem reduce_real {s t u : Shape} {a : Fin s.rank} (x : FVec Ideal s .f32) (init : FVec Ideal u .f32) (h' : s.ReducesTo [a] t) (h : s.Reduces [a] t)
    (hu : 0 < u.numel) (hi : init (Shape.Idx.first hu) = (⊥ : EReal)) (hp : 0 < s.size a) (hx : ∀ i, ∃ r : ℝ, x i = (r : EReal)) (j : t.Idx) :
    ∃ r : ℝ, Host.reduce (FloatOps.maximumf (F := Ideal) (φ := .f32)) x init h' hu j = (r : EReal) := by
  rw [Host.reduce_eq_fold_single _ x init h' h hu j, hi]
  exact Softmax.fold_real (Finset.univ : Finset (Fin (s.size a))) ⟨⟨0, hp⟩, Finset.mem_univ _⟩ (x ∘ h.lift j) fun i _ => hx _

/-- Where an array is a real, so is its maximum with −∞. -/
theorem max_real {t : Shape} (x y : FVec Ideal t .f32) (j : t.Idx) (hx : x j = (⊥ : EReal)) (hy : ∃ r : ℝ, y j = (r : EReal)) :
    ∃ r : ℝ, maximumf x y j = (r : EReal) := by
  obtain ⟨r, hr⟩ := hy
  exact ⟨r, (congrArg₂ max hx hr).trans (max_eq_right bot_le)⟩

theorem reduces4 : S4x4x2x4096x4096.Reduces [4] S4x4x2x4096 := by decide

/-- Where every score is a real, so is the greatest. -/
theorem mx_real (sc : FVec Ideal S4x4x2x4096x4096 .f32) (h : ∀ i, ∃ r : ℝ, sc i = (r : EReal)) (j : S4x4x2x4096.Idx) :
    ∃ r : ℝ, MX sc j = (r : EReal) :=
  max_real _ _ j neg_inf (reduce_real sc _ _ reduces4 h_S_ neg_inf (by decide) h j)

theorem lam_at (z : BitVec 32) (lp : FVec Ideal S4x64 .f32) : LAM z lp ix0 = Ideal.exp (∑ x : Fin 64, (lp (ix2 0 x) : EReal) * lp (ix2 1 x)) - Ideal.exp (∑ x : Fin 64, (lp (ix2 2 x) : EReal) * lp (ix2 3 x)) + Ideal.ofBits FTy.f32 z := by
  pointwise [LAM]

/-- Where its parameters are reals, so is the factor. -/
theorem lam_real (z : BitVec 32) (hz : ∃ r : ℝ, Ideal.ofBits FTy.f32 z = (r : EReal)) (lp : FVec Ideal S4x64 .f32) (h : ∀ i, ∃ r : ℝ, lp i = (r : EReal)) : ∃ r : ℝ, LAM z lp ix0 = (r : EReal) := by
  choose lr hl using h
  obtain ⟨r, hr⟩ := hz
  refine ⟨Real.exp (∑ x : Fin 64, lr (ix2 0 x) * lr (ix2 1 x)) - Real.exp (∑ x : Fin 64, lr (ix2 2 x) * lr (ix2 3 x)) + r, ?_⟩
  rw [lam_at, hr, EReal.coe_add, EReal.coe_sub, ← Ideal.exp_coe, ← Ideal.exp_coe, Softmax.coe_sum, Softmax.coe_sum]
  simp only [EReal.coe_mul, ← hl]

/-- The words of the layers' constants are those of reals. -/
theorem init_real : ∃ r : ℝ, Ideal.ofBits FTy.f32 0x3E4CCCCD#32 = (r : EReal) := by
  refine ⟨13421773 / 67108864, ?_⟩
  simp [Ideal.ofBits, Ideal.ieee]
  rw [← EReal.coe_mul]
  norm_num

theorem init2_real : ∃ r : ℝ, Ideal.ofBits FTy.f32 0x3EB60549#32 = (r : EReal) := by
  refine ⟨11928905 / 33554432, ?_⟩
  simp [Ideal.ofBits, Ideal.ieee]
  rw [← EReal.coe_mul]
  norm_num

theorem out_at (p : FVec Ideal S4x4096x8960 .bf16) (lam : FVec Ideal S_ .f32) (pr : FVec Ideal S4x4x2x4096x4096 .f32) (b h : Fin 4) (l : Fin 4096) (d : Fin 128) :
    OUT p lam pr (ix4 b l h d) = ∑ s : Fin 4096, (p (ix3 b s ⟨8192 + (h.val * 128 + d.val), by omega⟩) : EReal) * (pr (ix5 b h 0 l s) - lam ix0 * pr (ix5 b h 1 l s)) := by
  pointwise [OUT]

theorem norm_at (z : BitVec 32) (o : FVec Ideal S4x4096x4x128 .f32) (g : FVec Ideal S128 .f32) (b h : Fin 4) (l : Fin 4096) (d : Fin 128) :
    NORM z o g (ix3 b l ⟨h.val * 128 + d.val, by omega⟩) = o (ix4 b l h d) * Ideal.rsqrt (Ideal.div (0 + ∑ e : Fin 128, o (ix4 b l h e) * o (ix4 b l h e)) (Ideal.ofBits FTy.f32 0x43000000#32) + Ideal.ofBits FTy.f32 0x358637BD#32) * g (ix1 d) * Ideal.ofBits FTy.f32 z := by
  pointwise [NORM]

end Cert.DiffRefIdeal.Point

end
-- ==== Proof.Diff.Value.lean ====
/- The differential attention's call: the result is the reference's, where the queries, keys, values, biases and the factor's parameters are finite. -/
module

public import proofs.«01_k».proof.Proof.Diff.Bias
public import proofs.«01_k».proof.Proof.Diff.Ref
public import proofs.«01_k».proof.Proof.Gen.Pre_finite_diff
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.DiffIdeal.Value

open Cert.DiffIdeal Cert.DiffIdeal.Gen
open Cert.DiffRefIdeal.Point (SC MX EX PR LAM OUT NORM REF)

variable (m : (ℓ : Loc nD τ sig) → Buf (Elt Ideal) ℓ)

/-- The kernel's factor of the second map. -/
theorem lam28 (x : Vec Ideal S4x64 .f32) : k0_pay28 x (ix2 0 0) = Ideal.exp (∑ d : Fin 64, (x (ix2 0 d) : EReal) * x (ix2 1 d)) - Ideal.exp (∑ d : Fin 64, (x (ix2 2 d) : EReal) * x (ix2 3 d)) + Ideal.ofBits FTy.f32 0x3E4CCCCD#32 := by
  pointwise [k0_pay28]

/-- What the body writes of the two maps' sums: the difference of the averages, over its root mean square, with the gain. -/
theorem out (L : FVec Ideal S1x1 .f32) (n0 d0 n1 d1 : Vec Ideal S1x512x128 .f32) (g : Vec Ideal S1x128 .f32) (o : Fin 128 → EReal) (r : Fin 512)
    (ho : ∀ e, o e = Ideal.div (n0 (ix3 0 r e)) (d0 (ix3 0 r e)) - L (ix2 0 0) * Ideal.div (n1 (ix3 0 r e)) (d1 (ix3 0 r e))) (d : Fin 128) :
    k0_pay1 L n0 d0 n1 d1 g (ix3 0 r d) = o d * Ideal.rsqrt (Ideal.div (∑ e : Fin 128, o e * o e) (Ideal.ofBits FTy.f32 0x43000000#32) + Ideal.ofBits FTy.f32 0x358637BD#32) * g (ix2 0 d) * Ideal.ofBits FTy.f32 0x3F4CCCCD#32 := by
  simp only [ho]
  pointwise [k0_pay1]

/-- A weight of a softmax of reals is a real. -/
theorem weight_real {κ : Type} [Fintype κ] [Nonempty κ] (t : κ → ℝ) (T : ℝ) (k : κ) :
    ∃ r : ℝ, Ideal.div (Ideal.exp ((t k : EReal) - T)) (0 + ∑ k', Ideal.exp ((t k' : EReal) - T)) = (r : EReal) := by
  have hZ : (∑ k', Ideal.exp ((t k' : EReal) - T)) = ((∑ k', Real.exp (t k' - T) : ℝ) : EReal) := by
    rw [Softmax.coe_sum]; exact Finset.sum_congr rfl fun k _ => Softmax.exp_sub _ _
  have hpos : 0 < ∑ k', Real.exp (t k' - T) := Finset.sum_pos (fun _ _ => Real.exp_pos _) Finset.univ_nonempty
  rw [zero_add, hZ, Softmax.exp_sub, Ideal.div_coe hpos.ne']
  exact ⟨_, (EReal.coe_mul _ _).symm⟩

/-- Over the reals the difference of two weighted sums is the sum weighted by the difference. -/
theorem diff_sum {κ : Type} [Fintype κ] (v p q : κ → EReal) (lam : EReal) (hv : ∀ k, ∃ r : ℝ, v k = r) (hp : ∀ k, ∃ r : ℝ, p k = r) (hq : ∀ k, ∃ r : ℝ, q k = r) (hl : ∃ r : ℝ, lam = r) :
    (∑ k, v k * p k) - lam * ∑ k, v k * q k = ∑ k, v k * (p k - lam * q k) := by
  choose v' hv using hv
  choose p' hp using hp
  choose q' hq using hq
  obtain ⟨l, rfl⟩ := hl
  simp only [hv, hp, hq, ← EReal.coe_mul, ← EReal.coe_sub, ← Softmax.coe_sum]
  refine congrArg _ ?_
  rw [Finset.mul_sum, ← Finset.sum_sub_distrib]
  exact Finset.sum_congr rfl fun k _ => by ring

/-- An extended real whose absolute value is less than +∞ is a real. -/
theorem real_of_lt (x : EReal) (h : Ideal.cmp .olt (max x (-x)) (Ideal.ofBits FTy.f32 0x7F800000#32) = 1#1) : ∃ r : ℝ, x = (r : EReal) := by
  rw [show Ideal.ofBits FTy.f32 0x7F800000#32 = (⊤ : EReal) from by simp [Ideal.ofBits, Ideal.ieee]] at h
  induction x using EReal.rec with
  | bot => simp [Ideal.cmp] at h
  | top => simp [Ideal.cmp] at h
  | coe r => exact ⟨r, rfl⟩

/-- The columns of the queries, keys and values are reals. -/
def Cols (p : FVec Ideal S4x4096x8960 .bf16) : Prop :=
  ∀ (b : Fin 4) (l : Fin 4096) (e : Fin 8960), 7168 ≤ e.val → e.val < 8704 → p (ix3 b l e) = ((EReal.toReal (p (ix3 b l e)) : ℝ) : EReal)

/-- Under the precondition the queries, keys and values, the biases and the factor's parameters are reals. -/
theorem reals (p : FVec Ideal S4x4096x8960 .bf16) (w : FVec Ideal S32x4 .f32) (lp : FVec Ideal S4x64 .f32) (g : FVec Ideal S128 .f32)
    (h : Cert.Pre_finite_diff.fn (F := Ideal) p w lp g = fun _ => 1#1) :
    Cols p ∧ (∀ i, w i = ((EReal.toReal (w i) : ℝ) : EReal)) ∧ ∀ i, ∃ r : ℝ, lp i = (r : EReal) := by
  have e := congrFun h (fun a => a.elim0)
  obtain ⟨e12, e3⟩ := IntOp.andi_eq_one.1 e
  obtain ⟨e1, e2⟩ := IntOp.andi_eq_one.1 e12
  haveI : Subsingleton Cert.Pre_finite_diff.S_.Idx := ⟨fun a b => funext fun x => x.elim0⟩
  refine ⟨fun b l c h1 h2 => ?_, fun i => ?_, fun i => real_of_lt _ (Host.reduce_andi_all _ _ _ _ _ e3 i)⟩
  · obtain ⟨r, hr⟩ := real_of_lt _ (Host.reduce_andi_all _ _ _ _ _ e1 (ix3 b l ⟨c.val - 7168, by omega⟩))
    have hc : p (ix3 b l c) = (r : EReal) := by
      rw [← hr]
      have ec : c = ⟨7168 + (c.val - 7168), by omega⟩ := Fin.ext (by dsimp only; omega)
      refine (congrArg (fun z => p (ix3 b l z)) ec).trans ?_
      pointwise []
    rw [hc]; rfl
  · obtain ⟨r, hr⟩ := real_of_lt _ (Host.reduce_andi_all _ _ _ _ _ e2 i)
    have hw : w i = (r : EReal) := hr
    rw [hw]; rfl

/-- The biases as the reference has them. -/
theorem ref_bias (w : FVec Ideal S32x4 .f32) (h : Fin 4) (l n : Fin 4096) :
    Cert.DiffRefIdeal.Point.BIAS w (Cert.DiffRefIdeal.Point.BUCK Cert.DiffRefIdeal.Point.REL) (ix3 h l n) = w (ix2 (Bucket.row (Bucket.bucket (BitVec.ofInt 32 ((n.val : ℤ) - l.val)))) h) := by
  rw [Cert.DiffRefIdeal.Point.bias_at, Cert.DiffRefIdeal.Point.buck_at, Cert.DiffRefIdeal.Point.rel_at]

/-- The reference's scores of its arguments. -/
abbrev S (p : FVec Ideal S4x4096x8960 .bf16) (w : FVec Ideal S32x4 .f32) : FVec Ideal Cert.DiffRefIdeal.S4x4x2x4096x4096 .f32 :=
  SC p (Cert.DiffRefIdeal.Point.BIAS w (Cert.DiffRefIdeal.Point.BUCK Cert.DiffRefIdeal.Point.REL))

/-- A score of reals. -/
def tt (p : FVec Ideal S4x4096x8960 .bf16) (w : FVec Ideal S32x4 .f32) (b h : Fin 4) (i : Fin 2) (l n : Fin 4096) : ℝ :=
  (∑ d : Fin 64, EReal.toReal (p (ix3 b l ⟨7168 + (h.val * 128 + i.val * 64 + d.val), by omega⟩)) * EReal.toReal (p (ix3 b n ⟨7680 + (h.val * 128 + i.val * 64 + d.val), by omega⟩))) * 8⁻¹
    + EReal.toReal (w (ix2 (Bucket.row (Bucket.bucket (BitVec.ofInt 32 ((n.val : ℤ) - l.val)))) h))

theorem s_at (p : FVec Ideal S4x4096x8960 .bf16) (w : FVec Ideal S32x4 .f32) (hp : Cols p) (hw : ∀ i, w i = ((EReal.toReal (w i) : ℝ) : EReal)) (b h : Fin 4) (i : Fin 2) (l n : Fin 4096) :
    S p w (ix5 b h i l n) = (tt p w b h i l n : EReal) := by
  show SC p _ (ix5 b h i l n) = _
  rw [Cert.DiffRefIdeal.Point.sc_at, ref_bias, tt, EReal.coe_add, EReal.coe_mul, Softmax.coe_sum, ← hw]
  refine congrArg (· * _ + _) (Finset.sum_congr rfl fun d _ => ?_)
  rw [EReal.coe_mul, ← hp _ _ _ (by dsimp only; omega) (by dsimp only; omega), ← hp _ _ _ (by dsimp only; omega) (by dsimp only; omega)]

/-- The greatest score of every query is a real. -/
theorem top_real (p : FVec Ideal S4x4096x8960 .bf16) (w : FVec Ideal S32x4 .f32) (hp : Cols p) (hw : ∀ i, w i = ((EReal.toReal (w i) : ℝ) : EReal)) (b h : Fin 4) (i : Fin 2) (l : Fin 4096) :
    ∃ T : ℝ, MX (S p w) (ix4 b h i l) = (T : EReal) := by
  refine Cert.DiffRefIdeal.Point.mx_real _ (fun x => ?_) _
  obtain ⟨b, h, i, l, n, rfl⟩ : ∃ (b h : Fin 4) (i : Fin 2) (l n : Fin 4096), x = ix5 b h i l n :=
    ⟨x 0, x 1, x 2, x 3, x 4, funext fun a => by fin_cases a <;> rfl⟩
  exact ⟨_, s_at p w hp hw b h i l n⟩

/-- A weight of the reference. -/
theorem p_at (p : FVec Ideal S4x4096x8960 .bf16) (w : FVec Ideal S32x4 .f32) (hp : Cols p) (hw : ∀ i, w i = ((EReal.toReal (w i) : ℝ) : EReal)) (b h : Fin 4) (i : Fin 2) (l n : Fin 4096)
    (T : ℝ) (hT : MX (S p w) (ix4 b h i l) = (T : EReal)) :
    PR (EX (S p w)) (ix5 b h i l n) = Ideal.div (Ideal.exp ((tt p w b h i l n : EReal) - T)) (0 + ∑ n', Ideal.exp ((tt p w b h i l n' : EReal) - T)) := by
  rw [Cert.DiffRefIdeal.Point.pr_at]
  have e : ∀ n', EX (S p w) (ix5 b h i l n') = Ideal.exp ((tt p w b h i l n' : EReal) - T) := fun n' => by
    rw [Cert.DiffRefIdeal.Point.ex_at, s_at p w hp hw, hT]
  rw [e]
  exact congrArg (fun z => Ideal.div _ (0 + z)) (Finset.sum_congr rfl fun n' _ => e n')

set_option maxHeartbeats 800000 in
/-- What one map leaves: the values weighted by the reference's softmax. -/
theorem map_at (c : Dev nD) (t : Fin cfg0.N) (p : FVec Ideal S4x4096x8960 .bf16) (w : FVec Ideal S32x4 .f32)
    (ep : p = m ((c : Thread nD τ).loc main_arg0)) (ew : w = m ((c : Thread nD τ).loc main_arg1))
    (hp : Cols p) (hw : ∀ i, w i = ((EReal.toReal (w i) : ℝ) : EReal))
    (b h : Fin 4) (l : Fin 4096) (r : Fin 512) (hb : b.val = t.val / 32) (hh : h.val = t.val / 8 % 4) (hl : l.val = 512 * (t.val % 8) + r.val)
    (i : Fin 2) (Q : FVec Ideal S512x64 .bf16) (K : Fin k0_t1_loop.trips → Vec Ideal S1x64x512 .bf16)
    (hQ : ∀ d : Fin 64, Q (ix2 r d) = (p (ix3 b l ⟨7168 + (h.val * 128 + i.val * 64 + d.val), by omega⟩) : EReal) * ((8⁻¹ * (Real.log 2)⁻¹ : ℝ) : EReal))
    (hK : ∀ (k : Fin 8) (d : Fin 64) (j : Fin 512), K (tr k) (ix3 0 d j) = p (ix3 b ⟨512 * k.val + j.val, by omega⟩ ⟨7680 + (h.val * 128 + i.val * 64 + d.val), by omega⟩))
    (d : Fin 128) :
    Ideal.div ((st Q (BB (grid0.coords t) (iblk m c 3 t)) K (VB (iblk m c 2 t)) 8).2.2 (ix3 0 r d)) ((st Q (BB (grid0.coords t) (iblk m c 3 t)) K (VB (iblk m c 2 t)) 8).2.1 (ix3 0 r d))
      = ∑ n : Fin 4096, (p (ix3 b n ⟨8192 + (h.val * 128 + d.val), by omega⟩) : EReal) * PR (EX (S p w)) (ix5 b h i l n) := by
  have ht := lt128 t
  let e : Fin 8 × Fin 512 ≃ Fin 4096 := finProdFinEquiv
  let ss : Fin 8 → Fin 512 → ℝ := fun k j => tt p w b h i l (e (k, j)) * (Real.log 2)⁻¹
  have he : ∀ k j, e (k, j) = ⟨512 * k.val + j.val, by omega⟩ := fun k j => Fin.ext (Nat.add_comm j.val (512 * k.val))
  have ehh : h = ⟨t.val / 8 % 4, by omega⟩ := Fin.ext hh
  have ebb : b = ⟨t.val / 32, by omega⟩ := Fin.ext hb
  have hs : ∀ k j, k0_pay4 Q (BB (grid0.coords t) (iblk m c 3 t) (tr k)) (K (tr k)) (ix2 r j) = (ss k j : EReal) := by
    intro k j
    rw [score, bias_at, ← ew, ← ehh, ← hl]
    show _ = ((tt p w b h i l (e (k, j)) * (Real.log 2)⁻¹ : ℝ) : EReal)
    rw [he, tt, add_mul, EReal.coe_add, EReal.coe_mul (EReal.toReal _), ← hw, Finset.sum_mul, Finset.sum_mul, Softmax.coe_sum]
    refine congrArg (· + _) (Finset.sum_congr rfl fun x _ => ?_)
    rw [hQ, hK, hp b l ⟨7168 + (h.val * 128 + i.val * 64 + x.val), by omega⟩ (by dsimp only; omega) (by dsimp only; omega),
      hp b ⟨512 * k.val + j.val, by omega⟩ ⟨7680 + (h.val * 128 + i.val * 64 + x.val), by omega⟩ (by dsimp only; omega) (by dsimp only; omega),
      ← EReal.coe_mul, ← EReal.coe_mul]
    refine congrArg _ ?_
    simp only [EReal.toReal_coe]
    ring
  obtain ⟨T, hT⟩ := top_real p w hp hw b h i l
  obtain ⟨mx, -, hinv⟩ := inv Q (BB (grid0.coords t) (iblk m c 3 t)) K (VB (iblk m c 2 t)) r ss hs 8 le_rfl
  obtain ⟨M', hM', hone⟩ := (hinv d).1.last
  obtain ⟨M, hM, hacc⟩ := (hinv d).2.last
  have hMM : M' = M := EReal.coe_injective (hM'.symm.trans hM)
  rw [hMM] at hone
  have hlog : ∀ q : Fin 8 × Fin 512, ss q.1 q.2 * Real.log 2 = tt p w b h i l (e q) := fun q => by
    show tt p w b h i l (e (q.1, q.2)) * (Real.log 2)⁻¹ * Real.log 2 = _
    rw [mul_assoc, inv_mul_cancel₀ (Real.log_pos (by norm_num)).ne', mul_one]
  have hval : ∀ q : Fin 8 × Fin 512, (VB (iblk m c 2 t) (tr q.1) (ix3 0 q.2 d) : EReal) = p (ix3 b (e q) ⟨8192 + (h.val * 128 + d.val), by omega⟩) := fun q => by
    rw [vb_at, v_at, ← he q.1 q.2, ← ep, ← ebb]
    exact congrArg (fun z => p (ix3 b (e q) z)) (Fin.ext (by dsimp only; omega))
  have R := Softmax.ratio e (fun q => ss q.1 q.2) (tt p w b h i l) hlog M T (fun q => VB (iblk m c 2 t) (tr q.1) (ix3 0 q.2 d))
    (fun n => p (ix3 b n ⟨8192 + (h.val * 128 + d.val), by omega⟩)) hval
  rw [hacc, hone]
  exact R.trans (Finset.sum_congr rfl fun n _ => congrArg (_ * ·) (p_at p w hp hw b h i l n T hT).symm)

set_option maxHeartbeats 800000 in
/-- The difference of the two maps' averages is the reference's sum weighted by the difference of the maps. -/
theorem maps_at (c : Dev nD) (t : Fin cfg0.N) (p : FVec Ideal S4x4096x8960 .bf16) (w : FVec Ideal S32x4 .f32) (lam : FVec Ideal Cert.DiffRefIdeal.S_ .f32)
    (ep : p = m ((c : Thread nD τ).loc main_arg0)) (ew : w = m ((c : Thread nD τ).loc main_arg1))
    (hp : Cols p) (hw : ∀ i, w i = ((EReal.toReal (w i) : ℝ) : EReal)) (hlam : ∃ x : ℝ, lam ix0 = (x : EReal))
    (b h : Fin 4) (l : Fin 4096) (r : Fin 512) (hb : b.val = t.val / 32) (hh : h.val = t.val / 8 % 4) (hl : l.val = 512 * (t.val % 8) + r.val) (e : Fin 128) :
    OUT p lam (PR (EX (S p w))) (ix4 b l h e)
      = Ideal.div ((fin0 m c t).2.2 (ix3 0 r e)) ((fin0 m c t).2.1 (ix3 0 r e)) - lam ix0 * Ideal.div ((fin1 m c t).2.2 (ix3 0 r e)) ((fin1 m c t).2.1 (ix3 0 r e)) := by
  have ht := lt128 t
  have ehh : h = ⟨t.val / 8 % 4, by omega⟩ := Fin.ext hh
  have ebb : b = ⟨t.val / 32, by omega⟩ := Fin.ext hb
  have ell : l = ⟨512 * (t.val % 8) + r.val, by omega⟩ := Fin.ext hl
  have h0 := map_at m c t p w ep ew hp hw b h l r hb hh hl 0 (k0_pay21 (iblk m c 0 t)) (KB0 (iblk m c 1 t))
    (fun x => by
      rw [q0_at, q_at, ← ep, ← ebb, ← ell]
      exact congrArg (fun z => (p (ix3 b l z) : EReal) * _) (Fin.ext (by dsimp only; omega)))
    (fun k x j => by
      rw [kb0_at, k_at, ← ep, ← ebb]
      exact congrArg (fun z => p (ix3 b _ z)) (Fin.ext (by dsimp only; omega)))
  have h1 := map_at m c t p w ep ew hp hw b h l r hb hh hl 1 (k0_pay22 (iblk m c 0 t)) (KB1 (iblk m c 1 t))
    (fun x => by
      rw [q1_at, q_at, ← ep, ← ebb, ← ell]
      exact congrArg (fun z => (p (ix3 b l z) : EReal) * _) (Fin.ext (by dsimp only; omega)))
    (fun k x j => by
      rw [kb1_at, k_at, ← ep, ← ebb]
      exact congrArg (fun z => p (ix3 b _ z)) (Fin.ext (by dsimp only; omega)))
  have hreal : ∀ i n, ∃ x : ℝ, PR (EX (S p w)) (ix5 b h i l n) = (x : EReal) := fun i n => by
    obtain ⟨T, hT⟩ := top_real p w hp hw b h i l
    rw [p_at p w hp hw b h i l n T hT]
    exact weight_real (tt p w b h i l) T n
  unfold fin0 fin1
  rw [h0 e, h1 e, Cert.DiffRefIdeal.Point.out_at]
  exact (diff_sum _ _ _ _ (fun n => ⟨_, hp b n _ (by dsimp only; omega) (by dsimp only; omega)⟩) (hreal 0) (hreal 1) hlam).symm

/-- One entry of the block that the body writes at point `t` is the reference's. -/
theorem block_at (c : Dev nD) (t : Fin cfg0.N) (p : FVec Ideal S4x4096x8960 .bf16) (w : FVec Ideal S32x4 .f32) (lp : FVec Ideal S4x64 .f32) (g : FVec Ideal S128 .f32)
    (ep : p = m ((c : Thread nD τ).loc main_arg0)) (ew : w = m ((c : Thread nD τ).loc main_arg1)) (el : lp = m ((c : Thread nD τ).loc main_arg2)) (eg : g = m ((c : Thread nD τ).loc main_arg3))
    (hp : Cols p) (hw : ∀ i, w i = ((EReal.toReal (w i) : ℝ) : EReal)) (hlp : ∀ i, ∃ r : ℝ, lp i = (r : EReal))
    (b h : Fin 4) (l : Fin 4096) (r : Fin 512) (hb : b.val = t.val / 32) (hh : h.val = t.val / 8 % 4) (hl : l.val = 512 * (t.val % 8) + r.val) (d : Fin 128) :
    (outsAt0 m c t : FVec Ideal S1x512x128 .bf16) (ix3 0 r d) = REF 0x3E4CCCCD#32 0x3F4CCCCD#32 p w lp g (ix3 b l ⟨h.val * 128 + d.val, by omega⟩) := by
  have hL : k0_pay28 (iblk m c 4 t) (ix2 0 0) = LAM 0x3E4CCCCD#32 lp ix0 := by
    rw [lam28, Cert.DiffRefIdeal.Point.lam_at]
    simp only [Cert.DiffIdeal.Value.lam_at, el]
  have ho := maps_at m c t p w (LAM 0x3E4CCCCD#32 lp) ep ew hp hw (Cert.DiffRefIdeal.Point.lam_real _ Cert.DiffRefIdeal.Point.init_real lp hlp) b h l r hb hh hl
  rw [← hL] at ho
  rw [block, out _ _ _ _ _ _ _ r ho d, g_at, ← eg]
  show _ = NORM _ _ g (ix3 b l ⟨h.val * 128 + d.val, by omega⟩)
  rw [Cert.DiffRefIdeal.Point.norm_at, zero_add]

/-- The result array after the run is the reference's term of the arguments, where they are finite. -/
theorem final (c : Dev nD) (hpre : Cert.Pre_finite_diff.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 6 (cfgs 0).N
    = REF 0x3E4CCCCD#32 0x3F4CCCCD#32 (m ((c : Thread nD τ).loc main_arg0)) (m ((c : Thread nD τ).loc main_arg1)) (m ((c : Thread nD τ).loc main_arg2)) (m ((c : Thread nD τ).loc main_arg3)) := by
  obtain ⟨hp, hw, hlp⟩ := reals _ _ _ _ hpre
  refine (dats m 0 c).arrAt_eq_of_covers 6 _ (by decide +kernel) fun t hf y => ?_
  blk_simp
  rw [after0_6]
  have ht := lt128 t
  have ey : (y : S1x512x128.Idx) = ix3 0 (y 1) (y 2) := by
    funext a
    fin_cases a
    · exact Subsingleton.elim (α := Fin 1) _ _
    · rfl
    · rfl
  have y1 : (y 1).val < 512 := (y 1).isLt
  refine (congrArg (outsAt0 m c t) ey).trans ((block_at m c t _ _ _ _ rfl rfl rfl rfl hp hw hlp ⟨t.val / 32, by omega⟩ ⟨t.val / 8 % 4, by omega⟩ ⟨512 * (t.val % 8) + (y 1).val, by omega⟩ (y 1) rfl rfl rfl (y 2)).trans ?_)
  blk_ext [idx_val t]

end Cert.DiffIdeal.Value

end
-- ==== Proof.Diff2.Value.lean ====
/- The second layer's differential attention. Its program differs from the first layer's in two constants only, so the loop over the key blocks, what the
   blocks hold and the two maps' averages are taken from there. -/
module

public import proofs.«01_k».proof.Proof.Diff.Value
public import proofs.«01_k».proof.Proof.Gen.Diff2Ideal.Value

@[expose] public section

set_option maxRecDepth 16384

noncomputable section

open Idealize.ShloMosaic Idealize.ShloMosaic.TcCoe Idealize.SL.Sem
open Idealize.ShloMosaic.Pipeline (Dat)
open scoped BigOperators

namespace Cert.Diff2Ideal.Value

open Cert.Diff2Ideal Cert.Diff2Ideal.Gen
open Cert.DiffRefIdeal.Point (PR EX LAM OUT NORM REF)

variable (m : (ℓ : Loc nD τ sig) → Buf (Elt Ideal) ℓ)
/-- The second layer's memory as one of the first layer's program, whose arrays are the same. -/
abbrev M1 (m : (ℓ : Loc nD τ sig) → Buf (Elt Ideal) ℓ) : (ℓ : Loc Cert.DiffIdeal.nD Cert.DiffIdeal.τ Cert.DiffIdeal.sig) → Buf (Elt Ideal) ℓ := m

open Cert.DiffIdeal.Value (fin0 fin1 sums State hz2 hz3 Cols reals maps_at)

section
variable (c : Dev nD) (i : grid0.Coords) (arg3 : Memref sig .tc .vmem S1x512x128 .bf16) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x5x512x512 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x128 .f32) (harg10 : arg10.IsWhole) (arg11 : Memref sig .tc .vmem S2x512x256 .f32) (harg11 : arg11.IsWhole) (arg2 : BitVec 32) (v0 : Vec Ideal S1x512x128 .bf16)
    (X4 : BufTy.Contents (Elt Ideal) arg4.view.ty) (X5 : BufTy.Contents (Elt Ideal) arg5.view.ty) (X6 : BufTy.Contents (Elt Ideal) arg6.view.ty)

/-- A trip stores the same in both layers. -/
theorem trip_eq (k : Fin k0_t1_loop.trips) (f10 : BufTy.Contents (Elt Ideal) arg10.view.ty) (f11 : BufTy.Contents (Elt Ideal) arg11.view.ty) :
    tripL_k0_t1 (F := Ideal) Variants.none c none i arg3 harg3 arg4 harg4 arg5 harg5 arg6 harg6 arg7 harg7 arg8 harg8 arg9 harg9 arg10 harg10 arg11 harg11 arg2 v0 X4 X5 X6 k f10 f11 = Cert.DiffIdeal.Gen.tripL_k0_t1 (F := Ideal) Variants.none c none i arg3 harg3 arg4 harg4 arg5 harg5 arg6 harg6 arg7 harg7 arg8 harg8 arg9 harg9 arg10 harg10 arg11 harg11 arg2 v0 X4 X5 X6 k f10 f11 := by
  unfold tripL_k0_t1 Cert.DiffIdeal.Gen.tripL_k0_t1 trip_k0_t1 Cert.DiffIdeal.Gen.trip_k0_t1
  dsimp only
  rfl

/-- So do all trips before the `n`th. -/
theorem pb_eq (G10 : BufTy.Contents (Elt Ideal) arg10.view.ty) (G11 : BufTy.Contents (Elt Ideal) arg11.view.ty) (n : ℕ) (hn : n ≤ k0_t1_loop.trips) :
    pb_k0_t1 (F := Ideal) Variants.none c none i arg3 harg3 arg4 harg4 arg5 harg5 arg6 harg6 arg7 harg7 arg8 harg8 arg9 harg9 arg10 harg10 arg11 harg11 arg2 v0 X4 X5 X6 G10 G11 n = Cert.DiffIdeal.Gen.pb_k0_t1 (F := Ideal) Variants.none c none i arg3 harg3 arg4 harg4 arg5 harg5 arg6 harg6 arg7 harg7 arg8 harg8 arg9 harg9 arg10 harg10 arg11 harg11 arg2 v0 X4 X5 X6 G10 G11 n := by
  induction n with
  | zero => rfl
  | succ n ih =>
    have e := pb_k0_t1_succ (F := Ideal) Variants.none c none i arg3 harg3 arg4 harg4 arg5 harg5 arg6 harg6 arg7 harg7 arg8 harg8 arg9 harg9 arg10 harg10 arg11 harg11 arg2 v0 X4 X5 X6 G10 G11 ⟨n, hn⟩
    have e' := Cert.DiffIdeal.Gen.pb_k0_t1_succ (F := Ideal) Variants.none c none i arg3 harg3 arg4 harg4 arg5 harg5 arg6 harg6 arg7 harg7 arg8 harg8 arg9 harg9 arg10 harg10 arg11 harg11 arg2 v0 X4 X5 X6 G10 G11 ⟨n, hn⟩
    rw [ih (Nat.le_of_succ_le hn), trip_eq] at e
    exact e.trans e'.symm

end

theorem pay1_congr {L L' : FVec Ideal S1x1 .f32} {a a' b b' d d' e e' : Vec Ideal S1x512x128 .f32} {g g' : Vec Ideal S1x128 .f32} (hL : L = L') (ha : a = a') (hb : b = b') (hd : d = d') (he : e = e') (hg : g = g') :
    k0_pay1 L a b d e g = k0_pay1 L' a' b' d' e' g' := by
  subst hL ha hb hd he hg; rfl

/-- The block the body writes at point `t`: the last step applied to the sums after the eight trips. -/
theorem block (c : Dev nD) (t : Fin cfg0.N) :
    outsAt0 m c t = k0_pay1 (k0_pay28 (iblk m c 4 t)) (fin0 (M1 m) c t).2.2 (fin0 (M1 m) c t).2.1 (fin1 (M1 m) c t).2.2 (fin1 (M1 m) c t).2.1 (iblk m c 5 t) := by
  unfold outsAt0
  unfold out0_A_6
  rw [View.read_writes_eq_canon _ _ _ (cover0_A_6 _ _ _ _ _ _ _ _ _ _ _ _ _ _ _ _ _ _ _ _ _ _ _ _ _ _)]
  unfold kernelRun0_A
  dsimp only
  sl_unfold_words
  rw [View.canon_unit_zero (S := S1x512x128) (funext fun a => by fin_cases a <;> rfl)]
  unfold View.readCov
  simp only [View.readAt_eq_ld, View.writes_append]
  rw [View.ld_unit_zero (S := S1x512x128) hz3, View.ld_unit_zero (S := S4x64) hz2, View.ld_unit_zero (S := S1x128) hz2, (hs0_4 t).read_unread, (hs0_5 t).read_unread, (hs0_0 t).read_unread]
  have e := sums (M1 m) c t
  rw [pb_eq _ _ _ _ _ _ _ _ _ _ _ _ _ _ _ _ _ _ _ _ _ _ _ _ _ _ _ _ (by decide +kernel)]
  exact pay1_congr rfl (congrArg (fun s : State => s.2.2) e.1) (congrArg (fun s : State => s.2.1) e.1) (congrArg (fun s : State => s.2.2) e.2) (congrArg (fun s : State => s.2.1) e.2) rfl

/-- The kernel's factor of the second map. -/
theorem lam28 (x : Vec Ideal S4x64 .f32) : k0_pay28 x (ix2 0 0) = Ideal.exp (∑ d : Fin 64, (x (ix2 0 d) : EReal) * x (ix2 1 d)) - Ideal.exp (∑ d : Fin 64, (x (ix2 2 d) : EReal) * x (ix2 3 d)) + Ideal.ofBits FTy.f32 0x3EB60549#32 := by
  pointwise [k0_pay28]

/-- What the body writes of the two maps' sums: the difference of the averages, over its root mean square, with the gain. -/
theorem out (L : FVec Ideal S1x1 .f32) (n0 d0 n1 d1 : Vec Ideal S1x512x128 .f32) (g : Vec Ideal S1x128 .f32) (o : Fin 128 → EReal) (r : Fin 512)
    (ho : ∀ e, o e = Ideal.div (n0 (ix3 0 r e)) (d0 (ix3 0 r e)) - L (ix2 0 0) * Ideal.div (n1 (ix3 0 r e)) (d1 (ix3 0 r e))) (d : Fin 128) :
    k0_pay1 L n0 d0 n1 d1 g (ix3 0 r d) = o d * Ideal.rsqrt (Ideal.div (∑ e : Fin 128, o e * o e) (Ideal.ofBits FTy.f32 0x43000000#32) + Ideal.ofBits FTy.f32 0x358637BD#32) * g (ix2 0 d) * Ideal.ofBits FTy.f32 0x3F24FD5C#32 := by
  simp only [ho]
  pointwise [k0_pay1]

theorem lam_blk (c : Dev nD) (t : Fin cfg0.N) (p : Fin 4) (d : Fin 64) :
    (iblk m c 4 t : FVec Ideal S4x64 .f32) (ix2 p d) = m ((c : Thread nD τ).loc main_arg2) (ix2 p d) := Cert.DiffIdeal.Value.lam_at (M1 m) c t p d

theorem g_blk (c : Dev nD) (t : Fin cfg0.N) (d : Fin 128) :
    (iblk m c 5 t : FVec Ideal S1x128 .f32) (ix2 0 d) = m ((c : Thread nD τ).loc main_arg3) (ix1 d) := Cert.DiffIdeal.Value.g_at (M1 m) c t d

/-- One entry of the block that the body writes at point `t` is the reference's. -/
theorem block_at (c : Dev nD) (t : Fin cfg0.N) (p : FVec Ideal S4x4096x8960 .bf16) (w : FVec Ideal S32x4 .f32) (lp : FVec Ideal S4x64 .f32) (g : FVec Ideal S128 .f32)
    (ep : p = m ((c : Thread nD τ).loc main_arg0)) (ew : w = m ((c : Thread nD τ).loc main_arg1)) (el : lp = m ((c : Thread nD τ).loc main_arg2)) (eg : g = m ((c : Thread nD τ).loc main_arg3))
    (hp : Cols p) (hw : ∀ i, w i = ((EReal.toReal (w i) : ℝ) : EReal)) (hlp : ∀ i, ∃ r : ℝ, lp i = (r : EReal))
    (b h : Fin 4) (l : Fin 4096) (r : Fin 512) (hb : b.val = t.val / 32) (hh : h.val = t.val / 8 % 4) (hl : l.val = 512 * (t.val % 8) + r.val) (d : Fin 128) :
    (outsAt0 m c t : FVec Ideal S1x512x128 .bf16) (ix3 0 r d) = REF 0x3EB60549#32 0x3F24FD5C#32 p w lp g (ix3 b l ⟨h.val * 128 + d.val, by omega⟩) := by
  have hL : k0_pay28 (iblk m c 4 t) (ix2 0 0) = LAM 0x3EB60549#32 lp ix0 := by
    rw [lam28, Cert.DiffRefIdeal.Point.lam_at]
    simp only [lam_blk, el]
  have ho := maps_at (M1 m) c t p w (LAM 0x3EB60549#32 lp) ep ew hp hw (Cert.DiffRefIdeal.Point.lam_real _ Cert.DiffRefIdeal.Point.init2_real lp hlp) b h l r hb hh hl
  rw [← hL] at ho
  rw [block, out _ _ _ _ _ _ _ r ho d, g_blk, ← eg]
  show _ = NORM _ _ g (ix3 b l ⟨h.val * 128 + d.val, by omega⟩)
  rw [Cert.DiffRefIdeal.Point.norm_at, zero_add]

theorem idx_eq (t : Fin cfg0.N) : win0_6.index t = ![t.val / 32, t.val % 8, t.val / 8 % 4] := (Cert.DiffIdeal.Value.idx_val t).2.2.2.2.2.2

/-- The result array after the run is the reference's term of the arguments, where they are finite. -/
theorem final (c : Dev nD) (hpre : Cert.Pre_finite_diff.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 6 (cfgs 0).N
    = REF 0x3EB60549#32 0x3F24FD5C#32 (m ((c : Thread nD τ).loc main_arg0)) (m ((c : Thread nD τ).loc main_arg1)) (m ((c : Thread nD τ).loc main_arg2)) (m ((c : Thread nD τ).loc main_arg3)) := by
  obtain ⟨hp, hw, hlp⟩ := reals _ _ _ _ hpre
  refine (dats m 0 c).arrAt_eq_of_covers 6 _ (by decide +kernel) fun t hf y => ?_
  blk_simp
  rw [after0_6]
  have ht := Cert.DiffIdeal.Value.lt128 t
  have ey : (y : S1x512x128.Idx) = ix3 0 (y 1) (y 2) := by
    funext a
    fin_cases a
    · exact Subsingleton.elim (α := Fin 1) _ _
    · rfl
    · rfl
  have y1 : (y 1).val < 512 := (y 1).isLt
  refine (congrArg (outsAt0 m c t) ey).trans ((block_at m c t _ _ _ _ rfl rfl rfl rfl hp hw hlp ⟨t.val / 32, by omega⟩ ⟨t.val / 8 % 4, by omega⟩ ⟨512 * (t.val % 8) + (y 1).val, by omega⟩ (y 1) rfl rfl rfl (y 2)).trans ?_)
  blk_ext [idx_eq t]

end Cert.Diff2Ideal.Value

end
-- ==== Proof.lean ====
module

public import proofs.«01_k».proof.Defs
public import proofs.«01_k».proof.Proof.Gen.Gqa.Frame
public import proofs.«01_k».proof.Proof.Gen.GqaIdeal.Frame
public import proofs.«01_k».proof.Proof.Gen.GqaRefIdeal.Run
public import proofs.«01_k».proof.Proof.Gen.Pre_finite_qk
public import proofs.«01_k».proof.Proof.Gqa.Value
public import proofs.«01_k».proof.Proof.Gen.Proj.Frame
public import proofs.«01_k».proof.Proof.Gen.ProjIdeal.Frame
public import proofs.«01_k».proof.Proof.Gen.ProjRefIdeal.Run
public import proofs.«01_k».proof.Proof.Proj.Printed
public import proofs.«01_k».proof.Proof.Proj.Value
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Up.Value
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Merge.Value
public import proofs.«01_k».proof.Proof.Gen.Ffn.Frame
public import proofs.«01_k».proof.Proof.Gen.FfnIdeal.Frame
public import proofs.«01_k».proof.Proof.Gen.GqaIdeal.Value
public import proofs.«01_k».proof.Proof.Gen.FfnIdeal.Value
public import proofs.«01_k».proof.Proof.Gen.FfnRefIdeal.Run
public import proofs.«01_k».proof.Proof.Ffn.Value
public import proofs.«01_k».proof.Proof.Gen.Ffn1.Frame
public import proofs.«01_k».proof.Proof.Gen.Ffn1Ideal.Frame
public import proofs.«01_k».proof.Proof.Gen.Ffn1Ideal.Value
public import proofs.«01_k».proof.Proof.Gen.Ffn1RefIdeal.Run
public import proofs.«01_k».proof.Proof.Ffn1.Value
public import proofs.«01_k».proof.Proof.Gen.Diff.Frame
public import proofs.«01_k».proof.Proof.Gen.DiffIdeal.Frame
public import proofs.«01_k».proof.Proof.Gen.DiffIdeal.Value
public import proofs.«01_k».proof.Proof.Gen.DiffRefIdeal.Run
public import proofs.«01_k».proof.Proof.Gen.Pre_finite_diff
public import proofs.«01_k».proof.Proof.Diff.Value
public import proofs.«01_k».proof.Proof.Gen.Diff2.Frame
public import proofs.«01_k».proof.Proof.Gen.Diff2Ideal.Frame
public import proofs.«01_k».proof.Proof.Gen.Diff2Ideal.Value
public import proofs.«01_k».proof.Proof.Gen.Diff2RefIdeal.Run
public import proofs.«01_k».proof.Proof.Diff2.Value
public import Idealize.ShloMosaic.Lib.Pipeline.ValueKit
public import Idealize.ShloMosaic.Lib.StableHlo.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference of `Gqa` runs to its end and leaves its arguments as they were. -/
theorem frame_GqaRef : Cert.quiescent_GqaRefIdeal := fun m ρ _ =>
  (θ_run Cert.GqaRefIdeal.defs _ _).mono (fun r h => ⟨fun c => (h c).2,
      Idealize.ShloMosaic.sem_eq_zero_of_no_sems (by decide) r.2⟩)
    (Cert.GqaRefIdeal.Value.run (F := Ideal) m ρ)

/-- Over the extended reals the attention's kernel and its reference leave the same result of the same arguments, the
    queries and keys being finite. -/
theorem value_Gqa : Cert.algebraic_GqaIdeal_GqaRefIdeal_pre_finite_qk := by
  pair_intro
  · run_from Cert.GqaIdeal.Gen.run_main m g
    · exact Cert.GqaIdeal.Gen.V_main_arg1 m c
    · exact Cert.GqaIdeal.Gen.V_main_arg2 m c
  · run_from Cert.GqaRefIdeal.Value.run m' g'
    exact (Cert.GqaIdeal.Value.final m c (hpre c)).symm

/-- The reference of `Up` runs to its end and leaves its arguments as they were. -/
theorem frame_UpRef : Cert.quiescent_UpRefIdeal := fun m ρ _ =>
  (θ_run Cert.UpRefIdeal.defs _ _).mono (fun r h => ⟨fun c => (h c).2,
      Idealize.ShloMosaic.sem_eq_zero_of_no_sems (by decide) r.2⟩)
    (Cert.UpRefIdeal.Value.run (F := Ideal) m ρ)

/-- Over the extended reals `Up`'s kernel and its reference leave the same result of the same arguments. -/
theorem value_Up : Cert.algebraic_UpIdeal_UpRefIdeal := by
  pair_intro
  · run_from Cert.UpIdeal.Gen.run_main m g
  · run_from Cert.UpRefIdeal.Value.run m' g'
    exact (Cert.UpIdeal.Value.final m c).symm

/-- The reference of `Proj` runs to its end and leaves its arguments as they were. -/
theorem frame_ProjRef : Cert.quiescent_ProjRefIdeal := fun m ρ _ =>
  (θ_run Cert.ProjRefIdeal.defs _ _).mono (fun r h => ⟨fun c => (h c).2.2,
      Idealize.ShloMosaic.sem_eq_zero_of_no_sems (by decide) r.2⟩)
    (Cert.ProjRefIdeal.Value.run (F := Ideal) m ρ)

/-- Over the extended reals `Proj`'s kernel and its reference leave the same two results of the same arguments. -/
theorem value_Proj : Cert.algebraic_ProjIdeal_ProjRefIdeal := by
  pair_intro
  · run_from Cert.ProjIdeal.Region.run_main m g
    all_goals first
      | exact Cert.ProjIdeal.Gen.V_main_arg0 m c
      | exact Cert.ProjIdeal.Gen.V_main_arg1 m c
      | exact Cert.ProjIdeal.Gen.V_main_arg2 m c
  · run_from Cert.ProjRefIdeal.Value.run m' g'
    · rw [Cert.ProjIdeal.Value.final4 m c]
      unfold Cert.ProjIdeal.Value.full
      obtain ⟨h0, h1, h2⟩ := hagree c
      rw [← h0, ← h1, ← h2]
      rfl
    · exact (Cert.ProjIdeal.Value.final5 m c).symm

/-- The reference of `Merge` runs to its end and leaves its arguments as they were. -/
theorem frame_MergeRef : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- Over the extended reals `Merge`'s kernel and its reference leave the same result of the same arguments. -/
theorem value_Merge : Cert.algebraic_MergeIdeal_MergeRefIdeal := by
  pair_intro
  · run_from Cert.MergeIdeal.Gen.run_main m g
  · run_from Cert.MergeRefIdeal.Value.run m' g'
    exact (Cert.MergeIdeal.Value.final m c).symm

/-- The reference of `Ffn` runs to its end and leaves its arguments as they were. -/
theorem frame_FfnRef : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- Over the extended reals `Ffn`'s kernel and its reference leave the same result of the same arguments. -/
theorem value_Ffn : Cert.algebraic_FfnIdeal_FfnRefIdeal := by
  pair_intro
  · run_from Cert.FfnIdeal.Gen.run_main m g
  · run_from Cert.FfnRefIdeal.Value.run m' g'
    rw [Cert.FfnIdeal.Value.final m c]
    obtain ⟨h0, h1, h2, h3, h4, h5⟩ := hagree c
    rw [← h0, ← h1, ← h2, ← h3, ← h4, ← h5]
    rfl

/-- The reference of `Diff` runs to its end and leaves its arguments as they were. -/
theorem frame_DiffRef : Cert.quiescent_DiffRefIdeal := fun m ρ _ =>
  (θ_run Cert.DiffRefIdeal.defs _ _).mono (fun r h => ⟨fun c => (h c).2,
      Idealize.ShloMosaic.sem_eq_zero_of_no_sems (by decide) r.2⟩)
    (Cert.DiffRefIdeal.Value.run (F := Ideal) m ρ)

/-- Over the extended reals the differential attention's kernel and its reference leave the same result of the same
    arguments, the queries, keys, values, biases and the factor's parameters being finite. -/
theorem value_Diff : Cert.algebraic_DiffIdeal_DiffRefIdeal_pre_finite_diff := by
  pair_intro
  · run_from Cert.DiffIdeal.Gen.run_main m g
    · exact Cert.DiffIdeal.Gen.V_main_arg1 m c
    · exact Cert.DiffIdeal.Gen.V_main_arg3 m c
  · run_from Cert.DiffRefIdeal.Value.run m' g'
    rw [Cert.DiffIdeal.Value.final m c (hpre c)]
    obtain ⟨h0, h1, h2, h3⟩ := hagree c
    rw [← h0, ← h1, ← h2, ← h3]
    rfl

/-- The reference of `Diff2` runs to its end and leaves its arguments as they were. -/
theorem frame_Diff2Ref : Cert.quiescent_Diff2RefIdeal := fun m ρ _ =>
  (θ_run Cert.Diff2RefIdeal.defs _ _).mono (fun r h => ⟨fun c => (h c).2,
      Idealize.ShloMosaic.sem_eq_zero_of_no_sems (by decide) r.2⟩)
    (Cert.Diff2RefIdeal.Value.run (F := Ideal) m ρ)

/-- Over the extended reals the second layer's differential attention's kernel and its reference leave the same result of the same
    arguments, the queries, keys, values, biases and the factor's parameters being finite. -/
theorem value_Diff2 : Cert.algebraic_Diff2Ideal_Diff2RefIdeal_pre_finite_diff := by
  pair_intro
  · run_from Cert.Diff2Ideal.Gen.run_main m g
    · exact Cert.Diff2Ideal.Gen.V_main_arg1 m c
    · exact Cert.Diff2Ideal.Gen.V_main_arg3 m c
  · run_from Cert.Diff2RefIdeal.Value.run m' g'
    rw [Cert.Diff2Ideal.Value.final m c (hpre c)]
    obtain ⟨h0, h1, h2, h3⟩ := hagree c
    rw [← h0, ← h1, ← h2, ← h3]
    rfl

/-- The scale of the queries is named 1/(8·log 2). -/
theorem named_Gqa : Cert.preserves_Gqa_GqaIdeal :=
  IdealRules.named_const.statement Cert.GqaIdeal.κ "q_scale" .f32 0x3E38AA3B#32 ((8⁻¹ * (Real.log 2)⁻¹ : ℝ) : EReal) rfl

/-- The scale of the queries is named 1/(8·log 2), the factor of the biases 1/log 2. -/
theorem named_Diff : Cert.preserves_Diff_DiffIdeal :=
  ⟨IdealRules.named_const.statement Cert.DiffIdeal.κ "q_scale" .f32 0x3E38AA3B#32 ((8⁻¹ * (Real.log 2)⁻¹ : ℝ) : EReal) rfl,
   IdealRules.named_const.statement Cert.DiffIdeal.κ "log2e" .f32 0x3FB8AA3B#32 (((Real.log 2)⁻¹ : ℝ) : EReal) rfl⟩

/-- The scale of the queries is named 1/(8·log 2) there too, the factor of the biases 1/log 2. -/
theorem named_Diff2 : Cert.preserves_Diff2_Diff2Ideal :=
  ⟨IdealRules.named_const.statement Cert.Diff2Ideal.κ "q_scale" .f32 0x3E38AA3B#32 ((8⁻¹ * (Real.log 2)⁻¹ : ℝ) : EReal) rfl,
   IdealRules.named_const.statement Cert.Diff2Ideal.κ "log2e" .f32 0x3FB8AA3B#32 (((Real.log 2)⁻¹ : ℝ) : EReal) rfl⟩

/-- The reference of `Ffn1` runs to its end and leaves its arguments as they were. -/
theorem frame_Ffn1Ref : Cert.quiescent_Ffn1RefIdeal := fun m ρ _ =>
  (θ_run Cert.Ffn1RefIdeal.defs _ _).mono (fun r h => ⟨fun c => (h c).2,
      Idealize.ShloMosaic.sem_eq_zero_of_no_sems (by decide) r.2⟩)
    (Cert.Ffn1RefIdeal.Value.run (F := Ideal) m ρ)

/-- Over the extended reals `Ffn1`'s kernel and its reference leave the same result of the same arguments. -/
theorem value_Ffn1 : Cert.algebraic_Ffn1Ideal_Ffn1RefIdeal := by
  pair_intro
  · run_from Cert.Ffn1Ideal.Gen.run_main m g
  · run_from Cert.Ffn1RefIdeal.Value.run m' g'
    rw [Cert.Ffn1Ideal.Value.final m c]
    obtain ⟨h0, h1, h2, h3, h4, -⟩ := hagree c
    rw [← h0, ← h1, ← h2, ← h3, ← h4]
    rfl

/-- Everything the certificate claims. -/
theorem claim : Cert.Claim := ⟨Cert.Gqa.Gen.facts, Cert.GqaIdeal.Gen.facts, Cert.GqaRefIdeal.Gen.facts, Cert.Up.Gen.facts, Cert.UpIdeal.Gen.facts, Cert.UpRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Ffn.Gen.facts, Cert.FfnIdeal.Gen.facts, Cert.FfnRefIdeal.Gen.facts, Cert.Diff.Gen.facts, Cert.DiffIdeal.Gen.facts, Cert.DiffRefIdeal.Gen.facts, Cert.Diff2.Gen.facts, Cert.Diff2Ideal.Gen.facts, Cert.Diff2RefIdeal.Gen.facts, Cert.Ffn1.Gen.facts, Cert.Ffn1Ideal.Gen.facts, Cert.Ffn1RefIdeal.Gen.facts, Cert.Pre_finite_qk.Gen.facts, Cert.Pre_finite_diff.Gen.facts,
  fun m ρ _ => Cert.Gqa.Gen.frame m ρ,
  fun m ρ _ => Cert.GqaIdeal.Gen.frame m ρ,
  fun m ρ _ => Cert.GqaIdeal.Gen.frame m ρ,
  frame_GqaRef,
  fun m ρ _ => frame_GqaRef m ρ trivial,
  fun m ρ _ => Cert.Up.Gen.frame m ρ,
  fun m ρ _ => Cert.UpIdeal.Gen.frame m ρ,
  frame_UpRef,
  fun m ρ _ => Cert.Proj.Region.frame m ρ,
  fun m ρ _ => Cert.ProjIdeal.Region.frame m ρ,
  frame_ProjRef,
  fun m ρ _ => Cert.Merge.Gen.frame m ρ,
  fun m ρ _ => Cert.MergeIdeal.Gen.frame m ρ,
  frame_MergeRef,
  fun m ρ _ => Cert.Ffn.Gen.frame m ρ,
  fun m ρ _ => Cert.FfnIdeal.Gen.frame m ρ,
  frame_FfnRef,
  fun m ρ _ => Cert.Diff.Gen.frame m ρ,
  fun m ρ _ => Cert.DiffIdeal.Gen.frame m ρ,
  fun m ρ _ => Cert.DiffIdeal.Gen.frame m ρ,
  frame_DiffRef,
  fun m ρ _ => frame_DiffRef m ρ trivial,
  fun m ρ _ => Cert.Diff2.Gen.frame m ρ,
  fun m ρ _ => Cert.Diff2Ideal.Gen.frame m ρ,
  fun m ρ _ => Cert.Diff2Ideal.Gen.frame m ρ,
  frame_Diff2Ref,
  fun m ρ _ => frame_Diff2Ref m ρ trivial,
  fun m ρ _ => Cert.Ffn1.Gen.frame m ρ,
  fun m ρ _ => Cert.Ffn1Ideal.Gen.frame m ρ,
  frame_Ffn1Ref,
  named_Gqa, value_Gqa, trivial, value_Up, trivial, value_Proj, trivial, value_Merge, trivial, value_Ffn, named_Diff, value_Diff, named_Diff2, value_Diff2, trivial, value_Ffn1⟩

end Cert.Proof

end
